-- ==== Defs.lean ====
def Pre_Scores [hPre_scores_table_in_range : Cert.Pre_scores_table_in_range.Facts] (m : (ℓ : Loc Cert.Scores.nD Cert.Scores.τ Cert.Scores.sig) → Buf (Elt Bits) ℓ) : Prop :=
  ∀ c : Dev Cert.Scores.nD,
    (Cert.Pre_scores_table_in_range.fn (F := Bits) (m ((c.tc : Thread Cert.Scores.nD Cert.Scores.τ).loc Cert.Scores.main_arg0)) (m ((c.tc : Thread Cert.Scores.nD Cert.Scores.τ).loc Cert.Scores.main_arg1)) (m ((c.tc : Thread Cert.Scores.nD Cert.Scores.τ).loc Cert.Scores.main_arg2))) = (fun _ => 1#1)

def Pre_ScoresIdeal [hPre_scores_table_in_range : Cert.Pre_scores_table_in_range.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_scores_table_in_range.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2))) = (fun _ => 1#1)

def Pre_ScoresRefIdeal [hPre_scores_table_in_range : Cert.Pre_scores_table_in_range.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_scores_table_in_range.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2))) = (fun _ => 1#1)

def Pre_ProjPrompt (m : (ℓ : Loc Cert.ProjPrompt.nD Cert.ProjPrompt.τ Cert.ProjPrompt.sig) → Buf (Elt Bits) ℓ) : Prop :=
  True

def Pre_ProjPromptIdeal (m : (ℓ : Loc Cert.ProjPromptIdeal.nD Cert.ProjPromptIdeal.τ Cert.ProjPromptIdeal.sig) → Buf (Elt Ideal) ℓ) : Prop :=
  True

def Pre_ProjRefPromptIdeal (m : (ℓ : Loc Cert.ProjRefPromptIdeal.nD Cert.ProjRefPromptIdeal.τ Cert.ProjRefPromptIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjRefSampleIdeal (m : (ℓ : Loc Cert.ProjRefSampleIdeal.nD Cert.ProjRefSampleIdeal.τ Cert.ProjRefSampleIdeal.sig) → Buf (Elt Ideal) ℓ) : Prop :=
  True

def Pre_MergePrompt (m : (ℓ : Loc Cert.MergePrompt.nD Cert.MergePrompt.τ Cert.MergePrompt.sig) → Buf (Elt Bits) ℓ) : Prop :=
  True

def Pre_MergePromptIdeal (m : (ℓ : Loc Cert.MergePromptIdeal.nD Cert.MergePromptIdeal.τ Cert.MergePromptIdeal.sig) → Buf (Elt Ideal) ℓ) : Prop :=
  True

def Pre_MergeRefPromptIdeal (m : (ℓ : Loc Cert.MergeRefPromptIdeal.nD Cert.MergeRefPromptIdeal.τ Cert.MergeRefPromptIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeRefSampleIdeal (m : (ℓ : Loc Cert.MergeRefSampleIdeal.nD Cert.MergeRefSampleIdeal.τ Cert.MergeRefSampleIdeal.sig) → Buf (Elt Ideal) ℓ) : Prop :=
  True

def quiescent_Scores [hScores : Cert.Scores.Facts] [hPre_scores_table_in_range : Cert.Pre_scores_table_in_range.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] [hPre_scores_table_in_range : Cert.Pre_scores_table_in_range.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresRefIdeal [hScoresRefIdeal : Cert.ScoresRefIdeal.Facts] [hPre_scores_table_in_range : Cert.Pre_scores_table_in_range.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2))
      ∧ r.2.sem = fun _ => 0)

def quiescent_ProjPrompt [hProjPrompt : Cert.ProjPrompt.Facts] : Prop :=
  ∀ (m : (ℓ : Loc Cert.ProjPrompt.nD Cert.ProjPrompt.τ Cert.ProjPrompt.sig) → Buf (Elt Bits) ℓ) (g : Dev Cert.ProjPrompt.nD → PrngReg), Pre_ProjPrompt m →
    θ_run (Cert.ProjPrompt.defs (F := Bits)) (onTc (τ := Cert.ProjPrompt.τ) (Cert.ProjPrompt.main (F := Bits))) ⟨m, fun _ => 0, g⟩ (fun r => (∀ c : Dev Cert.ProjPrompt.nD,
      r.2.mem ((c.tc : Thread Cert.ProjPrompt.nD Cert.ProjPrompt.τ).loc Cert.ProjPrompt.main_arg0) = m ((c.tc : Thread Cert.ProjPrompt.nD Cert.ProjPrompt.τ).loc Cert.ProjPrompt.main_arg0)
      ∧ r.2.mem ((c.tc : Thread Cert.ProjPrompt.nD Cert.ProjPrompt.τ).loc Cert.ProjPrompt.main_arg1) = m ((c.tc : Thread Cert.ProjPrompt.nD Cert.ProjPrompt.τ).loc Cert.ProjPrompt.main_arg1)
      ∧ r.2.mem ((c.tc : Thread Cert.ProjPrompt.nD Cert.ProjPrompt.τ).loc Cert.ProjPrompt.main_arg2) = m ((c.tc : Thread Cert.ProjPrompt.nD Cert.ProjPrompt.τ).loc Cert.ProjPrompt.main_arg2)
      ∧ r.2.mem ((c.tc : Thread Cert.ProjPrompt.nD Cert.ProjPrompt.τ).loc Cert.ProjPrompt.main_arg3) = m ((c.tc : Thread Cert.ProjPrompt.nD Cert.ProjPrompt.τ).loc Cert.ProjPrompt.main_arg3)
      ∧ r.2.mem ((c.tc : Thread Cert.ProjPrompt.nD Cert.ProjPrompt.τ).loc Cert.ProjPrompt.main_arg4) = m ((c.tc : Thread Cert.ProjPrompt.nD Cert.ProjPrompt.τ).loc Cert.ProjPrompt.main_arg4))
      ∧ r.2.sem = fun _ => 0)

def quiescent_ProjPromptIdeal [hProjPromptIdeal : Cert.ProjPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg), Pre_ProjPromptIdeal m →
    θ_run (Cert.ProjPromptIdeal.defs (F := Ideal)) (onTc (τ := Cert.ProjPromptIdeal.τ) (Cert.ProjPromptIdeal.main (F := Ideal))) ⟨m, fun _ => 0, g⟩ (fun r => (∀ c : Dev Cert.ProjPromptIdeal.nD,
      r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
      ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
      ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2)
      ∧ r.2.mem ((c.tc : Thread Cert.ProjPromptIdeal.nD Cert.ProjPromptIdeal.τ).loc Cert.ProjPromptIdeal.main_arg3) = m ((c.tc : Thread Cert.ProjPromptIdeal.nD Cert.ProjPromptIdeal.τ).loc Cert.ProjPromptIdeal.main_arg3)
      ∧ r.2.mem ((c.tc : Thread Cert.ProjPromptIdeal.nD Cert.ProjPromptIdeal.τ).loc Cert.ProjPromptIdeal.main_arg4) = m ((c.tc : Thread Cert.ProjPromptIdeal.nD Cert.ProjPromptIdeal.τ).loc Cert.ProjPromptIdeal.main_arg4))
      ∧ r.2.sem = fun _ => 0)

def quiescent_ProjRefPromptIdeal [hProjRefPromptIdeal : Cert.ProjRefPromptIdeal.Facts] : Prop :=
  ∀ (m : (ℓ : Loc Cert.ProjRefPromptIdeal.nD Cert.ProjRefPromptIdeal.τ Cert.ProjRefPromptIdeal.sig) → Buf (Elt Ideal) ℓ) (g : Dev Cert.ProjRefPromptIdeal.nD → PrngReg), Pre_ProjRefPromptIdeal m →
    θ_run (Cert.ProjRefPromptIdeal.defs (F := Ideal)) (onTc (τ := Cert.ProjRefPromptIdeal.τ) (Cert.ProjRefPromptIdeal.main (F := Ideal))) ⟨m, fun _ => 0, g⟩ (fun r => (∀ c : Dev Cert.ProjRefPromptIdeal.nD,
      r.2.mem ((c.tc : Thread Cert.ProjRefPromptIdeal.nD Cert.ProjRefPromptIdeal.τ).loc Cert.ProjRefPromptIdeal.main_arg0) = m ((c.tc : Thread Cert.ProjRefPromptIdeal.nD Cert.ProjRefPromptIdeal.τ).loc Cert.ProjRefPromptIdeal.main_arg0)
      ∧ r.2.mem ((c.tc : Thread Cert.ProjRefPromptIdeal.nD Cert.ProjRefPromptIdeal.τ).loc Cert.ProjRefPromptIdeal.main_arg1) = m ((c.tc : Thread Cert.ProjRefPromptIdeal.nD Cert.ProjRefPromptIdeal.τ).loc Cert.ProjRefPromptIdeal.main_arg1)
      ∧ r.2.mem ((c.tc : Thread Cert.ProjRefPromptIdeal.nD Cert.ProjRefPromptIdeal.τ).loc Cert.ProjRefPromptIdeal.main_arg2) = m ((c.tc : Thread Cert.ProjRefPromptIdeal.nD Cert.ProjRefPromptIdeal.τ).loc Cert.ProjRefPromptIdeal.main_arg2)
      ∧ r.2.mem ((c.tc : Thread Cert.ProjRefPromptIdeal.nD Cert.ProjRefPromptIdeal.τ).loc Cert.ProjRefPromptIdeal.main_arg3) = m ((c.tc : Thread Cert.ProjRefPromptIdeal.nD Cert.ProjRefPromptIdeal.τ).loc Cert.ProjRefPromptIdeal.main_arg3)
      ∧ r.2.mem ((c.tc : Thread Cert.ProjRefPromptIdeal.nD Cert.ProjRefPromptIdeal.τ).loc Cert.ProjRefPromptIdeal.main_arg4) = m ((c.tc : Thread Cert.ProjRefPromptIdeal.nD Cert.ProjRefPromptIdeal.τ).loc Cert.ProjRefPromptIdeal.main_arg4))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ r.2.sem = fun _ => 0)

def quiescent_ProjRefSampleIdeal [hProjRefSampleIdeal : Cert.ProjRefSampleIdeal.Facts] : Prop :=
  ∀ (m : (ℓ : Loc Cert.ProjRefSampleIdeal.nD Cert.ProjRefSampleIdeal.τ Cert.ProjRefSampleIdeal.sig) → Buf (Elt Ideal) ℓ) (g : Dev Cert.ProjRefSampleIdeal.nD → PrngReg), Pre_ProjRefSampleIdeal m →
    θ_run (Cert.ProjRefSampleIdeal.defs (F := Ideal)) (onTc (τ := Cert.ProjRefSampleIdeal.τ) (Cert.ProjRefSampleIdeal.main (F := Ideal))) ⟨m, fun _ => 0, g⟩ (fun r => (∀ c : Dev Cert.ProjRefSampleIdeal.nD,
      r.2.mem ((c.tc : Thread Cert.ProjRefSampleIdeal.nD Cert.ProjRefSampleIdeal.τ).loc Cert.ProjRefSampleIdeal.main_arg0) = m ((c.tc : Thread Cert.ProjRefSampleIdeal.nD Cert.ProjRefSampleIdeal.τ).loc Cert.ProjRefSampleIdeal.main_arg0)
      ∧ r.2.mem ((c.tc : Thread Cert.ProjRefSampleIdeal.nD Cert.ProjRefSampleIdeal.τ).loc Cert.ProjRefSampleIdeal.main_arg1) = m ((c.tc : Thread Cert.ProjRefSampleIdeal.nD Cert.ProjRefSampleIdeal.τ).loc Cert.ProjRefSampleIdeal.main_arg1)
      ∧ r.2.mem ((c.tc : Thread Cert.ProjRefSampleIdeal.nD Cert.ProjRefSampleIdeal.τ).loc Cert.ProjRefSampleIdeal.main_arg2) = m ((c.tc : Thread Cert.ProjRefSampleIdeal.nD Cert.ProjRefSampleIdeal.τ).loc Cert.ProjRefSampleIdeal.main_arg2)
      ∧ r.2.mem ((c.tc : Thread Cert.ProjRefSampleIdeal.nD Cert.ProjRefSampleIdeal.τ).loc Cert.ProjRefSampleIdeal.main_arg3) = m ((c.tc : Thread Cert.ProjRefSampleIdeal.nD Cert.ProjRefSampleIdeal.τ).loc Cert.ProjRefSampleIdeal.main_arg3)
      ∧ r.2.mem ((c.tc : Thread Cert.ProjRefSampleIdeal.nD Cert.ProjRefSampleIdeal.τ).loc Cert.ProjRefSampleIdeal.main_arg4) = m ((c.tc : Thread Cert.ProjRefSampleIdeal.nD Cert.ProjRefSampleIdeal.τ).loc Cert.ProjRefSampleIdeal.main_arg4))
      ∧ r.2.sem = fun _ => 0)

def quiescent_MergePrompt [hMergePrompt : Cert.MergePrompt.Facts] : Prop :=
  ∀ (m : (ℓ : Loc Cert.MergePrompt.nD Cert.MergePrompt.τ Cert.MergePrompt.sig) → Buf (Elt Bits) ℓ) (g : Dev Cert.MergePrompt.nD → PrngReg), Pre_MergePrompt m →
    θ_run (Cert.MergePrompt.defs (F := Bits)) (onTc (τ := Cert.MergePrompt.τ) (Cert.MergePrompt.main (F := Bits))) ⟨m, fun _ => 0, g⟩ (fun r => (∀ c : Dev Cert.MergePrompt.nD,
      r.2.mem ((c.tc : Thread Cert.MergePrompt.nD Cert.MergePrompt.τ).loc Cert.MergePrompt.main_arg0) = m ((c.tc : Thread Cert.MergePrompt.nD Cert.MergePrompt.τ).loc Cert.MergePrompt.main_arg0)
      ∧ r.2.mem ((c.tc : Thread Cert.MergePrompt.nD Cert.MergePrompt.τ).loc Cert.MergePrompt.main_arg1) = m ((c.tc : Thread Cert.MergePrompt.nD Cert.MergePrompt.τ).loc Cert.MergePrompt.main_arg1)
      ∧ r.2.mem ((c.tc : Thread Cert.MergePrompt.nD Cert.MergePrompt.τ).loc Cert.MergePrompt.main_arg2) = m ((c.tc : Thread Cert.MergePrompt.nD Cert.MergePrompt.τ).loc Cert.MergePrompt.main_arg2)
      ∧ r.2.mem ((c.tc : Thread Cert.MergePrompt.nD Cert.MergePrompt.τ).loc Cert.MergePrompt.main_arg3) = m ((c.tc : Thread Cert.MergePrompt.nD Cert.MergePrompt.τ).loc Cert.MergePrompt.main_arg3)
      ∧ r.2.mem ((c.tc : Thread Cert.MergePrompt.nD Cert.MergePrompt.τ).loc Cert.MergePrompt.main_arg4) = m ((c.tc : Thread Cert.MergePrompt.nD Cert.MergePrompt.τ).loc Cert.MergePrompt.main_arg4)
      ∧ r.2.mem ((c.tc : Thread Cert.MergePrompt.nD Cert.MergePrompt.τ).loc Cert.MergePrompt.main_arg5) = m ((c.tc : Thread Cert.MergePrompt.nD Cert.MergePrompt.τ).loc Cert.MergePrompt.main_arg5)
      ∧ r.2.mem ((c.tc : Thread Cert.MergePrompt.nD Cert.MergePrompt.τ).loc Cert.MergePrompt.main_arg6) = m ((c.tc : Thread Cert.MergePrompt.nD Cert.MergePrompt.τ).loc Cert.MergePrompt.main_arg6)
      ∧ r.2.mem ((c.tc : Thread Cert.MergePrompt.nD Cert.MergePrompt.τ).loc Cert.MergePrompt.main_arg7) = m ((c.tc : Thread Cert.MergePrompt.nD Cert.MergePrompt.τ).loc Cert.MergePrompt.main_arg7))
      ∧ r.2.sem = fun _ => 0)

def quiescent_MergePromptIdeal [hMergePromptIdeal : Cert.MergePromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg), Pre_MergePromptIdeal m →
    θ_run (Cert.MergePromptIdeal.defs (F := Ideal)) (onTc (τ := Cert.MergePromptIdeal.τ) (Cert.MergePromptIdeal.main (F := Ideal))) ⟨m, fun _ => 0, g⟩ (fun r => (∀ c : Dev Cert.MergePromptIdeal.nD,
      r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
      ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
      ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
      ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
      ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
      ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
      ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
      ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7))
      ∧ r.2.sem = fun _ => 0)

def quiescent_MergeRefPromptIdeal [hMergeRefPromptIdeal : Cert.MergeRefPromptIdeal.Facts] : Prop :=
  ∀ (m : (ℓ : Loc Cert.MergeRefPromptIdeal.nD Cert.MergeRefPromptIdeal.τ Cert.MergeRefPromptIdeal.sig) → Buf (Elt Ideal) ℓ) (g : Dev Cert.MergeRefPromptIdeal.nD → PrngReg), Pre_MergeRefPromptIdeal m →
    θ_run (Cert.MergeRefPromptIdeal.defs (F := Ideal)) (onTc (τ := Cert.MergeRefPromptIdeal.τ) (Cert.MergeRefPromptIdeal.main (F := Ideal))) ⟨m, fun _ => 0, g⟩ (fun r => (∀ c : Dev Cert.MergeRefPromptIdeal.nD,
      r.2.mem ((c.tc : Thread Cert.MergeRefPromptIdeal.nD Cert.MergeRefPromptIdeal.τ).loc Cert.MergeRefPromptIdeal.main_arg0) = m ((c.tc : Thread Cert.MergeRefPromptIdeal.nD Cert.MergeRefPromptIdeal.τ).loc Cert.MergeRefPromptIdeal.main_arg0)
      ∧ r.2.mem ((c.tc : Thread Cert.MergeRefPromptIdeal.nD Cert.MergeRefPromptIdeal.τ).loc Cert.MergeRefPromptIdeal.main_arg1) = m ((c.tc : Thread Cert.MergeRefPromptIdeal.nD Cert.MergeRefPromptIdeal.τ).loc Cert.MergeRefPromptIdeal.main_arg1)
      ∧ r.2.mem ((c.tc : Thread Cert.MergeRefPromptIdeal.nD Cert.MergeRefPromptIdeal.τ).loc Cert.MergeRefPromptIdeal.main_arg2) = m ((c.tc : Thread Cert.MergeRefPromptIdeal.nD Cert.MergeRefPromptIdeal.τ).loc Cert.MergeRefPromptIdeal.main_arg2)
      ∧ r.2.mem ((c.tc : Thread Cert.MergeRefPromptIdeal.nD Cert.MergeRefPromptIdeal.τ).loc Cert.MergeRefPromptIdeal.main_arg3) = m ((c.tc : Thread Cert.MergeRefPromptIdeal.nD Cert.MergeRefPromptIdeal.τ).loc Cert.MergeRefPromptIdeal.main_arg3)
      ∧ r.2.mem ((c.tc : Thread Cert.MergeRefPromptIdeal.nD Cert.MergeRefPromptIdeal.τ).loc Cert.MergeRefPromptIdeal.main_arg4) = m ((c.tc : Thread Cert.MergeRefPromptIdeal.nD Cert.MergeRefPromptIdeal.τ).loc Cert.MergeRefPromptIdeal.main_arg4)
      ∧ r.2.mem ((c.tc : Thread Cert.MergeRefPromptIdeal.nD Cert.MergeRefPromptIdeal.τ).loc Cert.MergeRefPromptIdeal.main_arg5) = m ((c.tc : Thread Cert.MergeRefPromptIdeal.nD Cert.MergeRefPromptIdeal.τ).loc Cert.MergeRefPromptIdeal.main_arg5)
      ∧ r.2.mem ((c.tc : Thread Cert.MergeRefPromptIdeal.nD Cert.MergeRefPromptIdeal.τ).loc Cert.MergeRefPromptIdeal.main_arg6) = m ((c.tc : Thread Cert.MergeRefPromptIdeal.nD Cert.MergeRefPromptIdeal.τ).loc Cert.MergeRefPromptIdeal.main_arg6)
      ∧ r.2.mem ((c.tc : Thread Cert.MergeRefPromptIdeal.nD Cert.MergeRefPromptIdeal.τ).loc Cert.MergeRefPromptIdeal.main_arg7) = m ((c.tc : Thread Cert.MergeRefPromptIdeal.nD Cert.MergeRefPromptIdeal.τ).loc Cert.MergeRefPromptIdeal.main_arg7))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ r.2.sem = fun _ => 0)

def quiescent_MergeRefSampleIdeal [hMergeRefSampleIdeal : Cert.MergeRefSampleIdeal.Facts] : Prop :=
  ∀ (m : (ℓ : Loc Cert.MergeRefSampleIdeal.nD Cert.MergeRefSampleIdeal.τ Cert.MergeRefSampleIdeal.sig) → Buf (Elt Ideal) ℓ) (g : Dev Cert.MergeRefSampleIdeal.nD → PrngReg), Pre_MergeRefSampleIdeal m →
    θ_run (Cert.MergeRefSampleIdeal.defs (F := Ideal)) (onTc (τ := Cert.MergeRefSampleIdeal.τ) (Cert.MergeRefSampleIdeal.main (F := Ideal))) ⟨m, fun _ => 0, g⟩ (fun r => (∀ c : Dev Cert.MergeRefSampleIdeal.nD,
      r.2.mem ((c.tc : Thread Cert.MergeRefSampleIdeal.nD Cert.MergeRefSampleIdeal.τ).loc Cert.MergeRefSampleIdeal.main_arg0) = m ((c.tc : Thread Cert.MergeRefSampleIdeal.nD Cert.MergeRefSampleIdeal.τ).loc Cert.MergeRefSampleIdeal.main_arg0)
      ∧ r.2.mem ((c.tc : Thread Cert.MergeRefSampleIdeal.nD Cert.MergeRefSampleIdeal.τ).loc Cert.MergeRefSampleIdeal.main_arg1) = m ((c.tc : Thread Cert.MergeRefSampleIdeal.nD Cert.MergeRefSampleIdeal.τ).loc Cert.MergeRefSampleIdeal.main_arg1)
      ∧ r.2.mem ((c.tc : Thread Cert.MergeRefSampleIdeal.nD Cert.MergeRefSampleIdeal.τ).loc Cert.MergeRefSampleIdeal.main_arg2) = m ((c.tc : Thread Cert.MergeRefSampleIdeal.nD Cert.MergeRefSampleIdeal.τ).loc Cert.MergeRefSampleIdeal.main_arg2)
      ∧ r.2.mem ((c.tc : Thread Cert.MergeRefSampleIdeal.nD Cert.MergeRefSampleIdeal.τ).loc Cert.MergeRefSampleIdeal.main_arg3) = m ((c.tc : Thread Cert.MergeRefSampleIdeal.nD Cert.MergeRefSampleIdeal.τ).loc Cert.MergeRefSampleIdeal.main_arg3)
      ∧ r.2.mem ((c.tc : Thread Cert.MergeRefSampleIdeal.nD Cert.MergeRefSampleIdeal.τ).loc Cert.MergeRefSampleIdeal.main_arg4) = m ((c.tc : Thread Cert.MergeRefSampleIdeal.nD Cert.MergeRefSampleIdeal.τ).loc Cert.MergeRefSampleIdeal.main_arg4)
      ∧ r.2.mem ((c.tc : Thread Cert.MergeRefSampleIdeal.nD Cert.MergeRefSampleIdeal.τ).loc Cert.MergeRefSampleIdeal.main_arg5) = m ((c.tc : Thread Cert.MergeRefSampleIdeal.nD Cert.MergeRefSampleIdeal.τ).loc Cert.MergeRefSampleIdeal.main_arg5)
      ∧ r.2.mem ((c.tc : Thread Cert.MergeRefSampleIdeal.nD Cert.MergeRefSampleIdeal.τ).loc Cert.MergeRefSampleIdeal.main_arg6) = m ((c.tc : Thread Cert.MergeRefSampleIdeal.nD Cert.MergeRefSampleIdeal.τ).loc Cert.MergeRefSampleIdeal.main_arg6)
      ∧ r.2.mem ((c.tc : Thread Cert.MergeRefSampleIdeal.nD Cert.MergeRefSampleIdeal.τ).loc Cert.MergeRefSampleIdeal.main_arg7) = m ((c.tc : Thread Cert.MergeRefSampleIdeal.nD Cert.MergeRefSampleIdeal.τ).loc Cert.MergeRefSampleIdeal.main_arg7))
      ∧ r.2.sem = fun _ => 0)

def preserves_Scores_ScoresIdeal : Prop :=
  True

def algebraic_ScoresIdeal_ScoresRefIdeal [hScoresIdeal : Cert.ScoresIdeal.Facts] [hScoresRefIdeal : Cert.ScoresRefIdeal.Facts] [hPre_scores_table_in_range : Cert.Pre_scores_table_in_range.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v6)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v6) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v34) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2))

def preserves_ProjPrompt_ProjPromptIdeal : Prop :=
  True

def algebraic_ProjPromptIdeal_ProjRefPromptIdeal [hProjPromptIdeal : Cert.ProjPromptIdeal.Facts] [hProjRefPromptIdeal : Cert.ProjRefPromptIdeal.Facts] : Prop :=
  ∀ (m : (ℓ : Loc Cert.ProjPromptIdeal.nD Cert.ProjPromptIdeal.τ Cert.ProjPromptIdeal.sig) → Buf (Elt Ideal) ℓ) (g : Dev Cert.ProjPromptIdeal.nD → PrngReg)
    (m' : (ℓ : Loc Cert.ProjRefPromptIdeal.nD Cert.ProjRefPromptIdeal.τ Cert.ProjRefPromptIdeal.sig) → Buf (Elt Ideal) ℓ) (g' : Dev Cert.ProjRefPromptIdeal.nD → PrngReg), Pre_ProjPromptIdeal m →
    (∀ c : Dev Cert.ProjPromptIdeal.nD,
      m' ((c.tc : Thread Cert.ProjRefPromptIdeal.nD Cert.ProjRefPromptIdeal.τ).loc Cert.ProjRefPromptIdeal.main_arg0) = m ((c.tc : Thread Cert.ProjPromptIdeal.nD Cert.ProjPromptIdeal.τ).loc Cert.ProjPromptIdeal.main_arg0)
      ∧ m' ((c.tc : Thread Cert.ProjRefPromptIdeal.nD Cert.ProjRefPromptIdeal.τ).loc Cert.ProjRefPromptIdeal.main_arg1) = m ((c.tc : Thread Cert.ProjPromptIdeal.nD Cert.ProjPromptIdeal.τ).loc Cert.ProjPromptIdeal.main_arg1)
      ∧ m' ((c.tc : Thread Cert.ProjRefPromptIdeal.nD Cert.ProjRefPromptIdeal.τ).loc Cert.ProjRefPromptIdeal.main_arg2) = m ((c.tc : Thread Cert.ProjPromptIdeal.nD Cert.ProjPromptIdeal.τ).loc Cert.ProjPromptIdeal.main_arg2)
      ∧ m' ((c.tc : Thread Cert.ProjRefPromptIdeal.nD Cert.ProjRefPromptIdeal.τ).loc Cert.ProjRefPromptIdeal.main_arg3) = m ((c.tc : Thread Cert.ProjPromptIdeal.nD Cert.ProjPromptIdeal.τ).loc Cert.ProjPromptIdeal.main_arg3)
      ∧ m' ((c.tc : Thread Cert.ProjRefPromptIdeal.nD Cert.ProjRefPromptIdeal.τ).loc Cert.ProjRefPromptIdeal.main_arg4) = m ((c.tc : Thread Cert.ProjPromptIdeal.nD Cert.ProjPromptIdeal.τ).loc Cert.ProjPromptIdeal.main_arg4)) →
    ∃ (v0 : (c : Dev Cert.ProjPromptIdeal.nD) → Buf (Elt Ideal) ((c.tc : Thread Cert.ProjPromptIdeal.nD Cert.ProjPromptIdeal.τ).loc Cert.ProjPromptIdeal.main_v42)) (v1 : (c : Dev Cert.ProjPromptIdeal.nD) → Buf (Elt Ideal) ((c.tc : Thread Cert.ProjPromptIdeal.nD Cert.ProjPromptIdeal.τ).loc Cert.ProjPromptIdeal.main_v43)) (v2 : (c : Dev Cert.ProjPromptIdeal.nD) → Buf (Elt Ideal) ((c.tc : Thread Cert.ProjPromptIdeal.nD Cert.ProjPromptIdeal.τ).loc Cert.ProjPromptIdeal.main_v44)) (v3 : (c : Dev Cert.ProjPromptIdeal.nD) → Buf (Elt Ideal) ((c.tc : Thread Cert.ProjPromptIdeal.nD Cert.ProjPromptIdeal.τ).loc Cert.ProjPromptIdeal.main_v47)) (v4 : (c : Dev Cert.ProjPromptIdeal.nD) → Buf (Elt Ideal) ((c.tc : Thread Cert.ProjPromptIdeal.nD Cert.ProjPromptIdeal.τ).loc Cert.ProjPromptIdeal.main_v41)) (v5 : (c : Dev Cert.ProjPromptIdeal.nD) → Buf (Elt Ideal) ((c.tc : Thread Cert.ProjPromptIdeal.nD Cert.ProjPromptIdeal.τ).loc Cert.ProjPromptIdeal.main_v49)) (v6 : (c : Dev Cert.ProjPromptIdeal.nD) → Buf (Elt Ideal) ((c.tc : Thread Cert.ProjPromptIdeal.nD Cert.ProjPromptIdeal.τ).loc Cert.ProjPromptIdeal.main_v51)) (v7 : (c : Dev Cert.ProjPromptIdeal.nD) → Buf (Elt Ideal) ((c.tc : Thread Cert.ProjPromptIdeal.nD Cert.ProjPromptIdeal.τ).loc Cert.ProjPromptIdeal.main_v53)) (v8 : (c : Dev Cert.ProjPromptIdeal.nD) → Buf (Elt Ideal) ((c.tc : Thread Cert.ProjPromptIdeal.nD Cert.ProjPromptIdeal.τ).loc Cert.ProjPromptIdeal.main_v55)),
      θ_run (Cert.ProjPromptIdeal.defs (F := Ideal)) (onTc (τ := Cert.ProjPromptIdeal.τ) (Cert.ProjPromptIdeal.main (F := Ideal))) ⟨m, fun _ => 0, g⟩ (fun r => ∀ c : Dev Cert.ProjPromptIdeal.nD,
          r.2.mem ((c.tc : Thread Cert.ProjPromptIdeal.nD Cert.ProjPromptIdeal.τ).loc Cert.ProjPromptIdeal.main_v42) = v0 c
          ∧ r.2.mem ((c.tc : Thread Cert.ProjPromptIdeal.nD Cert.ProjPromptIdeal.τ).loc Cert.ProjPromptIdeal.main_v43) = v1 c
          ∧ r.2.mem ((c.tc : Thread Cert.ProjPromptIdeal.nD Cert.ProjPromptIdeal.τ).loc Cert.ProjPromptIdeal.main_v44) = v2 c
          ∧ r.2.mem ((c.tc : Thread Cert.ProjPromptIdeal.nD Cert.ProjPromptIdeal.τ).loc Cert.ProjPromptIdeal.main_v47) = v3 c
          ∧ r.2.mem ((c.tc : Thread Cert.ProjPromptIdeal.nD Cert.ProjPromptIdeal.τ).loc Cert.ProjPromptIdeal.main_v41) = v4 c
          ∧ r.2.mem ((c.tc : Thread Cert.ProjPromptIdeal.nD Cert.ProjPromptIdeal.τ).loc Cert.ProjPromptIdeal.main_v49) = v5 c
          ∧ r.2.mem ((c.tc : Thread Cert.ProjPromptIdeal.nD Cert.ProjPromptIdeal.τ).loc Cert.ProjPromptIdeal.main_v51) = v6 c
          ∧ r.2.mem ((c.tc : Thread Cert.ProjPromptIdeal.nD Cert.ProjPromptIdeal.τ).loc Cert.ProjPromptIdeal.main_v53) = v7 c
          ∧ r.2.mem ((c.tc : Thread Cert.ProjPromptIdeal.nD Cert.ProjPromptIdeal.τ).loc Cert.ProjPromptIdeal.main_v55) = v8 c
          ∧ r.2.mem ((c.tc : Thread Cert.ProjPromptIdeal.nD Cert.ProjPromptIdeal.τ).loc Cert.ProjPromptIdeal.main_arg0) = m ((c.tc : Thread Cert.ProjPromptIdeal.nD Cert.ProjPromptIdeal.τ).loc Cert.ProjPromptIdeal.main_arg0)
          ∧ r.2.mem ((c.tc : Thread Cert.ProjPromptIdeal.nD Cert.ProjPromptIdeal.τ).loc Cert.ProjPromptIdeal.main_arg1) = m ((c.tc : Thread Cert.ProjPromptIdeal.nD Cert.ProjPromptIdeal.τ).loc Cert.ProjPromptIdeal.main_arg1)
          ∧ r.2.mem ((c.tc : Thread Cert.ProjPromptIdeal.nD Cert.ProjPromptIdeal.τ).loc Cert.ProjPromptIdeal.main_arg2) = m ((c.tc : Thread Cert.ProjPromptIdeal.nD Cert.ProjPromptIdeal.τ).loc Cert.ProjPromptIdeal.main_arg2)
          ∧ r.2.mem ((c.tc : Thread Cert.ProjPromptIdeal.nD Cert.ProjPromptIdeal.τ).loc Cert.ProjPromptIdeal.main_arg3) = m ((c.tc : Thread Cert.ProjPromptIdeal.nD Cert.ProjPromptIdeal.τ).loc Cert.ProjPromptIdeal.main_arg3)
          ∧ r.2.mem ((c.tc : Thread Cert.ProjPromptIdeal.nD Cert.ProjPromptIdeal.τ).loc Cert.ProjPromptIdeal.main_arg4) = m ((c.tc : Thread Cert.ProjPromptIdeal.nD Cert.ProjPromptIdeal.τ).loc Cert.ProjPromptIdeal.main_arg4))
      ∧ θ_run (Cert.ProjRefPromptIdeal.defs (F := Ideal)) (onTc (τ := Cert.ProjRefPromptIdeal.τ) (Cert.ProjRefPromptIdeal.main (F := Ideal))) ⟨m', fun _ => 0, g'⟩ (fun r => ∀ c : Dev Cert.ProjRefPromptIdeal.nD,
          r.2.mem ((c.tc : Thread Cert.ProjRefPromptIdeal.nD Cert.ProjRefPromptIdeal.τ).loc Cert.ProjRefPromptIdeal.main_v39) = v0 c
          ∧ r.2.mem ((c.tc : Thread Cert.ProjRefPromptIdeal.nD Cert.ProjRefPromptIdeal.τ).loc Cert.ProjRefPromptIdeal.main_v41) = v1 c
          ∧ r.2.mem ((c.tc : Thread Cert.ProjRefPromptIdeal.nD Cert.ProjRefPromptIdeal.τ).loc Cert.ProjRefPromptIdeal.main_v42) = v2 c
          ∧ r.2.mem ((c.tc : Thread Cert.ProjRefPromptIdeal.nD Cert.ProjRefPromptIdeal.τ).loc Cert.ProjRefPromptIdeal.main_v45) = v3 c
          ∧ r.2.mem ((c.tc : Thread Cert.ProjRefPromptIdeal.nD Cert.ProjRefPromptIdeal.τ).loc Cert.ProjRefPromptIdeal.main_v16) = v4 c
          ∧ r.2.mem ((c.tc : Thread Cert.ProjRefPromptIdeal.nD Cert.ProjRefPromptIdeal.τ).loc Cert.ProjRefPromptIdeal.main_v17) = v5 c
          ∧ r.2.mem ((c.tc : Thread Cert.ProjRefPromptIdeal.nD Cert.ProjRefPromptIdeal.τ).loc Cert.ProjRefPromptIdeal.main_v20) = v6 c
          ∧ r.2.mem ((c.tc : Thread Cert.ProjRefPromptIdeal.nD Cert.ProjRefPromptIdeal.τ).loc Cert.ProjRefPromptIdeal.main_v22) = v7 c
          ∧ r.2.mem ((c.tc : Thread Cert.ProjRefPromptIdeal.nD Cert.ProjRefPromptIdeal.τ).loc Cert.ProjRefPromptIdeal.main_v23) = v8 c
          ∧ r.2.mem ((c.tc : Thread Cert.ProjRefPromptIdeal.nD Cert.ProjRefPromptIdeal.τ).loc Cert.ProjRefPromptIdeal.main_arg0) = m' ((c.tc : Thread Cert.ProjRefPromptIdeal.nD Cert.ProjRefPromptIdeal.τ).loc Cert.ProjRefPromptIdeal.main_arg0)
          ∧ r.2.mem ((c.tc : Thread Cert.ProjRefPromptIdeal.nD Cert.ProjRefPromptIdeal.τ).loc Cert.ProjRefPromptIdeal.main_arg1) = m' ((c.tc : Thread Cert.ProjRefPromptIdeal.nD Cert.ProjRefPromptIdeal.τ).loc Cert.ProjRefPromptIdeal.main_arg1)
          ∧ r.2.mem ((c.tc : Thread Cert.ProjRefPromptIdeal.nD Cert.ProjRefPromptIdeal.τ).loc Cert.ProjRefPromptIdeal.main_arg2) = m' ((c.tc : Thread Cert.ProjRefPromptIdeal.nD Cert.ProjRefPromptIdeal.τ).loc Cert.ProjRefPromptIdeal.main_arg2)
          ∧ r.2.mem ((c.tc : Thread Cert.ProjRefPromptIdeal.nD Cert.ProjRefPromptIdeal.τ).loc Cert.ProjRefPromptIdeal.main_arg3) = m' ((c.tc : Thread Cert.ProjRefPromptIdeal.nD Cert.ProjRefPromptIdeal.τ).loc Cert.ProjRefPromptIdeal.main_arg3)
          ∧ r.2.mem ((c.tc : Thread Cert.ProjRefPromptIdeal.nD Cert.ProjRefPromptIdeal.τ).loc Cert.ProjRefPromptIdeal.main_arg4) = m' ((c.tc : Thread Cert.ProjRefPromptIdeal.nD Cert.ProjRefPromptIdeal.τ).loc Cert.ProjRefPromptIdeal.main_arg4))

def preserves_ProjSample_ProjSampleIdeal : Prop :=
  True

def algebraic_ProjSampleIdeal_ProjRefSampleIdeal [hProjSampleIdeal : Cert.ProjSampleIdeal.Facts] [hProjRefSampleIdeal : Cert.ProjRefSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjRefSampleIdeal.nD Cert.ProjRefSampleIdeal.τ Cert.ProjRefSampleIdeal.sig) → Buf (Elt Ideal) ℓ) (g' : Dev Cert.ProjRefSampleIdeal.nD → PrngReg), Pre_ProjSampleIdeal m →
    (∀ c : Dev Cert.ProjSampleIdeal.nD,
      m' ((c.tc : Thread Cert.ProjRefSampleIdeal.nD Cert.ProjRefSampleIdeal.τ).loc Cert.ProjRefSampleIdeal.main_arg0) = m ((c.tc : Thread Cert.ProjSampleIdeal.nD Cert.ProjSampleIdeal.τ).loc Cert.ProjSampleIdeal.main_arg0)
      ∧ m' ((c.tc : Thread Cert.ProjRefSampleIdeal.nD Cert.ProjRefSampleIdeal.τ).loc Cert.ProjRefSampleIdeal.main_arg1) = m ((c.tc : Thread Cert.ProjSampleIdeal.nD Cert.ProjSampleIdeal.τ).loc Cert.ProjSampleIdeal.main_arg1)
      ∧ m' ((c.tc : Thread Cert.ProjRefSampleIdeal.nD Cert.ProjRefSampleIdeal.τ).loc Cert.ProjRefSampleIdeal.main_arg2) = m ((c.tc : Thread Cert.ProjSampleIdeal.nD Cert.ProjSampleIdeal.τ).loc Cert.ProjSampleIdeal.main_arg2)
      ∧ m' ((c.tc : Thread Cert.ProjRefSampleIdeal.nD Cert.ProjRefSampleIdeal.τ).loc Cert.ProjRefSampleIdeal.main_arg3) = m ((c.tc : Thread Cert.ProjSampleIdeal.nD Cert.ProjSampleIdeal.τ).loc Cert.ProjSampleIdeal.main_arg3)
      ∧ m' ((c.tc : Thread Cert.ProjRefSampleIdeal.nD Cert.ProjRefSampleIdeal.τ).loc Cert.ProjRefSampleIdeal.main_arg4) = m ((c.tc : Thread Cert.ProjSampleIdeal.nD Cert.ProjSampleIdeal.τ).loc Cert.ProjSampleIdeal.main_arg4)) →
    ∃ (v0 : (c : Dev Cert.ProjSampleIdeal.nD) → Buf (Elt Ideal) ((c.tc : Thread Cert.ProjSampleIdeal.nD Cert.ProjSampleIdeal.τ).loc Cert.ProjSampleIdeal.main_v42)) (v1 : (c : Dev Cert.ProjSampleIdeal.nD) → Buf (Elt Ideal) ((c.tc : Thread Cert.ProjSampleIdeal.nD Cert.ProjSampleIdeal.τ).loc Cert.ProjSampleIdeal.main_v43)) (v2 : (c : Dev Cert.ProjSampleIdeal.nD) → Buf (Elt Ideal) ((c.tc : Thread Cert.ProjSampleIdeal.nD Cert.ProjSampleIdeal.τ).loc Cert.ProjSampleIdeal.main_v44)) (v3 : (c : Dev Cert.ProjSampleIdeal.nD) → Buf (Elt Ideal) ((c.tc : Thread Cert.ProjSampleIdeal.nD Cert.ProjSampleIdeal.τ).loc Cert.ProjSampleIdeal.main_v47)) (v4 : (c : Dev Cert.ProjSampleIdeal.nD) → Buf (Elt Ideal) ((c.tc : Thread Cert.ProjSampleIdeal.nD Cert.ProjSampleIdeal.τ).loc Cert.ProjSampleIdeal.main_v41)) (v5 : (c : Dev Cert.ProjSampleIdeal.nD) → Buf (Elt Ideal) ((c.tc : Thread Cert.ProjSampleIdeal.nD Cert.ProjSampleIdeal.τ).loc Cert.ProjSampleIdeal.main_v49)) (v6 : (c : Dev Cert.ProjSampleIdeal.nD) → Buf (Elt Ideal) ((c.tc : Thread Cert.ProjSampleIdeal.nD Cert.ProjSampleIdeal.τ).loc Cert.ProjSampleIdeal.main_v51)) (v7 : (c : Dev Cert.ProjSampleIdeal.nD) → Buf (Elt Ideal) ((c.tc : Thread Cert.ProjSampleIdeal.nD Cert.ProjSampleIdeal.τ).loc Cert.ProjSampleIdeal.main_v53)) (v8 : (c : Dev Cert.ProjSampleIdeal.nD) → Buf (Elt Ideal) ((c.tc : Thread Cert.ProjSampleIdeal.nD Cert.ProjSampleIdeal.τ).loc Cert.ProjSampleIdeal.main_v55)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v42) = v0 c
          ∧ r.2.mem ((c.tc : Thread Cert.ProjSampleIdeal.nD Cert.ProjSampleIdeal.τ).loc Cert.ProjSampleIdeal.main_v43) = v1 c
          ∧ r.2.mem ((c.tc : Thread Cert.ProjSampleIdeal.nD Cert.ProjSampleIdeal.τ).loc Cert.ProjSampleIdeal.main_v44) = v2 c
          ∧ r.2.mem ((c.tc : Thread Cert.ProjSampleIdeal.nD Cert.ProjSampleIdeal.τ).loc Cert.ProjSampleIdeal.main_v47) = v3 c
          ∧ r.2.mem ((c.tc : Thread Cert.ProjSampleIdeal.nD Cert.ProjSampleIdeal.τ).loc Cert.ProjSampleIdeal.main_v41) = v4 c
          ∧ r.2.mem ((c.tc : Thread Cert.ProjSampleIdeal.nD Cert.ProjSampleIdeal.τ).loc Cert.ProjSampleIdeal.main_v49) = v5 c
          ∧ r.2.mem ((c.tc : Thread Cert.ProjSampleIdeal.nD Cert.ProjSampleIdeal.τ).loc Cert.ProjSampleIdeal.main_v51) = v6 c
          ∧ r.2.mem ((c.tc : Thread Cert.ProjSampleIdeal.nD Cert.ProjSampleIdeal.τ).loc Cert.ProjSampleIdeal.main_v53) = v7 c
          ∧ r.2.mem ((c.tc : Thread Cert.ProjSampleIdeal.nD Cert.ProjSampleIdeal.τ).loc Cert.ProjSampleIdeal.main_v55) = v8 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ θ_run (Cert.ProjRefSampleIdeal.defs (F := Ideal)) (onTc (τ := Cert.ProjRefSampleIdeal.τ) (Cert.ProjRefSampleIdeal.main (F := Ideal))) ⟨m', fun _ => 0, g'⟩ (fun r => ∀ c : Dev Cert.ProjRefSampleIdeal.nD,
          r.2.mem ((c.tc : Thread Cert.ProjRefSampleIdeal.nD Cert.ProjRefSampleIdeal.τ).loc Cert.ProjRefSampleIdeal.main_v39) = v0 c
          ∧ r.2.mem ((c.tc : Thread Cert.ProjRefSampleIdeal.nD Cert.ProjRefSampleIdeal.τ).loc Cert.ProjRefSampleIdeal.main_v41) = v1 c
          ∧ r.2.mem ((c.tc : Thread Cert.ProjRefSampleIdeal.nD Cert.ProjRefSampleIdeal.τ).loc Cert.ProjRefSampleIdeal.main_v42) = v2 c
          ∧ r.2.mem ((c.tc : Thread Cert.ProjRefSampleIdeal.nD Cert.ProjRefSampleIdeal.τ).loc Cert.ProjRefSampleIdeal.main_v45) = v3 c
          ∧ r.2.mem ((c.tc : Thread Cert.ProjRefSampleIdeal.nD Cert.ProjRefSampleIdeal.τ).loc Cert.ProjRefSampleIdeal.main_v16) = v4 c
          ∧ r.2.mem ((c.tc : Thread Cert.ProjRefSampleIdeal.nD Cert.ProjRefSampleIdeal.τ).loc Cert.ProjRefSampleIdeal.main_v17) = v5 c
          ∧ r.2.mem ((c.tc : Thread Cert.ProjRefSampleIdeal.nD Cert.ProjRefSampleIdeal.τ).loc Cert.ProjRefSampleIdeal.main_v20) = v6 c
          ∧ r.2.mem ((c.tc : Thread Cert.ProjRefSampleIdeal.nD Cert.ProjRefSampleIdeal.τ).loc Cert.ProjRefSampleIdeal.main_v22) = v7 c
          ∧ r.2.mem ((c.tc : Thread Cert.ProjRefSampleIdeal.nD Cert.ProjRefSampleIdeal.τ).loc Cert.ProjRefSampleIdeal.main_v23) = v8 c
          ∧ r.2.mem ((c.tc : Thread Cert.ProjRefSampleIdeal.nD Cert.ProjRefSampleIdeal.τ).loc Cert.ProjRefSampleIdeal.main_arg0) = m' ((c.tc : Thread Cert.ProjRefSampleIdeal.nD Cert.ProjRefSampleIdeal.τ).loc Cert.ProjRefSampleIdeal.main_arg0)
          ∧ r.2.mem ((c.tc : Thread Cert.ProjRefSampleIdeal.nD Cert.ProjRefSampleIdeal.τ).loc Cert.ProjRefSampleIdeal.main_arg1) = m' ((c.tc : Thread Cert.ProjRefSampleIdeal.nD Cert.ProjRefSampleIdeal.τ).loc Cert.ProjRefSampleIdeal.main_arg1)
          ∧ r.2.mem ((c.tc : Thread Cert.ProjRefSampleIdeal.nD Cert.ProjRefSampleIdeal.τ).loc Cert.ProjRefSampleIdeal.main_arg2) = m' ((c.tc : Thread Cert.ProjRefSampleIdeal.nD Cert.ProjRefSampleIdeal.τ).loc Cert.ProjRefSampleIdeal.main_arg2)
          ∧ r.2.mem ((c.tc : Thread Cert.ProjRefSampleIdeal.nD Cert.ProjRefSampleIdeal.τ).loc Cert.ProjRefSampleIdeal.main_arg3) = m' ((c.tc : Thread Cert.ProjRefSampleIdeal.nD Cert.ProjRefSampleIdeal.τ).loc Cert.ProjRefSampleIdeal.main_arg3)
          ∧ r.2.mem ((c.tc : Thread Cert.ProjRefSampleIdeal.nD Cert.ProjRefSampleIdeal.τ).loc Cert.ProjRefSampleIdeal.main_arg4) = m' ((c.tc : Thread Cert.ProjRefSampleIdeal.nD Cert.ProjRefSampleIdeal.τ).loc Cert.ProjRefSampleIdeal.main_arg4))

def preserves_MergePrompt_MergePromptIdeal : Prop :=
  True

def algebraic_MergePromptIdeal_MergeRefPromptIdeal [hMergePromptIdeal : Cert.MergePromptIdeal.Facts] [hMergeRefPromptIdeal : Cert.MergeRefPromptIdeal.Facts] : Prop :=
  ∀ (m : (ℓ : Loc Cert.MergePromptIdeal.nD Cert.MergePromptIdeal.τ Cert.MergePromptIdeal.sig) → Buf (Elt Ideal) ℓ) (g : Dev Cert.MergePromptIdeal.nD → PrngReg)
    (m' : (ℓ : Loc Cert.MergeRefPromptIdeal.nD Cert.MergeRefPromptIdeal.τ Cert.MergeRefPromptIdeal.sig) → Buf (Elt Ideal) ℓ) (g' : Dev Cert.MergeRefPromptIdeal.nD → PrngReg), Pre_MergePromptIdeal m →
    (∀ c : Dev Cert.MergePromptIdeal.nD,
      m' ((c.tc : Thread Cert.MergeRefPromptIdeal.nD Cert.MergeRefPromptIdeal.τ).loc Cert.MergeRefPromptIdeal.main_arg0) = m ((c.tc : Thread Cert.MergePromptIdeal.nD Cert.MergePromptIdeal.τ).loc Cert.MergePromptIdeal.main_arg0)
      ∧ m' ((c.tc : Thread Cert.MergeRefPromptIdeal.nD Cert.MergeRefPromptIdeal.τ).loc Cert.MergeRefPromptIdeal.main_arg1) = m ((c.tc : Thread Cert.MergePromptIdeal.nD Cert.MergePromptIdeal.τ).loc Cert.MergePromptIdeal.main_arg1)
      ∧ m' ((c.tc : Thread Cert.MergeRefPromptIdeal.nD Cert.MergeRefPromptIdeal.τ).loc Cert.MergeRefPromptIdeal.main_arg2) = m ((c.tc : Thread Cert.MergePromptIdeal.nD Cert.MergePromptIdeal.τ).loc Cert.MergePromptIdeal.main_arg2)
      ∧ m' ((c.tc : Thread Cert.MergeRefPromptIdeal.nD Cert.MergeRefPromptIdeal.τ).loc Cert.MergeRefPromptIdeal.main_arg3) = m ((c.tc : Thread Cert.MergePromptIdeal.nD Cert.MergePromptIdeal.τ).loc Cert.MergePromptIdeal.main_arg3)
      ∧ m' ((c.tc : Thread Cert.MergeRefPromptIdeal.nD Cert.MergeRefPromptIdeal.τ).loc Cert.MergeRefPromptIdeal.main_arg4) = m ((c.tc : Thread Cert.MergePromptIdeal.nD Cert.MergePromptIdeal.τ).loc Cert.MergePromptIdeal.main_arg4)
      ∧ m' ((c.tc : Thread Cert.MergeRefPromptIdeal.nD Cert.MergeRefPromptIdeal.τ).loc Cert.MergeRefPromptIdeal.main_arg5) = m ((c.tc : Thread Cert.MergePromptIdeal.nD Cert.MergePromptIdeal.τ).loc Cert.MergePromptIdeal.main_arg5)
      ∧ m' ((c.tc : Thread Cert.MergeRefPromptIdeal.nD Cert.MergeRefPromptIdeal.τ).loc Cert.MergeRefPromptIdeal.main_arg6) = m ((c.tc : Thread Cert.MergePromptIdeal.nD Cert.MergePromptIdeal.τ).loc Cert.MergePromptIdeal.main_arg6)
      ∧ m' ((c.tc : Thread Cert.MergeRefPromptIdeal.nD Cert.MergeRefPromptIdeal.τ).loc Cert.MergeRefPromptIdeal.main_arg7) = m ((c.tc : Thread Cert.MergePromptIdeal.nD Cert.MergePromptIdeal.τ).loc Cert.MergePromptIdeal.main_arg7)) →
    ∃ (v0 : (c : Dev Cert.MergePromptIdeal.nD) → Buf (Elt Ideal) ((c.tc : Thread Cert.MergePromptIdeal.nD Cert.MergePromptIdeal.τ).loc Cert.MergePromptIdeal.main_v9)),
      θ_run (Cert.MergePromptIdeal.defs (F := Ideal)) (onTc (τ := Cert.MergePromptIdeal.τ) (Cert.MergePromptIdeal.main (F := Ideal))) ⟨m, fun _ => 0, g⟩ (fun r => ∀ c : Dev Cert.MergePromptIdeal.nD,
          r.2.mem ((c.tc : Thread Cert.MergePromptIdeal.nD Cert.MergePromptIdeal.τ).loc Cert.MergePromptIdeal.main_v9) = v0 c
          ∧ r.2.mem ((c.tc : Thread Cert.MergePromptIdeal.nD Cert.MergePromptIdeal.τ).loc Cert.MergePromptIdeal.main_arg0) = m ((c.tc : Thread Cert.MergePromptIdeal.nD Cert.MergePromptIdeal.τ).loc Cert.MergePromptIdeal.main_arg0)
          ∧ r.2.mem ((c.tc : Thread Cert.MergePromptIdeal.nD Cert.MergePromptIdeal.τ).loc Cert.MergePromptIdeal.main_arg1) = m ((c.tc : Thread Cert.MergePromptIdeal.nD Cert.MergePromptIdeal.τ).loc Cert.MergePromptIdeal.main_arg1)
          ∧ r.2.mem ((c.tc : Thread Cert.MergePromptIdeal.nD Cert.MergePromptIdeal.τ).loc Cert.MergePromptIdeal.main_arg2) = m ((c.tc : Thread Cert.MergePromptIdeal.nD Cert.MergePromptIdeal.τ).loc Cert.MergePromptIdeal.main_arg2)
          ∧ r.2.mem ((c.tc : Thread Cert.MergePromptIdeal.nD Cert.MergePromptIdeal.τ).loc Cert.MergePromptIdeal.main_arg3) = m ((c.tc : Thread Cert.MergePromptIdeal.nD Cert.MergePromptIdeal.τ).loc Cert.MergePromptIdeal.main_arg3)
          ∧ r.2.mem ((c.tc : Thread Cert.MergePromptIdeal.nD Cert.MergePromptIdeal.τ).loc Cert.MergePromptIdeal.main_arg4) = m ((c.tc : Thread Cert.MergePromptIdeal.nD Cert.MergePromptIdeal.τ).loc Cert.MergePromptIdeal.main_arg4)
          ∧ r.2.mem ((c.tc : Thread Cert.MergePromptIdeal.nD Cert.MergePromptIdeal.τ).loc Cert.MergePromptIdeal.main_arg5) = m ((c.tc : Thread Cert.MergePromptIdeal.nD Cert.MergePromptIdeal.τ).loc Cert.MergePromptIdeal.main_arg5)
          ∧ r.2.mem ((c.tc : Thread Cert.MergePromptIdeal.nD Cert.MergePromptIdeal.τ).loc Cert.MergePromptIdeal.main_arg6) = m ((c.tc : Thread Cert.MergePromptIdeal.nD Cert.MergePromptIdeal.τ).loc Cert.MergePromptIdeal.main_arg6)
          ∧ r.2.mem ((c.tc : Thread Cert.MergePromptIdeal.nD Cert.MergePromptIdeal.τ).loc Cert.MergePromptIdeal.main_arg7) = m ((c.tc : Thread Cert.MergePromptIdeal.nD Cert.MergePromptIdeal.τ).loc Cert.MergePromptIdeal.main_arg7))
      ∧ θ_run (Cert.MergeRefPromptIdeal.defs (F := Ideal)) (onTc (τ := Cert.MergeRefPromptIdeal.τ) (Cert.MergeRefPromptIdeal.main (F := Ideal))) ⟨m', fun _ => 0, g'⟩ (fun r => ∀ c : Dev Cert.MergeRefPromptIdeal.nD,
          r.2.mem ((c.tc : Thread Cert.MergeRefPromptIdeal.nD Cert.MergeRefPromptIdeal.τ).loc Cert.MergeRefPromptIdeal.main_v27) = v0 c
          ∧ r.2.mem ((c.tc : Thread Cert.MergeRefPromptIdeal.nD Cert.MergeRefPromptIdeal.τ).loc Cert.MergeRefPromptIdeal.main_arg0) = m' ((c.tc : Thread Cert.MergeRefPromptIdeal.nD Cert.MergeRefPromptIdeal.τ).loc Cert.MergeRefPromptIdeal.main_arg0)
          ∧ r.2.mem ((c.tc : Thread Cert.MergeRefPromptIdeal.nD Cert.MergeRefPromptIdeal.τ).loc Cert.MergeRefPromptIdeal.main_arg1) = m' ((c.tc : Thread Cert.MergeRefPromptIdeal.nD Cert.MergeRefPromptIdeal.τ).loc Cert.MergeRefPromptIdeal.main_arg1)
          ∧ r.2.mem ((c.tc : Thread Cert.MergeRefPromptIdeal.nD Cert.MergeRefPromptIdeal.τ).loc Cert.MergeRefPromptIdeal.main_arg2) = m' ((c.tc : Thread Cert.MergeRefPromptIdeal.nD Cert.MergeRefPromptIdeal.τ).loc Cert.MergeRefPromptIdeal.main_arg2)
          ∧ r.2.mem ((c.tc : Thread Cert.MergeRefPromptIdeal.nD Cert.MergeRefPromptIdeal.τ).loc Cert.MergeRefPromptIdeal.main_arg3) = m' ((c.tc : Thread Cert.MergeRefPromptIdeal.nD Cert.MergeRefPromptIdeal.τ).loc Cert.MergeRefPromptIdeal.main_arg3)
          ∧ r.2.mem ((c.tc : Thread Cert.MergeRefPromptIdeal.nD Cert.MergeRefPromptIdeal.τ).loc Cert.MergeRefPromptIdeal.main_arg4) = m' ((c.tc : Thread Cert.MergeRefPromptIdeal.nD Cert.MergeRefPromptIdeal.τ).loc Cert.MergeRefPromptIdeal.main_arg4)
          ∧ r.2.mem ((c.tc : Thread Cert.MergeRefPromptIdeal.nD Cert.MergeRefPromptIdeal.τ).loc Cert.MergeRefPromptIdeal.main_arg5) = m' ((c.tc : Thread Cert.MergeRefPromptIdeal.nD Cert.MergeRefPromptIdeal.τ).loc Cert.MergeRefPromptIdeal.main_arg5)
          ∧ r.2.mem ((c.tc : Thread Cert.MergeRefPromptIdeal.nD Cert.MergeRefPromptIdeal.τ).loc Cert.MergeRefPromptIdeal.main_arg6) = m' ((c.tc : Thread Cert.MergeRefPromptIdeal.nD Cert.MergeRefPromptIdeal.τ).loc Cert.MergeRefPromptIdeal.main_arg6)
          ∧ r.2.mem ((c.tc : Thread Cert.MergeRefPromptIdeal.nD Cert.MergeRefPromptIdeal.τ).loc Cert.MergeRefPromptIdeal.main_arg7) = m' ((c.tc : Thread Cert.MergeRefPromptIdeal.nD Cert.MergeRefPromptIdeal.τ).loc Cert.MergeRefPromptIdeal.main_arg7))

def preserves_MergeSample_MergeSampleIdeal : Prop :=
  True

def algebraic_MergeSampleIdeal_MergeRefSampleIdeal [hMergeSampleIdeal : Cert.MergeSampleIdeal.Facts] [hMergeRefSampleIdeal : Cert.MergeRefSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeRefSampleIdeal.nD Cert.MergeRefSampleIdeal.τ Cert.MergeRefSampleIdeal.sig) → Buf (Elt Ideal) ℓ) (g' : Dev Cert.MergeRefSampleIdeal.nD → PrngReg), Pre_MergeSampleIdeal m →
    (∀ c : Dev Cert.MergeSampleIdeal.nD,
      m' ((c.tc : Thread Cert.MergeRefSampleIdeal.nD Cert.MergeRefSampleIdeal.τ).loc Cert.MergeRefSampleIdeal.main_arg0) = m ((c.tc : Thread Cert.MergeSampleIdeal.nD Cert.MergeSampleIdeal.τ).loc Cert.MergeSampleIdeal.main_arg0)
      ∧ m' ((c.tc : Thread Cert.MergeRefSampleIdeal.nD Cert.MergeRefSampleIdeal.τ).loc Cert.MergeRefSampleIdeal.main_arg1) = m ((c.tc : Thread Cert.MergeSampleIdeal.nD Cert.MergeSampleIdeal.τ).loc Cert.MergeSampleIdeal.main_arg1)
      ∧ m' ((c.tc : Thread Cert.MergeRefSampleIdeal.nD Cert.MergeRefSampleIdeal.τ).loc Cert.MergeRefSampleIdeal.main_arg2) = m ((c.tc : Thread Cert.MergeSampleIdeal.nD Cert.MergeSampleIdeal.τ).loc Cert.MergeSampleIdeal.main_arg2)
      ∧ m' ((c.tc : Thread Cert.MergeRefSampleIdeal.nD Cert.MergeRefSampleIdeal.τ).loc Cert.MergeRefSampleIdeal.main_arg3) = m ((c.tc : Thread Cert.MergeSampleIdeal.nD Cert.MergeSampleIdeal.τ).loc Cert.MergeSampleIdeal.main_arg3)
      ∧ m' ((c.tc : Thread Cert.MergeRefSampleIdeal.nD Cert.MergeRefSampleIdeal.τ).loc Cert.MergeRefSampleIdeal.main_arg4) = m ((c.tc : Thread Cert.MergeSampleIdeal.nD Cert.MergeSampleIdeal.τ).loc Cert.MergeSampleIdeal.main_arg4)
      ∧ m' ((c.tc : Thread Cert.MergeRefSampleIdeal.nD Cert.MergeRefSampleIdeal.τ).loc Cert.MergeRefSampleIdeal.main_arg5) = m ((c.tc : Thread Cert.MergeSampleIdeal.nD Cert.MergeSampleIdeal.τ).loc Cert.MergeSampleIdeal.main_arg5)
      ∧ m' ((c.tc : Thread Cert.MergeRefSampleIdeal.nD Cert.MergeRefSampleIdeal.τ).loc Cert.MergeRefSampleIdeal.main_arg6) = m ((c.tc : Thread Cert.MergeSampleIdeal.nD Cert.MergeSampleIdeal.τ).loc Cert.MergeSampleIdeal.main_arg6)
      ∧ m' ((c.tc : Thread Cert.MergeRefSampleIdeal.nD Cert.MergeRefSampleIdeal.τ).loc Cert.MergeRefSampleIdeal.main_arg7) = m ((c.tc : Thread Cert.MergeSampleIdeal.nD Cert.MergeSampleIdeal.τ).loc Cert.MergeSampleIdeal.main_arg7)) →
    ∃ (v0 : (c : Dev Cert.MergeSampleIdeal.nD) → Buf (Elt Ideal) ((c.tc : Thread Cert.MergeSampleIdeal.nD Cert.MergeSampleIdeal.τ).loc Cert.MergeSampleIdeal.main_v9)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v9) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7))
      ∧ θ_run (Cert.MergeRefSampleIdeal.defs (F := Ideal)) (onTc (τ := Cert.MergeRefSampleIdeal.τ) (Cert.MergeRefSampleIdeal.main (F := Ideal))) ⟨m', fun _ => 0, g'⟩ (fun r => ∀ c : Dev Cert.MergeRefSampleIdeal.nD,
          r.2.mem ((c.tc : Thread Cert.MergeRefSampleIdeal.nD Cert.MergeRefSampleIdeal.τ).loc Cert.MergeRefSampleIdeal.main_v27) = v0 c
          ∧ r.2.mem ((c.tc : Thread Cert.MergeRefSampleIdeal.nD Cert.MergeRefSampleIdeal.τ).loc Cert.MergeRefSampleIdeal.main_arg0) = m' ((c.tc : Thread Cert.MergeRefSampleIdeal.nD Cert.MergeRefSampleIdeal.τ).loc Cert.MergeRefSampleIdeal.main_arg0)
          ∧ r.2.mem ((c.tc : Thread Cert.MergeRefSampleIdeal.nD Cert.MergeRefSampleIdeal.τ).loc Cert.MergeRefSampleIdeal.main_arg1) = m' ((c.tc : Thread Cert.MergeRefSampleIdeal.nD Cert.MergeRefSampleIdeal.τ).loc Cert.MergeRefSampleIdeal.main_arg1)
          ∧ r.2.mem ((c.tc : Thread Cert.MergeRefSampleIdeal.nD Cert.MergeRefSampleIdeal.τ).loc Cert.MergeRefSampleIdeal.main_arg2) = m' ((c.tc : Thread Cert.MergeRefSampleIdeal.nD Cert.MergeRefSampleIdeal.τ).loc Cert.MergeRefSampleIdeal.main_arg2)
          ∧ r.2.mem ((c.tc : Thread Cert.MergeRefSampleIdeal.nD Cert.MergeRefSampleIdeal.τ).loc Cert.MergeRefSampleIdeal.main_arg3) = m' ((c.tc : Thread Cert.MergeRefSampleIdeal.nD Cert.MergeRefSampleIdeal.τ).loc Cert.MergeRefSampleIdeal.main_arg3)
          ∧ r.2.mem ((c.tc : Thread Cert.MergeRefSampleIdeal.nD Cert.MergeRefSampleIdeal.τ).loc Cert.MergeRefSampleIdeal.main_arg4) = m' ((c.tc : Thread Cert.MergeRefSampleIdeal.nD Cert.MergeRefSampleIdeal.τ).loc Cert.MergeRefSampleIdeal.main_arg4)
          ∧ r.2.mem ((c.tc : Thread Cert.MergeRefSampleIdeal.nD Cert.MergeRefSampleIdeal.τ).loc Cert.MergeRefSampleIdeal.main_arg5) = m' ((c.tc : Thread Cert.MergeRefSampleIdeal.nD Cert.MergeRefSampleIdeal.τ).loc Cert.MergeRefSampleIdeal.main_arg5)
          ∧ r.2.mem ((c.tc : Thread Cert.MergeRefSampleIdeal.nD Cert.MergeRefSampleIdeal.τ).loc Cert.MergeRefSampleIdeal.main_arg6) = m' ((c.tc : Thread Cert.MergeRefSampleIdeal.nD Cert.MergeRefSampleIdeal.τ).loc Cert.MergeRefSampleIdeal.main_arg6)
          ∧ r.2.mem ((c.tc : Thread Cert.MergeRefSampleIdeal.nD Cert.MergeRefSampleIdeal.τ).loc Cert.MergeRefSampleIdeal.main_arg7) = m' ((c.tc : Thread Cert.MergeRefSampleIdeal.nD Cert.MergeRefSampleIdeal.τ).loc Cert.MergeRefSampleIdeal.main_arg7))

def Claim : Prop :=
  ∃ (hScores : Cert.Scores.Facts) (hScoresIdeal : Cert.ScoresIdeal.Facts) (hScoresRefIdeal : Cert.ScoresRefIdeal.Facts) (hProjPrompt : Cert.ProjPrompt.Facts) (hProjPromptIdeal : Cert.ProjPromptIdeal.Facts) (hProjRefPromptIdeal : Cert.ProjRefPromptIdeal.Facts) (hProjSample : Cert.ProjSample.Facts) (hProjSampleIdeal : Cert.ProjSampleIdeal.Facts) (hProjRefSampleIdeal : Cert.ProjRefSampleIdeal.Facts) (hMergePrompt : Cert.MergePrompt.Facts) (hMergePromptIdeal : Cert.MergePromptIdeal.Facts) (hMergeRefPromptIdeal : Cert.MergeRefPromptIdeal.Facts) (hMergeSample : Cert.MergeSample.Facts) (hMergeSampleIdeal : Cert.MergeSampleIdeal.Facts) (hMergeRefSampleIdeal : Cert.MergeRefSampleIdeal.Facts) (hPre_scores_table_in_range : Cert.Pre_scores_table_in_range.Facts),
    quiescent_Scores (hScores := hScores) (hPre_scores_table_in_range := hPre_scores_table_in_range)
    ∧ quiescent_ScoresIdeal (hScoresIdeal := hScoresIdeal) (hPre_scores_table_in_range := hPre_scores_table_in_range)
    ∧ quiescent_ScoresRefIdeal (hScoresRefIdeal := hScoresRefIdeal) (hPre_scores_table_in_range := hPre_scores_table_in_range)
    ∧ quiescent_ProjPrompt (hProjPrompt := hProjPrompt)
    ∧ quiescent_ProjPromptIdeal (hProjPromptIdeal := hProjPromptIdeal)
    ∧ quiescent_ProjRefPromptIdeal (hProjRefPromptIdeal := hProjRefPromptIdeal)
    ∧ quiescent_ProjSample (hProjSample := hProjSample)
    ∧ quiescent_ProjSampleIdeal (hProjSampleIdeal := hProjSampleIdeal)
    ∧ quiescent_ProjRefSampleIdeal (hProjRefSampleIdeal := hProjRefSampleIdeal)
    ∧ quiescent_MergePrompt (hMergePrompt := hMergePrompt)
    ∧ quiescent_MergePromptIdeal (hMergePromptIdeal := hMergePromptIdeal)
    ∧ quiescent_MergeRefPromptIdeal (hMergeRefPromptIdeal := hMergeRefPromptIdeal)
    ∧ quiescent_MergeSample (hMergeSample := hMergeSample)
    ∧ quiescent_MergeSampleIdeal (hMergeSampleIdeal := hMergeSampleIdeal)
    ∧ quiescent_MergeRefSampleIdeal (hMergeRefSampleIdeal := hMergeRefSampleIdeal)
    ∧ preserves_Scores_ScoresIdeal
    ∧ algebraic_ScoresIdeal_ScoresRefIdeal (hScoresIdeal := hScoresIdeal) (hScoresRefIdeal := hScoresRefIdeal) (hPre_scores_table_in_range := hPre_scores_table_in_range)
    ∧ preserves_ProjPrompt_ProjPromptIdeal
    ∧ algebraic_ProjPromptIdeal_ProjRefPromptIdeal (hProjPromptIdeal := hProjPromptIdeal) (hProjRefPromptIdeal := hProjRefPromptIdeal)
    ∧ preserves_ProjSample_ProjSampleIdeal
    ∧ algebraic_ProjSampleIdeal_ProjRefSampleIdeal (hProjSampleIdeal := hProjSampleIdeal) (hProjRefSampleIdeal := hProjRefSampleIdeal)
    ∧ preserves_MergePrompt_MergePromptIdeal
    ∧ algebraic_MergePromptIdeal_MergeRefPromptIdeal (hMergePromptIdeal := hMergePromptIdeal) (hMergeRefPromptIdeal := hMergeRefPromptIdeal)
    ∧ preserves_MergeSample_MergeSampleIdeal
    ∧ algebraic_MergeSampleIdeal_MergeRefSampleIdeal (hMergeSampleIdeal := hMergeSampleIdeal) (hMergeRefSampleIdeal := hMergeRefSampleIdeal)
-- ==== Pre_scores_table_in_range.lean ====
abbrev S512x5120 : Shape := ⟨2, ![512, 5120]⟩
abbrev S1x2560x128x64 : Shape := ⟨4, ![1, 2560, 128, 64]⟩
abbrev S128x16 : Shape := ⟨2, ![128, 16]⟩
abbrev S_ : Shape := ⟨0, ![]⟩

class Facts : Prop where
  bcast_S_S128x16 : S_.BroadcastsInDim S128x16 (![] : Fin 0 → Fin S128x16.rank)

variable [Facts]

def fn {F : FTy → Type} [FloatOps F] (main_arg0 : FVec F S512x5120 .f32) (main_arg1 : FVec F S1x2560x128x64 .f32) (main_arg2 : IVec S128x16 32) : IVec S128x16 1 :=
  let main_c : IVec S_ 32 := constantI S_ 32 0#32
  let main_v0 : IVec S128x16 32 := broadcastInDim S128x16 ![] bcast_S_S128x16 main_c
  let main_v1 : IVec S128x16 1 := cmpi .sge main_arg2 main_v0
  let main_c_0 : IVec S_ 32 := constantI S_ 32 2560#32
  let main_v2 : IVec S128x16 32 := broadcastInDim S128x16 ![] bcast_S_S128x16 main_c_0
  let main_v3 : IVec S128x16 1 := cmpi .slt main_arg2 main_v2
  let main_v4 : IVec S128x16 1 := andi main_v1 main_v3
  main_v4
-- ==== Scores.lean ====
abbrev S512x5120 : Shape := ⟨2, ![512, 5120]⟩
abbrev S1x2560x128x64 : Shape := ⟨4, ![1, 2560, 128, 64]⟩
abbrev S128x16 : Shape := ⟨2, ![128, 16]⟩
abbrev S2560x128x64 : Shape := ⟨3, ![2560, 128, 64]⟩
abbrev S128x4x5120 : Shape := ⟨3, ![128, 4, 5120]⟩
abbrev S512x512 : Shape := ⟨2, ![512, 512]⟩
abbrev S128x32x64 : Shape := ⟨3, ![128, 32, 64]⟩
abbrev S512x8 : Shape := ⟨2, ![512, 8]⟩
abbrev S128x32x1 : Shape := ⟨3, ![128, 32, 1]⟩
abbrev S128x4x2176 : Shape := ⟨3, ![128, 4, 2176]⟩
abbrev S1x32x64 : Shape := ⟨3, ![1, 32, 64]⟩
abbrev S1x32x1 : Shape := ⟨3, ![1, 32, 1]⟩
abbrev S1x4x128 : Shape := ⟨3, ![1, 4, 128]⟩
abbrev S1x128x64 : Shape := ⟨3, ![1, 128, 64]⟩
abbrev S1x1 : Shape := ⟨2, ![1, 1]⟩
abbrev S1x4x2176 : Shape := ⟨3, ![1, 4, 2176]⟩
abbrev S128x64 : Shape := ⟨2, ![128, 64]⟩
abbrev S2048x64 : Shape := ⟨2, ![2048, 64]⟩
abbrev S1x4x64 : Shape := ⟨3, ![1, 4, 64]⟩
abbrev S4x64 : Shape := ⟨2, ![4, 64]⟩
abbrev S124x64 : Shape := ⟨2, ![124, 64]⟩
abbrev S32x64 : Shape := ⟨2, ![32, 64]⟩
abbrev S32x2048 : Shape := ⟨2, ![32, 2048]⟩
abbrev S32x128 : Shape := ⟨2, ![32, 128]⟩
abbrev S32x2176 : Shape := ⟨2, ![32, 2176]⟩
abbrev S32x1 : Shape := ⟨2, ![32, 1]⟩
abbrev S4x8x2176 : Shape := ⟨3, ![4, 8, 2176]⟩
abbrev S4x2176 : Shape := ⟨2, ![4, 2176]⟩

abbrev nBuf : Space → Nat
  | .hbm => 9
  | .vmem => 40
  | .smem => 1
  | _ => 0

abbrev bufTy : (tb : Table) → Fin (tcTables nBuf tb) → BufTy
  | .hbm, ⟨0, _⟩ => ⟨S512x5120, .f32⟩
  | .hbm, ⟨1, _⟩ => ⟨S1x2560x128x64, .f32⟩
  | .hbm, ⟨2, _⟩ => ⟨S2560x128x64, .f32⟩
  | .hbm, ⟨3, _⟩ => ⟨S128x4x5120, .f32⟩
  | .hbm, ⟨4, _⟩ => ⟨S512x512, .f32⟩
  | .hbm, ⟨5, _⟩ => ⟨S128x32x64, .f32⟩
  | .hbm, ⟨6, _⟩ => ⟨S512x8, .f32⟩
  | .hbm, ⟨7, _⟩ => ⟨S128x32x1, .f32⟩
  | .hbm, ⟨8, _⟩ => ⟨S128x4x2176, .f32⟩
  | .local _ .vmem, ⟨0, _⟩ => ⟨S1x32x64, .f32⟩
  | .local _ .vmem, ⟨1, _⟩ => ⟨S1x32x64, .f32⟩
  | .local _ .vmem, ⟨2, _⟩ => ⟨S1x32x1, .f32⟩
  | .local _ .vmem, ⟨3, _⟩ => ⟨S1x32x1, .f32⟩
  | .local _ .vmem, ⟨4, _⟩ => ⟨S1x4x128, .f32⟩
  | .local _ .vmem, ⟨5, _⟩ => ⟨S1x4x128, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S1x128x64, .f32⟩
  | .local _ .vmem, ⟨13, _⟩ => ⟨S1x128x64, .f32⟩
  | .local _ .vmem, ⟨14, _⟩ => ⟨S1x128x64, .f32⟩
  | .local _ .vmem, ⟨15, _⟩ => ⟨S1x128x64, .f32⟩
  | .local _ .vmem, ⟨16, _⟩ => ⟨S1x128x64, .f32⟩
  | .local _ .vmem, ⟨17, _⟩ => ⟨S1x128x64, .f32⟩
  | .local _ .vmem, ⟨18, _⟩ => ⟨S1x128x64, .f32⟩
  | .local _ .vmem, ⟨19, _⟩ => ⟨S1x128x64, .f32⟩
  | .local _ .vmem, ⟨20, _⟩ => ⟨S1x128x64, .f32⟩
  | .local _ .vmem, ⟨21, _⟩ => ⟨S1x128x64, .f32⟩
  | .local _ .vmem, ⟨22, _⟩ => ⟨S1x128x64, .f32⟩
  | .local _ .vmem, ⟨23, _⟩ => ⟨S1x128x64, .f32⟩
  | .local _ .vmem, ⟨24, _⟩ => ⟨S1x128x64, .f32⟩
  | .local _ .vmem, ⟨25, _⟩ => ⟨S1x128x64, .f32⟩
  | .local _ .vmem, ⟨26, _⟩ => ⟨S1x128x64, .f32⟩
  | .local _ .vmem, ⟨27, _⟩ => ⟨S1x128x64, .f32⟩
  | .local _ .vmem, ⟨28, _⟩ => ⟨S1x128x64, .f32⟩
  | .local _ .vmem, ⟨29, _⟩ => ⟨S1x128x64, .f32⟩
  | .local _ .vmem, ⟨30, _⟩ => ⟨S1x128x64, .f32⟩
  | .local _ .vmem, ⟨31, _⟩ => ⟨S1x128x64, .f32⟩
  | .local _ .vmem, ⟨32, _⟩ => ⟨S1x128x64, .f32⟩
  | .local _ .vmem, ⟨33, _⟩ => ⟨S1x128x64, .f32⟩
  | .local _ .vmem, ⟨34, _⟩ => ⟨S1x128x64, .f32⟩
  | .local _ .vmem, ⟨35, _⟩ => ⟨S1x128x64, .f32⟩
  | .local _ .vmem, ⟨36, _⟩ => ⟨S1x128x64, .f32⟩
  | .local _ .vmem, ⟨37, _⟩ => ⟨S1x128x64, .f32⟩
  | .local _ .vmem, ⟨38, _⟩ => ⟨S1x4x2176, .f32⟩
  | .local _ .vmem, ⟨39, _⟩ => ⟨S1x4x2176, .f32⟩
  | .local _ .smem, ⟨0, _⟩ => ⟨S128x16, .i32⟩
  | _, _ => ⟨S512x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 2 → Nat :=
  let arg0 : BitVec 32 := BitVec.ofNat 32 (i 0).val
  let v0 : Index := Scalar.indexCast arg0
  let c14 : Index := 14#32
  ![v0.toNat, 14]
def k0_off16 (i : grid0.Coords) : Fin 2 → Nat :=
  let arg0 : BitVec 32 := BitVec.ofNat 32 (i 0).val
  let v0 : Index := Scalar.indexCast arg0
  let c15 : Index := 15#32
  ![v0.toNat, 15]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c14_i32 : BitVec 32 := 14#32
  let c0_i32_0 : BitVec 32 := 0#32
  ![arg0.toNat, c0_i32.toNat, c14_i32.toNat]

def cc0_transform_3 (k0_off1_inb : ∀ i : grid0.Coords, ∀ a, (k0_off1 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S128x16) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off2_inb : ∀ i : grid0.Coords, ∀ a, (k0_off2 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S128x16) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off3_inb : ∀ i : grid0.Coords, ∀ a, (k0_off3 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S128x16) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off4_inb : ∀ i : grid0.Coords, ∀ a, (k0_off4 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S128x16) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off5_inb : ∀ i : grid0.Coords, ∀ a, (k0_off5 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S128x16) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off6_inb : ∀ i : grid0.Coords, ∀ a, (k0_off6 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S128x16) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off7_inb : ∀ i : grid0.Coords, ∀ a, (k0_off7 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S128x16) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off8_inb : ∀ i : grid0.Coords, ∀ a, (k0_off8 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S128x16) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off9_inb : ∀ i : grid0.Coords, ∀ a, (k0_off9 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S128x16) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off10_inb : ∀ i : grid0.Coords, ∀ a, (k0_off10 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S128x16) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off11_inb : ∀ i : grid0.Coords, ∀ a, (k0_off11 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S128x16) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off12_inb : ∀ i : grid0.Coords, ∀ a, (k0_off12 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S128x16) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off13_inb : ∀ i : grid0.Coords, ∀ a, (k0_off13 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S128x16) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (k0_off14_inb : ∀ i : grid0.Coords, ∀ a, (k0_off14 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S128x16) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_17 (k0_off15_inb : ∀ i : grid0.Coords, ∀ a, (k0_off15 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c14 : Index := 14#32
  let v1 : BitVec 32 := pf.at 0 (Rect.unit (s := S128x16) ![v0.toNat, 14] S1x1.size (k0_off15_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_18 (k0_off16_inb : ∀ i : grid0.Coords, ∀ a, (k0_off16 i) a + S1x1.size a ≤ S128x16.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c15 : Index := 15#32
  let v1 : BitVec 32 := pf.at 0 (Rect.unit (s := S128x16) ![v0.toNat, 15] S1x1.size (k0_off16_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x2176 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ScoresRefIdeal.lean ====
abbrev S512x5120 : Shape := ⟨2, ![512, 5120]⟩
abbrev S1x2560x128x64 : Shape := ⟨4, ![1, 2560, 128, 64]⟩
abbrev S128x16 : Shape := ⟨2, ![128, 16]⟩
abbrev S128x4x5120 : Shape := ⟨3, ![128, 4, 5120]⟩
abbrev S128x4x512 : Shape := ⟨3, ![128, 4, 512]⟩
abbrev S128x4x8x64 : Shape := ⟨4, ![128, 4, 8, 64]⟩
abbrev S_ : Shape := ⟨0, ![]⟩
abbrev S128x4x64 : Shape := ⟨3, ![128, 4, 64]⟩
abbrev S128x4x8 : Shape := ⟨3, ![128, 4, 8]⟩
abbrev S2560x128x64 : Shape := ⟨3, ![2560, 128, 64]⟩
abbrev S128x16x1 : Shape := ⟨3, ![128, 16, 1]⟩
abbrev S128x16x128x64 : Shape := ⟨4, ![128, 16, 128, 64]⟩
abbrev S128x2048x64 : Shape := ⟨3, ![128, 2048, 64]⟩
abbrev S128x2052x64 : Shape := ⟨3, ![128, 2052, 64]⟩
abbrev S128x4x8x2052 : Shape := ⟨4, ![128, 4, 8, 2052]⟩
abbrev S128x4x2052 : Shape := ⟨3, ![128, 4, 2052]⟩
abbrev S2052 : Shape := ⟨1, ![2052]⟩
abbrev S4 : Shape := ⟨1, ![4]⟩
abbrev S1x2052 : Shape := ⟨2, ![1, 2052]⟩
abbrev S4x1 : Shape := ⟨2, ![4, 1]⟩
abbrev S4x2052 : Shape := ⟨2, ![4, 2052]⟩
abbrev S1x4x2052 : Shape := ⟨3, ![1, 4, 2052]⟩
abbrev S128x4x2176 : Shape := ⟨3, ![128, 4, 2176]⟩

abbrev nBuf : Space → Nat
  | .hbm => 50
  | .vmem => 0
  | .smem => 0
  | _ => 0

abbrev bufTy : (tb : Table) → Fin (tcTables nBuf tb) → BufTy
  | .hbm, ⟨0, _⟩ => ⟨S512x5120, .f32⟩
  | .hbm, ⟨1, _⟩ => ⟨S1x2560x128x64, .f32⟩
  | .hbm, ⟨2, _⟩ => ⟨S128x16, .i32⟩
  | .hbm, ⟨3, _⟩ => ⟨S128x4x5120, .f32⟩
  | .hbm, ⟨4, _⟩ => ⟨S128x4x512, .f32⟩
  | .hbm, ⟨5, _⟩ => ⟨S128x4x8x64, .f32⟩
  | .hbm, ⟨6, _⟩ => ⟨S_, .f32⟩
  | .hbm, ⟨7, _⟩ => ⟨S128x4x8x64, .f32⟩
  | .hbm, ⟨8, _⟩ => ⟨S128x4x8x64, .f32⟩
  | .hbm, ⟨9, _⟩ => ⟨S128x4x64, .f32⟩
  | .hbm, ⟨10, _⟩ => ⟨S128x4x8, .f32⟩
  | .hbm, ⟨11, _⟩ => ⟨S_, .f32⟩
  | .hbm, ⟨12, _⟩ => ⟨S128x4x8, .f32⟩
  | .hbm, ⟨13, _⟩ => ⟨S128x4x8, .f32⟩
  | .hbm, ⟨14, _⟩ => ⟨S2560x128x64, .f32⟩
  | .hbm, ⟨15, _⟩ => ⟨S_, .i32⟩
  | .hbm, ⟨16, _⟩ => ⟨S128x16, .i32⟩
  | .hbm, ⟨17, _⟩ => ⟨S128x16, .i1⟩
  | .hbm, ⟨18, _⟩ => ⟨S_, .i32⟩
  | .hbm, ⟨19, _⟩ => ⟨S128x16, .i32⟩
  | .hbm, ⟨20, _⟩ => ⟨S128x16, .i32⟩
  | .hbm, ⟨21, _⟩ => ⟨S128x16, .i32⟩
  | .hbm, ⟨22, _⟩ => ⟨S128x16x1, .i32⟩
  | .hbm, ⟨23, _⟩ => ⟨S128x16x128x64, .f32⟩
  | .hbm, ⟨24, _⟩ => ⟨S128x2048x64, .f32⟩
  | .hbm, ⟨25, _⟩ => ⟨S128x2052x64, .f32⟩
  | .hbm, ⟨26, _⟩ => ⟨S128x4x8x2052, .f32⟩
  | .hbm, ⟨27, _⟩ => ⟨S_, .f32⟩
  | .hbm, ⟨28, _⟩ => ⟨S128x4x8x2052, .f32⟩
  | .hbm, ⟨29, _⟩ => ⟨S128x4x8x2052, .f32⟩
  | .hbm, ⟨30, _⟩ => ⟨S128x4x2052, .f32⟩
  | .hbm, ⟨31, _⟩ => ⟨S2052, .i32⟩
  | .hbm, ⟨32, _⟩ => ⟨S4, .i32⟩
  | .hbm, ⟨33, _⟩ => ⟨S_, .i32⟩
  | .hbm, ⟨34, _⟩ => ⟨S4, .i32⟩
  | .hbm, ⟨35, _⟩ => ⟨S4, .i32⟩
  | .hbm, ⟨36, _⟩ => ⟨S1x2052, .i32⟩
  | .hbm, ⟨37, _⟩ => ⟨S4x1, .i32⟩
  | .hbm, ⟨38, _⟩ => ⟨S4x2052, .i32⟩
  | .hbm, ⟨39, _⟩ => ⟨S4x2052, .i32⟩
  | .hbm, ⟨40, _⟩ => ⟨S4x2052, .i1⟩
  | .hbm, ⟨41, _⟩ => ⟨S1x4x2052, .i1⟩
  | .hbm, ⟨42, _⟩ => ⟨S_, .f32⟩
  | .hbm, ⟨43, _⟩ => ⟨S_, .f32⟩
  | .hbm, ⟨44, _⟩ => ⟨S128x4x2052, .i1⟩
  | .hbm, ⟨45, _⟩ => ⟨S128x4x2052, .f32⟩
  | .hbm, ⟨46, _⟩ => ⟨S128x4x2052, .f32⟩
  | .hbm, ⟨47, _⟩ => ⟨S_, .f32⟩
  | .hbm, ⟨48, _⟩ => ⟨S_, .f32⟩
  | .hbm, ⟨49, _⟩ => ⟨S128x4x2176, .f32⟩
  | _, _ => ⟨S512x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_cst_5 : Ref sig .tc := ⟨.hbm, 47, rfl⟩
abbrev main_call1_v0 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== ProjPrompt.lean ====
abbrev S8x2048x1024 : Shape := ⟨3, ![8, 2048, 1024]⟩
abbrev S1x1024 : Shape := ⟨2, ![1, 1024]⟩
abbrev S1x1024x9160 : Shape := ⟨3, ![1, 1024, 9160]⟩
abbrev S1x64 : Shape := ⟨2, ![1, 64]⟩
abbrev S1024x9160 : Shape := ⟨2, ![1024, 9160]⟩
abbrev S1024x1024 : Shape := ⟨2, ![1024, 1024]⟩
abbrev S1024x256 : Shape := ⟨2, ![1024, 256]⟩
abbrev S1024x512 : Shape := ⟨2, ![1024, 512]⟩
abbrev S1024x72 : Shape := ⟨2, ![1024, 72]⟩
abbrev S1024x3072 : Shape := ⟨2, ![1024, 3072]⟩
abbrev S_ : Shape := ⟨0, ![]⟩
abbrev S1024x56 : Shape := ⟨2, ![1024, 56]⟩
abbrev S1024x128 : Shape := ⟨2, ![1024, 128]⟩
abbrev S1024x5120 : Shape := ⟨2, ![1024, 5120]⟩
abbrev S1024x4224 : Shape := ⟨2, ![1024, 4224]⟩
abbrev S1024x4096 : Shape := ⟨2, ![1024, 4096]⟩
abbrev S1024x4x1024 : Shape := ⟨3, ![1024, 4, 1024]⟩
abbrev S1024x4x16x64 : Shape := ⟨4, ![1024, 4, 16, 64]⟩
abbrev S1024x4x64x16 : Shape := ⟨4, ![1024, 4, 64, 16]⟩
abbrev S16384x1024 : Shape := ⟨2, ![16384, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S16384x4224 : Shape := ⟨2, ![16384, 4224]⟩
abbrev S2048x1024 : Shape := ⟨2, ![2048, 1024]⟩
abbrev S1024x1408 : Shape := ⟨2, ![1024, 1408]⟩
abbrev S2048x1408 : Shape := ⟨2, ![2048, 1408]⟩
abbrev S16384x5120 : Shape := ⟨2, ![16384, 5120]⟩
abbrev S1024x1280 : Shape := ⟨2, ![1024, 1280]⟩
abbrev S2048x1280 : Shape := ⟨2, ![2048, 1280]⟩
abbrev S64 : Shape := ⟨1, ![64]⟩
abbrev S16384x128 : Shape := ⟨2, ![16384, 128]⟩
abbrev S16x16384x64 : Shape := ⟨3, ![16, 16384, 64]⟩
abbrev S16384x512 : Shape := ⟨2, ![16384, 512]⟩
abbrev S16384x384 : Shape := ⟨2, ![16384, 384]⟩
abbrev S16384x64 : Shape := ⟨2, ![16384, 64]⟩
abbrev S512x512 : Shape := ⟨2, ![512, 512]⟩
abbrev S512x256 : Shape := ⟨2, ![512, 256]⟩
abbrev S512x128 : Shape := ⟨2, ![512, 128]⟩
abbrev S16x512x64 : Shape := ⟨3, ![16, 512, 64]⟩
abbrev S512x384 : Shape := ⟨2, ![512, 384]⟩
abbrev S512x64 : Shape := ⟨2, ![512, 64]⟩
abbrev S1x512x64 : Shape := ⟨3, ![1, 512, 64]⟩
abbrev S8x2048x4224 : Shape := ⟨3, ![8, 2048, 4224]⟩
abbrev S8x2048x4096 : Shape := ⟨3, ![8, 2048, 4096]⟩
abbrev S8x2048x4x1024 : Shape := ⟨4, ![8, 2048, 4, 1024]⟩
abbrev S8x2048x4x64x16 : Shape := ⟨5, ![8, 2048, 4, 64, 16]⟩
abbrev S8x2048x4x16x64 : Shape := ⟨5, ![8, 2048, 4, 16, 64]⟩
abbrev S8x2048x128 : Shape := ⟨3, ![8, 2048, 128]⟩
abbrev S1x8x2048x2x64 : Shape := ⟨5, ![1, 8, 2048, 2, 64]⟩
abbrev S1x8x2048x64 : Shape := ⟨4, ![1, 8, 2048, 64]⟩
abbrev S8x1x4224 : Shape := ⟨3, ![8, 1, 4224]⟩
abbrev S8x4224 : Shape := ⟨2, ![8, 4224]⟩
abbrev S1x8x4224 : Shape := ⟨3, ![1, 8, 4224]⟩
abbrev S8x2048x512 : Shape := ⟨3, ![8, 2048, 512]⟩
abbrev S16384x8 : Shape := ⟨2, ![16384, 8]⟩
abbrev S8x2048x8 : Shape := ⟨3, ![8, 2048, 8]⟩
abbrev S16384x3072 : Shape := ⟨2, ![16384, 3072]⟩
abbrev S8x2048x3072 : Shape := ⟨3, ![8, 2048, 3072]⟩

abbrev nBuf : Space → Nat
  | .hbm => 67
  | .vmem => 37
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x9160, .f32⟩
  | .hbm, ⟨3, _⟩ => ⟨S1x64, .f32⟩
  | .hbm, ⟨4, _⟩ => ⟨S1x64, .f32⟩
  | .hbm, ⟨5, _⟩ => ⟨S1024x9160, .f32⟩
  | .hbm, ⟨6, _⟩ => ⟨S1024x1024, .f32⟩
  | .hbm, ⟨7, _⟩ => ⟨S1024x256, .f32⟩
  | .hbm, ⟨8, _⟩ => ⟨S1024x512, .f32⟩
  | .hbm, ⟨9, _⟩ => ⟨S1024x72, .f32⟩
  | .hbm, ⟨10, _⟩ => ⟨S1024x3072, .f32⟩
  | .hbm, ⟨11, _⟩ => ⟨S_, .f32⟩
  | .hbm, ⟨12, _⟩ => ⟨S1024x56, .f32⟩
  | .hbm, ⟨13, _⟩ => ⟨S_, .f32⟩
  | .hbm, ⟨14, _⟩ => ⟨S1024x128, .f32⟩
  | .hbm, ⟨15, _⟩ => ⟨S1024x5120, .f32⟩
  | .hbm, ⟨16, _⟩ => ⟨S1024x5120, .bf16⟩
  | .hbm, ⟨17, _⟩ => ⟨S1024x4224, .f32⟩
  | .hbm, ⟨18, _⟩ => ⟨S1024x4096, .f32⟩
  | .hbm, ⟨19, _⟩ => ⟨S1024x4x1024, .f32⟩
  | .hbm, ⟨20, _⟩ => ⟨S1024x4x16x64, .f32⟩
  | .hbm, ⟨21, _⟩ => ⟨S1024x4x64x16, .f32⟩
  | .hbm, ⟨22, _⟩ => ⟨S1024x4x1024, .f32⟩
  | .hbm, ⟨23, _⟩ => ⟨S1024x4096, .f32⟩
  | .hbm, ⟨24, _⟩ => ⟨S1024x128, .f32⟩
  | .hbm, ⟨25, _⟩ => ⟨S1024x4224, .f32⟩
  | .hbm, ⟨26, _⟩ => ⟨S1024x4224, .bf16⟩
  | .hbm, ⟨27, _⟩ => ⟨S16384x1024, .f32⟩
  | .hbm, ⟨28, _⟩ => ⟨S1024, .f32⟩
  | .hbm, ⟨29, _⟩ => ⟨S1x1024, .f32⟩
  | .hbm, ⟨30, _⟩ => ⟨S16384x1024, .bf16⟩
  | .hbm, ⟨31, _⟩ => ⟨S16384x4224, .f32⟩
  | .hbm, ⟨32, _⟩ => ⟨S16384x5120, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S1x64, .f32⟩
  | .hbm, ⟨37, _⟩ => ⟨S16384x128, .f32⟩
  | .hbm, ⟨38, _⟩ => ⟨S16x16384x64, .bf16⟩
  | .hbm, ⟨39, _⟩ => ⟨S16384x512, .bf16⟩
  | .hbm, ⟨40, _⟩ => ⟨S16384x384, .bf16⟩
  | .hbm, ⟨41, _⟩ => ⟨S16384x64, .bf16⟩
  | .hbm, ⟨42, _⟩ => ⟨S16384x128, .f32⟩
  | .hbm, ⟨43, _⟩ => ⟨S16384x64, .f32⟩
  | .hbm, ⟨44, _⟩ => ⟨S8x2048x4224, .f32⟩
  | .hbm, ⟨45, _⟩ => ⟨S8x2048x4096, .f32⟩
  | .hbm, ⟨46, _⟩ => ⟨S8x2048x4x1024, .f32⟩
  | .hbm, ⟨47, _⟩ => ⟨S8x2048x4x64x16, .f32⟩
  | .hbm, ⟨48, _⟩ => ⟨S8x2048x4x16x64, .f32⟩
  | .hbm, ⟨49, _⟩ => ⟨S8x2048x4x1024, .f32⟩
  | .hbm, ⟨50, _⟩ => ⟨S8x2048x4096, .f32⟩
  | .hbm, ⟨51, _⟩ => ⟨S8x2048x128, .f32⟩
  | .hbm, ⟨52, _⟩ => ⟨S8x2048x4224, .f32⟩
  | .hbm, ⟨53, _⟩ => ⟨S1x8x2048x2x64, .f32⟩
  | .hbm, ⟨54, _⟩ => ⟨S1x8x2048x2x64, .f32⟩
  | .hbm, ⟨55, _⟩ => ⟨S1x8x2048x64, .f32⟩
  | .hbm, ⟨56, _⟩ => ⟨S8x1x4224, .f32⟩
  | .hbm, ⟨57, _⟩ => ⟨S8x4224, .f32⟩
  | .hbm, ⟨58, _⟩ => ⟨S1x8x4224, .f32⟩
  | .hbm, ⟨59, _⟩ => ⟨S16384x1024, .f32⟩
  | .hbm, ⟨60, _⟩ => ⟨S8x2048x1024, .f32⟩
  | .hbm, ⟨61, _⟩ => ⟨S16384x512, .f32⟩
  | .hbm, ⟨62, _⟩ => ⟨S8x2048x512, .f32⟩
  | .hbm, ⟨63, _⟩ => ⟨S16384x8, .f32⟩
  | .hbm, ⟨64, _⟩ => ⟨S8x2048x8, .f32⟩
  | .hbm, ⟨65, _⟩ => ⟨S16384x3072, .f32⟩
  | .hbm, ⟨66, _⟩ => ⟨S8x2048x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1408, .bf16⟩
  | .local _ .vmem, ⟨8, _⟩ => ⟨S1024x1408, .bf16⟩
  | .local _ .vmem, ⟨9, _⟩ => ⟨S2048x1408, .f32⟩
  | .local _ .vmem, ⟨10, _⟩ => ⟨S2048x1408, .f32⟩
  | .local _ .vmem, ⟨11, _⟩ => ⟨S2048x1024, .bf16⟩
  | .local _ .vmem, ⟨12, _⟩ => ⟨S2048x1024, .bf16⟩
  | .local _ .vmem, ⟨13, _⟩ => ⟨S1024x1280, .bf16⟩
  | .local _ .vmem, ⟨14, _⟩ => ⟨S1024x1280, .bf16⟩
  | .local _ .vmem, ⟨15, _⟩ => ⟨S2048x1280, .f32⟩
  | .local _ .vmem, ⟨16, _⟩ => ⟨S2048x1280, .f32⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | .local _ .vmem, ⟨21, _⟩ => ⟨S512x256, .f32⟩
  | .local _ .vmem, ⟨22, _⟩ => ⟨S512x256, .f32⟩
  | .local _ .vmem, ⟨23, _⟩ => ⟨S512x128, .f32⟩
  | .local _ .vmem, ⟨24, _⟩ => ⟨S512x128, .f32⟩
  | .local _ .vmem, ⟨25, _⟩ => ⟨S1x64, .f32⟩
  | .local _ .vmem, ⟨26, _⟩ => ⟨S1x64, .f32⟩
  | .local _ .vmem, ⟨27, _⟩ => ⟨S512x128, .f32⟩
  | .local _ .vmem, ⟨28, _⟩ => ⟨S512x128, .f32⟩
  | .local _ .vmem, ⟨29, _⟩ => ⟨S16x512x64, .bf16⟩
  | .local _ .vmem, ⟨30, _⟩ => ⟨S16x512x64, .bf16⟩
  | .local _ .vmem, ⟨31, _⟩ => ⟨S512x512, .bf16⟩
  | .local _ .vmem, ⟨32, _⟩ => ⟨S512x512, .bf16⟩
  | .local _ .vmem, ⟨33, _⟩ => ⟨S512x384, .bf16⟩
  | .local _ .vmem, ⟨34, _⟩ => ⟨S512x384, .bf16⟩
  | .local _ .vmem, ⟨35, _⟩ => ⟨S512x64, .bf16⟩
  | .local _ .vmem, ⟨36, _⟩ => ⟨S512x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc3_stg7_1 : Ref sig .tc := ⟨.vmem, 30, rfl⟩
abbrev cc3_stg8_0 : Ref sig .tc := ⟨.vmem, 31, rfl⟩
abbrev cc3_stg8_1 : Ref sig .tc := ⟨.vmem, 32, rfl⟩
abbrev cc3_stg9_0 : Ref sig .tc := ⟨.vmem, 33, rfl⟩
abbrev cc3_stg9_1 : Ref sig .tc := ⟨.vmem, 34, rfl⟩
abbrev cc3_stg10_0 : Ref sig .tc := ⟨.vmem, 35, rfl⟩
abbrev cc3_stg10_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem5_0 : DmaSem sig := 26
abbrev cc3_sem6_0 : DmaSem sig := 27
abbrev cc3_sem6_1 : DmaSem sig := 28
abbrev cc3_sem7_0 : DmaSem sig := 29
abbrev cc3_sem7_1 : DmaSem sig := 30
abbrev cc3_sem8_0 : DmaSem sig := 31
abbrev cc3_sem8_1 : DmaSem sig := 32
abbrev cc3_sem9_0 : DmaSem sig := 33
abbrev cc3_sem9_1 : DmaSem sig := 34
abbrev cc3_sem10_0 : DmaSem sig := 35
abbrev cc3_sem10_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

def cc3_transform_2 (i : grid3.Coords) : Fin 2 → Nat :=
  let arg0 : BitVec 32 := BitVec.ofNat 32 (i 0).val
  let c6_i32 : BitVec 32 := 6#32
  let c0_i32 : BitVec 32 := 0#32
  ![arg0.toNat, c6_i32.toNat]

def cc3_transform_3 (i : grid3.Coords) : Fin 2 → Nat :=
  let arg0 : BitVec 32 := BitVec.ofNat 32 (i 0).val
  let c14_i32 : BitVec 32 := 14#32
  let c0_i32 : BitVec 32 := 0#32
  ![arg0.toNat, c14_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S16x512x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x384 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x64 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== ProjPromptIdeal.lean ====
abbrev S8x2048x1024 : Shape := ⟨3, ![8, 2048, 1024]⟩
abbrev S1x1024 : Shape := ⟨2, ![1, 1024]⟩
abbrev S1x1024x9160 : Shape := ⟨3, ![1, 1024, 9160]⟩
abbrev S1x64 : Shape := ⟨2, ![1, 64]⟩
abbrev S1024x9160 : Shape := ⟨2, ![1024, 9160]⟩
abbrev S1024x1024 : Shape := ⟨2, ![1024, 1024]⟩
abbrev S1024x256 : Shape := ⟨2, ![1024, 256]⟩
abbrev S1024x512 : Shape := ⟨2, ![1024, 512]⟩
abbrev S1024x72 : Shape := ⟨2, ![1024, 72]⟩
abbrev S1024x3072 : Shape := ⟨2, ![1024, 3072]⟩
abbrev S_ : Shape := ⟨0, ![]⟩
abbrev S1024x56 : Shape := ⟨2, ![1024, 56]⟩
abbrev S1024x128 : Shape := ⟨2, ![1024, 128]⟩
abbrev S1024x5120 : Shape := ⟨2, ![1024, 5120]⟩
abbrev S1024x4224 : Shape := ⟨2, ![1024, 4224]⟩
abbrev S1024x4096 : Shape := ⟨2, ![1024, 4096]⟩
abbrev S1024x4x1024 : Shape := ⟨3, ![1024, 4, 1024]⟩
abbrev S1024x4x16x64 : Shape := ⟨4, ![1024, 4, 16, 64]⟩
abbrev S1024x4x64x16 : Shape := ⟨4, ![1024, 4, 64, 16]⟩
abbrev S16384x1024 : Shape := ⟨2, ![16384, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S16384x4224 : Shape := ⟨2, ![16384, 4224]⟩
abbrev S2048x1024 : Shape := ⟨2, ![2048, 1024]⟩
abbrev S1024x1408 : Shape := ⟨2, ![1024, 1408]⟩
abbrev S2048x1408 : Shape := ⟨2, ![2048, 1408]⟩
abbrev S16384x5120 : Shape := ⟨2, ![16384, 5120]⟩
abbrev S1024x1280 : Shape := ⟨2, ![1024, 1280]⟩
abbrev S2048x1280 : Shape := ⟨2, ![2048, 1280]⟩
abbrev S64 : Shape := ⟨1, ![64]⟩
abbrev S16384x128 : Shape := ⟨2, ![16384, 128]⟩
abbrev S16x16384x64 : Shape := ⟨3, ![16, 16384, 64]⟩
abbrev S16384x512 : Shape := ⟨2, ![16384, 512]⟩
abbrev S16384x384 : Shape := ⟨2, ![16384, 384]⟩
abbrev S16384x64 : Shape := ⟨2, ![16384, 64]⟩
abbrev S512x512 : Shape := ⟨2, ![512, 512]⟩
abbrev S512x256 : Shape := ⟨2, ![512, 256]⟩
abbrev S512x128 : Shape := ⟨2, ![512, 128]⟩
abbrev S16x512x64 : Shape := ⟨3, ![16, 512, 64]⟩
abbrev S512x384 : Shape := ⟨2, ![512, 384]⟩
abbrev S512x64 : Shape := ⟨2, ![512, 64]⟩
abbrev S1x512x64 : Shape := ⟨3, ![1, 512, 64]⟩
abbrev S8x2048x4224 : Shape := ⟨3, ![8, 2048, 4224]⟩
abbrev S8x2048x4096 : Shape := ⟨3, ![8, 2048, 4096]⟩
abbrev S8x2048x4x1024 : Shape := ⟨4, ![8, 2048, 4, 1024]⟩
abbrev S8x2048x4x64x16 : Shape := ⟨5, ![8, 2048, 4, 64, 16]⟩
abbrev S8x2048x4x16x64 : Shape := ⟨5, ![8, 2048, 4, 16, 64]⟩
abbrev S8x2048x128 : Shape := ⟨3, ![8, 2048, 128]⟩
abbrev S1x8x2048x2x64 : Shape := ⟨5, ![1, 8, 2048, 2, 64]⟩
abbrev S1x8x2048x64 : Shape := ⟨4, ![1, 8, 2048, 64]⟩
abbrev S8x1x4224 : Shape := ⟨3, ![8, 1, 4224]⟩
abbrev S8x4224 : Shape := ⟨2, ![8, 4224]⟩
abbrev S1x8x4224 : Shape := ⟨3, ![1, 8, 4224]⟩
abbrev S8x2048x512 : Shape := ⟨3, ![8, 2048, 512]⟩
abbrev S16384x8 : Shape := ⟨2, ![16384, 8]⟩
abbrev S8x2048x8 : Shape := ⟨3, ![8, 2048, 8]⟩
abbrev S16384x3072 : Shape := ⟨2, ![16384, 3072]⟩
abbrev S8x2048x3072 : Shape := ⟨3, ![8, 2048, 3072]⟩

abbrev nBuf : Space → Nat
  | .hbm => 67
  | .vmem => 37
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x9160, .f32⟩
  | .hbm, ⟨3, _⟩ => ⟨S1x64, .f32⟩
  | .hbm, ⟨4, _⟩ => ⟨S1x64, .f32⟩
  | .hbm, ⟨5, _⟩ => ⟨S1024x9160, .f32⟩
  | .hbm, ⟨6, _⟩ => ⟨S1024x1024, .f32⟩
  | .hbm, ⟨7, _⟩ => ⟨S1024x256, .f32⟩
  | .hbm, ⟨8, _⟩ => ⟨S1024x512, .f32⟩
  | .hbm, ⟨9, _⟩ => ⟨S1024x72, .f32⟩
  | .hbm, ⟨10, _⟩ => ⟨S1024x3072, .f32⟩
  | .hbm, ⟨11, _⟩ => ⟨S_, .f32⟩
  | .hbm, ⟨12, _⟩ => ⟨S1024x56, .f32⟩
  | .hbm, ⟨13, _⟩ => ⟨S_, .f32⟩
  | .hbm, ⟨14, _⟩ => ⟨S1024x128, .f32⟩
  | .hbm, ⟨15, _⟩ => ⟨S1024x5120, .f32⟩
  | .hbm, ⟨16, _⟩ => ⟨S1024x5120, .bf16⟩
  | .hbm, ⟨17, _⟩ => ⟨S1024x4224, .f32⟩
  | .hbm, ⟨18, _⟩ => ⟨S1024x4096, .f32⟩
  | .hbm, ⟨19, _⟩ => ⟨S1024x4x1024, .f32⟩
  | .hbm, ⟨20, _⟩ => ⟨S1024x4x16x64, .f32⟩
  | .hbm, ⟨21, _⟩ => ⟨S1024x4x64x16, .f32⟩
  | .hbm, ⟨22, _⟩ => ⟨S1024x4x1024, .f32⟩
  | .hbm, ⟨23, _⟩ => ⟨S1024x4096, .f32⟩
  | .hbm, ⟨24, _⟩ => ⟨S1024x128, .f32⟩
  | .hbm, ⟨25, _⟩ => ⟨S1024x4224, .f32⟩
  | .hbm, ⟨26, _⟩ => ⟨S1024x4224, .bf16⟩
  | .hbm, ⟨27, _⟩ => ⟨S16384x1024, .f32⟩
  | .hbm, ⟨28, _⟩ => ⟨S1024, .f32⟩
  | .hbm, ⟨29, _⟩ => ⟨S1x1024, .f32⟩
  | .hbm, ⟨30, _⟩ => ⟨S16384x1024, .bf16⟩
  | .hbm, ⟨31, _⟩ => ⟨S16384x4224, .f32⟩
  | .hbm, ⟨32, _⟩ => ⟨S16384x5120, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S1x64, .f32⟩
  | .hbm, ⟨37, _⟩ => ⟨S16384x128, .f32⟩
  | .hbm, ⟨38, _⟩ => ⟨S16x16384x64, .bf16⟩
  | .hbm, ⟨39, _⟩ => ⟨S16384x512, .bf16⟩
  | .hbm, ⟨40, _⟩ => ⟨S16384x384, .bf16⟩
  | .hbm, ⟨41, _⟩ => ⟨S16384x64, .bf16⟩
  | .hbm, ⟨42, _⟩ => ⟨S16384x128, .f32⟩
  | .hbm, ⟨43, _⟩ => ⟨S16384x64, .f32⟩
  | .hbm, ⟨44, _⟩ => ⟨S8x2048x4224, .f32⟩
  | .hbm, ⟨45, _⟩ => ⟨S8x2048x4096, .f32⟩
  | .hbm, ⟨46, _⟩ => ⟨S8x2048x4x1024, .f32⟩
  | .hbm, ⟨47, _⟩ => ⟨S8x2048x4x64x16, .f32⟩
  | .hbm, ⟨48, _⟩ => ⟨S8x2048x4x16x64, .f32⟩
  | .hbm, ⟨49, _⟩ => ⟨S8x2048x4x1024, .f32⟩
  | .hbm, ⟨50, _⟩ => ⟨S8x2048x4096, .f32⟩
  | .hbm, ⟨51, _⟩ => ⟨S8x2048x128, .f32⟩
  | .hbm, ⟨52, _⟩ => ⟨S8x2048x4224, .f32⟩
  | .hbm, ⟨53, _⟩ => ⟨S1x8x2048x2x64, .f32⟩
  | .hbm, ⟨54, _⟩ => ⟨S1x8x2048x2x64, .f32⟩
  | .hbm, ⟨55, _⟩ => ⟨S1x8x2048x64, .f32⟩
  | .hbm, ⟨56, _⟩ => ⟨S8x1x4224, .f32⟩
  | .hbm, ⟨57, _⟩ => ⟨S8x4224, .f32⟩
  | .hbm, ⟨58, _⟩ => ⟨S1x8x4224, .f32⟩
  | .hbm, ⟨59, _⟩ => ⟨S16384x1024, .f32⟩
  | .hbm, ⟨60, _⟩ => ⟨S8x2048x1024, .f32⟩
  | .hbm, ⟨61, _⟩ => ⟨S16384x512, .f32⟩
  | .hbm, ⟨62, _⟩ => ⟨S8x2048x512, .f32⟩
  | .hbm, ⟨63, _⟩ => ⟨S16384x8, .f32⟩
  | .hbm, ⟨64, _⟩ => ⟨S8x2048x8, .f32⟩
  | .hbm, ⟨65, _⟩ => ⟨S16384x3072, .f32⟩
  | .hbm, ⟨66, _⟩ => ⟨S8x2048x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1408, .bf16⟩
  | .local _ .vmem, ⟨8, _⟩ => ⟨S1024x1408, .bf16⟩
  | .local _ .vmem, ⟨9, _⟩ => ⟨S2048x1408, .f32⟩
  | .local _ .vmem, ⟨10, _⟩ => ⟨S2048x1408, .f32⟩
  | .local _ .vmem, ⟨11, _⟩ => ⟨S2048x1024, .bf16⟩
  | .local _ .vmem, ⟨12, _⟩ => ⟨S2048x1024, .bf16⟩
  | .local _ .vmem, ⟨13, _⟩ => ⟨S1024x1280, .bf16⟩
  | .local _ .vmem, ⟨14, _⟩ => ⟨S1024x1280, .bf16⟩
  | .local _ .vmem, ⟨15, _⟩ => ⟨S2048x1280, .f32⟩
  | .local _ .vmem, ⟨16, _⟩ => ⟨S2048x1280, .f32⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | .local _ .vmem, ⟨21, _⟩ => ⟨S512x256, .f32⟩
  | .local _ .vmem, ⟨22, _⟩ => ⟨S512x256, .f32⟩
  | .local _ .vmem, ⟨23, _⟩ => ⟨S512x128, .f32⟩
  | .local _ .vmem, ⟨24, _⟩ => ⟨S512x128, .f32⟩
  | .local _ .vmem, ⟨25, _⟩ => ⟨S1x64, .f32⟩
  | .local _ .vmem, ⟨26, _⟩ => ⟨S1x64, .f32⟩
  | .local _ .vmem, ⟨27, _⟩ => ⟨S512x128, .f32⟩
  | .local _ .vmem, ⟨28, _⟩ => ⟨S512x128, .f32⟩
  | .local _ .vmem, ⟨29, _⟩ => ⟨S16x512x64, .bf16⟩
  | .local _ .vmem, ⟨30, _⟩ => ⟨S16x512x64, .bf16⟩
  | .local _ .vmem, ⟨31, _⟩ => ⟨S512x512, .bf16⟩
  | .local _ .vmem, ⟨32, _⟩ => ⟨S512x512, .bf16⟩
  | .local _ .vmem, ⟨33, _⟩ => ⟨S512x384, .bf16⟩
  | .local _ .vmem, ⟨34, _⟩ => ⟨S512x384, .bf16⟩
  | .local _ .vmem, ⟨35, _⟩ => ⟨S512x64, .bf16⟩
  | .local _ .vmem, ⟨36, _⟩ => ⟨S512x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc3_stg7_1 : Ref sig .tc := ⟨.vmem, 30, rfl⟩
abbrev cc3_stg8_0 : Ref sig .tc := ⟨.vmem, 31, rfl⟩
abbrev cc3_stg8_1 : Ref sig .tc := ⟨.vmem, 32, rfl⟩
abbrev cc3_stg9_0 : Ref sig .tc := ⟨.vmem, 33, rfl⟩
abbrev cc3_stg9_1 : Ref sig .tc := ⟨.vmem, 34, rfl⟩
abbrev cc3_stg10_0 : Ref sig .tc := ⟨.vmem, 35, rfl⟩
abbrev cc3_stg10_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem5_0 : DmaSem sig := 26
abbrev cc3_sem6_0 : DmaSem sig := 27
abbrev cc3_sem6_1 : DmaSem sig := 28
abbrev cc3_sem7_0 : DmaSem sig := 29
abbrev cc3_sem7_1 : DmaSem sig := 30
abbrev cc3_sem8_0 : DmaSem sig := 31
abbrev cc3_sem8_1 : DmaSem sig := 32
abbrev cc3_sem9_0 : DmaSem sig := 33
abbrev cc3_sem9_1 : DmaSem sig := 34
abbrev cc3_sem10_0 : DmaSem sig := 35
abbrev cc3_sem10_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

def cc3_transform_2 (i : grid3.Coords) : Fin 2 → Nat :=
  let arg0 : BitVec 32 := BitVec.ofNat 32 (i 0).val
  let c6_i32 : BitVec 32 := 6#32
  let c0_i32 : BitVec 32 := 0#32
  ![arg0.toNat, c6_i32.toNat]

def cc3_transform_3 (i : grid3.Coords) : Fin 2 → Nat :=
  let arg0 : BitVec 32 := BitVec.ofNat 32 (i 0).val
  let c14_i32 : BitVec 32 := 14#32
  let c0_i32 : BitVec 32 := 0#32
  ![arg0.toNat, c14_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S16x512x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x384 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x64 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]
-- ==== ProjRefPromptIdeal.lean ====
abbrev S8x2048x1024 : Shape := ⟨3, ![8, 2048, 1024]⟩
abbrev S1x1024 : Shape := ⟨2, ![1, 1024]⟩
abbrev S1x1024x9160 : Shape := ⟨3, ![1, 1024, 9160]⟩
abbrev S1x64 : Shape := ⟨2, ![1, 64]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x9160 : Shape := ⟨2, ![1024, 9160]⟩
abbrev S8x2048x9160 : Shape := ⟨3, ![8, 2048, 9160]⟩
abbrev S8x2048x4224 : Shape := ⟨3, ![8, 2048, 4224]⟩
abbrev S8x2048x128 : Shape := ⟨3, ![8, 2048, 128]⟩
abbrev S8x2048x512 : Shape := ⟨3, ![8, 2048, 512]⟩
abbrev S8x2048x64 : Shape := ⟨3, ![8, 2048, 64]⟩
abbrev S8x2048x8 : Shape := ⟨3, ![8, 2048, 8]⟩
abbrev S8x2048x3072 : Shape := ⟨3, ![8, 2048, 3072]⟩
abbrev S8x2048x2x64 : Shape := ⟨4, ![8, 2048, 2, 64]⟩
abbrev S64 : Shape := ⟨1, ![64]⟩
abbrev S8x2048x2 : Shape := ⟨3, ![8, 2048, 2]⟩
abbrev S8x2048x2x1 : Shape := ⟨4, ![8, 2048, 2, 1]⟩
abbrev S1x1x1x64 : Shape := ⟨4, ![1, 1, 1, 64]⟩
abbrev S1x8x2048x2x64 : Shape := ⟨5, ![1, 8, 2048, 2, 64]⟩
abbrev S1x8x2048x64 : Shape := ⟨4, ![1, 8, 2048, 64]⟩
abbrev S8x1x4224 : Shape := ⟨3, ![8, 1, 4224]⟩
abbrev S8x4224 : Shape := ⟨2, ![8, 4224]⟩
abbrev S1x8x4224 : Shape := ⟨3, ![1, 8, 4224]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x9160, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x9160, .f32⟩
  | .hbm, ⟨23, _⟩ => ⟨S8x2048x9160, .f32⟩
  | .hbm, ⟨24, _⟩ => ⟨S8x2048x4224, .f32⟩
  | .hbm, ⟨25, _⟩ => ⟨S8x2048x1024, .f32⟩
  | .hbm, ⟨26, _⟩ => ⟨S8x2048x128, .f32⟩
  | .hbm, ⟨27, _⟩ => ⟨S8x2048x128, .f32⟩
  | .hbm, ⟨28, _⟩ => ⟨S8x2048x512, .f32⟩
  | .hbm, ⟨29, _⟩ => ⟨S8x2048x64, .f32⟩
  | .hbm, ⟨30, _⟩ => ⟨S8x2048x8, .f32⟩
  | .hbm, ⟨31, _⟩ => ⟨S8x2048x3072, .f32⟩
  | .hbm, ⟨32, _⟩ => ⟨S8x2048x2x64, .f32⟩
  | .hbm, ⟨33, _⟩ => ⟨S64, .f32⟩
  | .hbm, ⟨34, _⟩ => ⟨S8x2048x2x64, .f32⟩
  | .hbm, ⟨35, _⟩ => ⟨S_, .f32⟩
  | .hbm, ⟨36, _⟩ => ⟨S8x2048x2, .f32⟩
  | .hbm, ⟨37, _⟩ => ⟨S8x2048x2x1, .f32⟩
  | .hbm, ⟨38, _⟩ => ⟨S_, .f32⟩
  | .hbm, ⟨39, _⟩ => ⟨S8x2048x2x1, .f32⟩
  | .hbm, ⟨40, _⟩ => ⟨S8x2048x2x1, .f32⟩
  | .hbm, ⟨41, _⟩ => ⟨S_, .f32⟩
  | .hbm, ⟨42, _⟩ => ⟨S8x2048x2x1, .f32⟩
  | .hbm, ⟨43, _⟩ => ⟨S8x2048x2x1, .f32⟩
  | .hbm, ⟨44, _⟩ => ⟨S8x2048x2x1, .f32⟩
  | .hbm, ⟨45, _⟩ => ⟨S8x2048x2x64, .f32⟩
  | .hbm, ⟨46, _⟩ => ⟨S8x2048x2x64, .f32⟩
  | .hbm, ⟨47, _⟩ => ⟨S1x1x1x64, .f32⟩
  | .hbm, ⟨48, _⟩ => ⟨S8x2048x2x64, .f32⟩
  | .hbm, ⟨49, _⟩ => ⟨S8x2048x2x64, .f32⟩
  | .hbm, ⟨50, _⟩ => ⟨S1x8x2048x2x64, .f32⟩
  | .hbm, ⟨51, _⟩ => ⟨S8x2048x2x64, .f32⟩
  | .hbm, ⟨52, _⟩ => ⟨S1x8x2048x2x64, .f32⟩
  | .hbm, ⟨53, _⟩ => ⟨S1x8x2048x64, .f32⟩
  | .hbm, ⟨54, _⟩ => ⟨S8x1x4224, .f32⟩
  | .hbm, ⟨55, _⟩ => ⟨S8x4224, .f32⟩
  | .hbm, ⟨56, _⟩ => ⟨S1x8x4224, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== ProjSample.lean ====
abbrev S128x4x1024 : Shape := ⟨3, ![128, 4, 1024]⟩
abbrev S1x1024 : Shape := ⟨2, ![1, 1024]⟩
abbrev S1x1024x9160 : Shape := ⟨3, ![1, 1024, 9160]⟩
abbrev S1x64 : Shape := ⟨2, ![1, 64]⟩
abbrev S1024x9160 : Shape := ⟨2, ![1024, 9160]⟩
abbrev S1024x1024 : Shape := ⟨2, ![1024, 1024]⟩
abbrev S1024x256 : Shape := ⟨2, ![1024, 256]⟩
abbrev S1024x512 : Shape := ⟨2, ![1024, 512]⟩
abbrev S1024x72 : Shape := ⟨2, ![1024, 72]⟩
abbrev S1024x3072 : Shape := ⟨2, ![1024, 3072]⟩
abbrev S_ : Shape := ⟨0, ![]⟩
abbrev S1024x56 : Shape := ⟨2, ![1024, 56]⟩
abbrev S1024x128 : Shape := ⟨2, ![1024, 128]⟩
abbrev S1024x5120 : Shape := ⟨2, ![1024, 5120]⟩
abbrev S1024x4224 : Shape := ⟨2, ![1024, 4224]⟩
abbrev S1024x4096 : Shape := ⟨2, ![1024, 4096]⟩
abbrev S1024x4x1024 : Shape := ⟨3, ![1024, 4, 1024]⟩
abbrev S1024x4x16x64 : Shape := ⟨4, ![1024, 4, 16, 64]⟩
abbrev S1024x4x64x16 : Shape := ⟨4, ![1024, 4, 64, 16]⟩
abbrev S512x1024 : Shape := ⟨2, ![512, 1024]⟩
abbrev S1024 : Shape := ⟨1, ![1024]⟩
abbrev S512 : Shape := ⟨1, ![512]⟩
abbrev S512x1 : Shape := ⟨2, ![512, 1]⟩
abbrev S512x4224 : Shape := ⟨2, ![512, 4224]⟩
abbrev S1024x1408 : Shape := ⟨2, ![1024, 1408]⟩
abbrev S512x1408 : Shape := ⟨2, ![512, 1408]⟩
abbrev S512x5120 : Shape := ⟨2, ![512, 5120]⟩
abbrev S1024x1280 : Shape := ⟨2, ![1024, 1280]⟩
abbrev S512x1280 : Shape := ⟨2, ![512, 1280]⟩
abbrev S64 : Shape := ⟨1, ![64]⟩
abbrev S512x128 : Shape := ⟨2, ![512, 128]⟩
abbrev S16x512x64 : Shape := ⟨3, ![16, 512, 64]⟩
abbrev S512x512 : Shape := ⟨2, ![512, 512]⟩
abbrev S512x384 : Shape := ⟨2, ![512, 384]⟩
abbrev S512x64 : Shape := ⟨2, ![512, 64]⟩
abbrev S512x256 : Shape := ⟨2, ![512, 256]⟩
abbrev S1x512x64 : Shape := ⟨3, ![1, 512, 64]⟩
abbrev S128x4x4224 : Shape := ⟨3, ![128, 4, 4224]⟩
abbrev S128x4x4096 : Shape := ⟨3, ![128, 4, 4096]⟩
abbrev S128x4x4x1024 : Shape := ⟨4, ![128, 4, 4, 1024]⟩
abbrev S128x4x4x64x16 : Shape := ⟨5, ![128, 4, 4, 64, 16]⟩
abbrev S128x4x4x16x64 : Shape := ⟨5, ![128, 4, 4, 16, 64]⟩
abbrev S128x4x128 : Shape := ⟨3, ![128, 4, 128]⟩
abbrev S1x128x4x2x64 : Shape := ⟨5, ![1, 128, 4, 2, 64]⟩
abbrev S1x128x4x64 : Shape := ⟨4, ![1, 128, 4, 64]⟩
abbrev S128x1x4224 : Shape := ⟨3, ![128, 1, 4224]⟩
abbrev S128x4224 : Shape := ⟨2, ![128, 4224]⟩
abbrev S1x128x4224 : Shape := ⟨3, ![1, 128, 4224]⟩
abbrev S128x4x512 : Shape := ⟨3, ![128, 4, 512]⟩
abbrev S512x8 : Shape := ⟨2, ![512, 8]⟩
abbrev S128x4x8 : Shape := ⟨3, ![128, 4, 8]⟩
abbrev S512x3072 : Shape := ⟨2, ![512, 3072]⟩
abbrev S128x4x3072 : Shape := ⟨3, ![128, 4, 3072]⟩

abbrev nBuf : Space → Nat
  | .hbm => 67
  | .vmem => 24
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x9160, .f32⟩
  | .hbm, ⟨3, _⟩ => ⟨S1x64, .f32⟩
  | .hbm, ⟨4, _⟩ => ⟨S1x64, .f32⟩
  | .hbm, ⟨5, _⟩ => ⟨S1024x9160, .f32⟩
  | .hbm, ⟨6, _⟩ => ⟨S1024x1024, .f32⟩
  | .hbm, ⟨7, _⟩ => ⟨S1024x256, .f32⟩
  | .hbm, ⟨8, _⟩ => ⟨S1024x512, .f32⟩
  | .hbm, ⟨9, _⟩ => ⟨S1024x72, .f32⟩
  | .hbm, ⟨10, _⟩ => ⟨S1024x3072, .f32⟩
  | .hbm, ⟨11, _⟩ => ⟨S_, .f32⟩
  | .hbm, ⟨12, _⟩ => ⟨S1024x56, .f32⟩
  | .hbm, ⟨13, _⟩ => ⟨S_, .f32⟩
  | .hbm, ⟨14, _⟩ => ⟨S1024x128, .f32⟩
  | .hbm, ⟨15, _⟩ => ⟨S1024x5120, .f32⟩
  | .hbm, ⟨16, _⟩ => ⟨S1024x5120, .bf16⟩
  | .hbm, ⟨17, _⟩ => ⟨S1024x4224, .f32⟩
  | .hbm, ⟨18, _⟩ => ⟨S1024x4096, .f32⟩
  | .hbm, ⟨19, _⟩ => ⟨S1024x4x1024, .f32⟩
  | .hbm, ⟨20, _⟩ => ⟨S1024x4x16x64, .f32⟩
  | .hbm, ⟨21, _⟩ => ⟨S1024x4x64x16, .f32⟩
  | .hbm, ⟨22, _⟩ => ⟨S1024x4x1024, .f32⟩
  | .hbm, ⟨23, _⟩ => ⟨S1024x4096, .f32⟩
  | .hbm, ⟨24, _⟩ => ⟨S1024x128, .f32⟩
  | .hbm, ⟨25, _⟩ => ⟨S1024x4224, .f32⟩
  | .hbm, ⟨26, _⟩ => ⟨S1024x4224, .bf16⟩
  | .hbm, ⟨27, _⟩ => ⟨S512x1024, .f32⟩
  | .hbm, ⟨28, _⟩ => ⟨S1024, .f32⟩
  | .hbm, ⟨29, _⟩ => ⟨S1x1024, .f32⟩
  | .hbm, ⟨30, _⟩ => ⟨S512x1024, .bf16⟩
  | .hbm, ⟨31, _⟩ => ⟨S512x4224, .f32⟩
  | .hbm, ⟨32, _⟩ => ⟨S512x5120, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S1x64, .f32⟩
  | .hbm, ⟨37, _⟩ => ⟨S512x128, .f32⟩
  | .hbm, ⟨38, _⟩ => ⟨S16x512x64, .bf16⟩
  | .hbm, ⟨39, _⟩ => ⟨S512x512, .bf16⟩
  | .hbm, ⟨40, _⟩ => ⟨S512x384, .bf16⟩
  | .hbm, ⟨41, _⟩ => ⟨S512x64, .bf16⟩
  | .hbm, ⟨42, _⟩ => ⟨S512x128, .f32⟩
  | .hbm, ⟨43, _⟩ => ⟨S512x64, .f32⟩
  | .hbm, ⟨44, _⟩ => ⟨S128x4x4224, .f32⟩
  | .hbm, ⟨45, _⟩ => ⟨S128x4x4096, .f32⟩
  | .hbm, ⟨46, _⟩ => ⟨S128x4x4x1024, .f32⟩
  | .hbm, ⟨47, _⟩ => ⟨S128x4x4x64x16, .f32⟩
  | .hbm, ⟨48, _⟩ => ⟨S128x4x4x16x64, .f32⟩
  | .hbm, ⟨49, _⟩ => ⟨S128x4x4x1024, .f32⟩
  | .hbm, ⟨50, _⟩ => ⟨S128x4x4096, .f32⟩
  | .hbm, ⟨51, _⟩ => ⟨S128x4x128, .f32⟩
  | .hbm, ⟨52, _⟩ => ⟨S128x4x4224, .f32⟩
  | .hbm, ⟨53, _⟩ => ⟨S1x128x4x2x64, .f32⟩
  | .hbm, ⟨54, _⟩ => ⟨S1x128x4x2x64, .f32⟩
  | .hbm, ⟨55, _⟩ => ⟨S1x128x4x64, .f32⟩
  | .hbm, ⟨56, _⟩ => ⟨S128x1x4224, .f32⟩
  | .hbm, ⟨57, _⟩ => ⟨S128x4224, .f32⟩
  | .hbm, ⟨58, _⟩ => ⟨S1x128x4224, .f32⟩
  | .hbm, ⟨59, _⟩ => ⟨S512x1024, .f32⟩
  | .hbm, ⟨60, _⟩ => ⟨S128x4x1024, .f32⟩
  | .hbm, ⟨61, _⟩ => ⟨S512x512, .f32⟩
  | .hbm, ⟨62, _⟩ => ⟨S128x4x512, .f32⟩
  | .hbm, ⟨63, _⟩ => ⟨S512x8, .f32⟩
  | .hbm, ⟨64, _⟩ => ⟨S128x4x8, .f32⟩
  | .hbm, ⟨65, _⟩ => ⟨S512x3072, .f32⟩
  | .hbm, ⟨66, _⟩ => ⟨S128x4x3072, .f32⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1024, .bf16⟩
  | .local _ .vmem, ⟨9, _⟩ => ⟨S1024x1280, .bf16⟩
  | .local _ .vmem, ⟨10, _⟩ => ⟨S1024x1280, .bf16⟩
  | .local _ .vmem, ⟨11, _⟩ => ⟨S512x1280, .f32⟩
  | .local _ .vmem, ⟨12, _⟩ => ⟨S512x1280, .f32⟩
  | .local _ .vmem, ⟨13, _⟩ => ⟨S512x1024, .f32⟩
  | .local _ .vmem, ⟨14, _⟩ => ⟨S512x512, .f32⟩
  | .local _ .vmem, ⟨15, _⟩ => ⟨S512x256, .f32⟩
  | .local _ .vmem, ⟨16, _⟩ => ⟨S512x128, .f32⟩
  | .local _ .vmem, ⟨17, _⟩ => ⟨S1x64, .f32⟩
  | .local _ .vmem, ⟨18, _⟩ => ⟨S1x64, .f32⟩
  | .local _ .vmem, ⟨19, _⟩ => ⟨S512x128, .f32⟩
  | .local _ .vmem, ⟨20, _⟩ => ⟨S16x512x64, .bf16⟩
  | .local _ .vmem, ⟨21, _⟩ => ⟨S512x512, .bf16⟩
  | .local _ .vmem, ⟨22, _⟩ => ⟨S512x384, .bf16⟩
  | .local _ .vmem, ⟨23, _⟩ => ⟨S512x64, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg4_0 : Ref sig .tc := ⟨.vmem, 17, rfl⟩
abbrev cc3_stg5_0 : Ref sig .tc := ⟨.vmem, 18, rfl⟩
abbrev cc3_stg6_0 : Ref sig .tc := ⟨.vmem, 19, rfl⟩
abbrev cc3_stg7_0 : Ref sig .tc := ⟨.vmem, 20, rfl⟩
abbrev cc3_stg8_0 : Ref sig .tc := ⟨.vmem, 21, rfl⟩
abbrev cc3_stg9_0 : Ref sig .tc := ⟨.vmem, 22, rfl⟩
abbrev cc3_stg10_0 : Ref sig .tc := ⟨.vmem, 23, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc3_sem0_0 : DmaSem sig := 13
abbrev cc3_sem1_0 : DmaSem sig := 14
abbrev cc3_sem2_0 : DmaSem sig := 15
abbrev cc3_sem3_0 : DmaSem sig := 16
abbrev cc3_sem4_0 : DmaSem sig := 17
abbrev cc3_sem5_0 : DmaSem sig := 18
abbrev cc3_sem6_0 : DmaSem sig := 19
abbrev cc3_sem7_0 : DmaSem sig := 20
abbrev cc3_sem8_0 : DmaSem sig := 21
abbrev cc3_sem9_0 : DmaSem sig := 22
abbrev cc3_sem10_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1024x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c2_i32 : BitVec 32 := 2#32
  let c0_i32 : BitVec 32 := 0#32
  ![arg0.toNat, c2_i32.toNat]

def cc3_transform_2 (i : grid3.Coords) : Fin 2 → Nat :=
  let arg0 : BitVec 32 := BitVec.ofNat 32 (i 0).val
  let c6_i32 : BitVec 32 := 6#32
  let c0_i32 : BitVec 32 := 0#32
  ![arg0.toNat, c6_i32.toNat]

def cc3_transform_3 (i : grid3.Coords) : Fin 2 → Nat :=
  let arg0 : BitVec 32 := BitVec.ofNat 32 (i 0).val
  let c14_i32 : BitVec 32 := 14#32
  let c0_i32 : BitVec 32 := 0#32
  ![arg0.toNat, c14_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S512x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S16x512x64 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev stage3_8 : Fin 1 → Memref sig .tc .vmem S512x512 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![true]

abbrev stage3_9 : Fin 1 → Memref sig .tc .vmem S512x384 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![true]

abbrev stage3_10 : Fin 1 → Memref sig .tc .vmem S512x64 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![true]
-- ==== ProjRefSampleIdeal.lean ====
abbrev S128x4x1024 : Shape := ⟨3, ![128, 4, 1024]⟩
abbrev S1x1024 : Shape := ⟨2, ![1, 1024]⟩
abbrev S1x1024x9160 : Shape := ⟨3, ![1, 1024, 9160]⟩
abbrev S1x64 : Shape := ⟨2, ![1, 64]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x9160 : Shape := ⟨2, ![1024, 9160]⟩
abbrev S128x4x9160 : Shape := ⟨3, ![128, 4, 9160]⟩
abbrev S128x4x4224 : Shape := ⟨3, ![128, 4, 4224]⟩
abbrev S128x4x128 : Shape := ⟨3, ![128, 4, 128]⟩
abbrev S128x4x512 : Shape := ⟨3, ![128, 4, 512]⟩
abbrev S128x4x64 : Shape := ⟨3, ![128, 4, 64]⟩
abbrev S128x4x8 : Shape := ⟨3, ![128, 4, 8]⟩
abbrev S128x4x3072 : Shape := ⟨3, ![128, 4, 3072]⟩
abbrev S128x4x2x64 : Shape := ⟨4, ![128, 4, 2, 64]⟩
abbrev S64 : Shape := ⟨1, ![64]⟩
abbrev S128x4x2 : Shape := ⟨3, ![128, 4, 2]⟩
abbrev S128x4x2x1 : Shape := ⟨4, ![128, 4, 2, 1]⟩
abbrev S1x1x1x64 : Shape := ⟨4, ![1, 1, 1, 64]⟩
abbrev S1x128x4x2x64 : Shape := ⟨5, ![1, 128, 4, 2, 64]⟩
abbrev S1x128x4x64 : Shape := ⟨4, ![1, 128, 4, 64]⟩
abbrev S128x1x4224 : Shape := ⟨3, ![128, 1, 4224]⟩
abbrev S128x4224 : Shape := ⟨2, ![128, 4224]⟩
abbrev S1x128x4224 : Shape := ⟨3, ![1, 128, 4224]⟩

abbrev nBuf : Space → Nat
  | .hbm => 57
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024, .f32⟩
  | .hbm, ⟨2, _⟩ => ⟨S1x1024x9160, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S128x4x1024, .f32⟩
  | .hbm, ⟨7, _⟩ => ⟨S_, .f32⟩
  | .hbm, ⟨8, _⟩ => ⟨S128x4, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S128x4x1, .f32⟩
  | .hbm, ⟨17, _⟩ => ⟨S128x4x1024, .f32⟩
  | .hbm, ⟨18, _⟩ => ⟨S128x4x1024, .f32⟩
  | .hbm, ⟨19, _⟩ => ⟨S1x1x1024, .f32⟩
  | .hbm, ⟨20, _⟩ => ⟨S128x4x1024, .f32⟩
  | .hbm, ⟨21, _⟩ => ⟨S128x4x1024, .f32⟩
  | .hbm, ⟨22, _⟩ => ⟨S1024x9160, .f32⟩
  | .hbm, ⟨23, _⟩ => ⟨S128x4x9160, .f32⟩
  | .hbm, ⟨24, _⟩ => ⟨S128x4x4224, .f32⟩
  | .hbm, ⟨25, _⟩ => ⟨S128x4x1024, .f32⟩
  | .hbm, ⟨26, _⟩ => ⟨S128x4x128, .f32⟩
  | .hbm, ⟨27, _⟩ => ⟨S128x4x128, .f32⟩
  | .hbm, ⟨28, _⟩ => ⟨S128x4x512, .f32⟩
  | .hbm, ⟨29, _⟩ => ⟨S128x4x64, .f32⟩
  | .hbm, ⟨30, _⟩ => ⟨S128x4x8, .f32⟩
  | .hbm, ⟨31, _⟩ => ⟨S128x4x3072, .f32⟩
  | .hbm, ⟨32, _⟩ => ⟨S128x4x2x64, .f32⟩
  | .hbm, ⟨33, _⟩ => ⟨S64, .f32⟩
  | .hbm, ⟨34, _⟩ => ⟨S128x4x2x64, .f32⟩
  | .hbm, ⟨35, _⟩ => ⟨S_, .f32⟩
  | .hbm, ⟨36, _⟩ => ⟨S128x4x2, .f32⟩
  | .hbm, ⟨37, _⟩ => ⟨S128x4x2x1, .f32⟩
  | .hbm, ⟨38, _⟩ => ⟨S_, .f32⟩
  | .hbm, ⟨39, _⟩ => ⟨S128x4x2x1, .f32⟩
  | .hbm, ⟨40, _⟩ => ⟨S128x4x2x1, .f32⟩
  | .hbm, ⟨41, _⟩ => ⟨S_, .f32⟩
  | .hbm, ⟨42, _⟩ => ⟨S128x4x2x1, .f32⟩
  | .hbm, ⟨43, _⟩ => ⟨S128x4x2x1, .f32⟩
  | .hbm, ⟨44, _⟩ => ⟨S128x4x2x1, .f32⟩
  | .hbm, ⟨45, _⟩ => ⟨S128x4x2x64, .f32⟩
  | .hbm, ⟨46, _⟩ => ⟨S128x4x2x64, .f32⟩
  | .hbm, ⟨47, _⟩ => ⟨S1x1x1x64, .f32⟩
  | .hbm, ⟨48, _⟩ => ⟨S128x4x2x64, .f32⟩
  | .hbm, ⟨49, _⟩ => ⟨S128x4x2x64, .f32⟩
  | .hbm, ⟨50, _⟩ => ⟨S1x128x4x2x64, .f32⟩
  | .hbm, ⟨51, _⟩ => ⟨S128x4x2x64, .f32⟩
  | .hbm, ⟨52, _⟩ => ⟨S1x128x4x2x64, .f32⟩
  | .hbm, ⟨53, _⟩ => ⟨S1x128x4x64, .f32⟩
  | .hbm, ⟨54, _⟩ => ⟨S128x1x4224, .f32⟩
  | .hbm, ⟨55, _⟩ => ⟨S128x4224, .f32⟩
  | .hbm, ⟨56, _⟩ => ⟨S1x128x4224, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== MergePrompt.lean ====
abbrev S16384x1024 : Shape := ⟨2, ![16384, 1024]⟩
abbrev S16384x5120 : Shape := ⟨2, ![16384, 5120]⟩
abbrev S1x1024x1024 : Shape := ⟨3, ![1, 1024, 1024]⟩
abbrev S1024x1024 : Shape := ⟨2, ![1024, 1024]⟩
abbrev S16x64x1024 : Shape := ⟨3, ![16, 64, 1024]⟩
abbrev S64x16x1024 : Shape := ⟨3, ![64, 16, 1024]⟩
abbrev S256x1024 : Shape := ⟨2, ![256, 1024]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x5120, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S16x64x1024, .f32⟩
  | .hbm, ⟨10, _⟩ => ⟨S64x16x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergePromptIdeal.lean ====
abbrev S16384x1024 : Shape := ⟨2, ![16384, 1024]⟩
abbrev S16384x5120 : Shape := ⟨2, ![16384, 5120]⟩
abbrev S1x1024x1024 : Shape := ⟨3, ![1, 1024, 1024]⟩
abbrev S1024x1024 : Shape := ⟨2, ![1024, 1024]⟩
abbrev S16x64x1024 : Shape := ⟨3, ![16, 64, 1024]⟩
abbrev S64x16x1024 : Shape := ⟨3, ![64, 16, 1024]⟩
abbrev S256x1024 : Shape := ⟨2, ![256, 1024]⟩

abbrev nBuf : Space → Nat
  | .hbm => 18
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x5120, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S16x64x1024, .f32⟩
  | .hbm, ⟨10, _⟩ => ⟨S64x16x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefPromptIdeal.lean ====
abbrev S16384x1024 : Shape := ⟨2, ![16384, 1024]⟩
abbrev S16384x5120 : Shape := ⟨2, ![16384, 5120]⟩
abbrev S1x1024x1024 : Shape := ⟨3, ![1, 1024, 1024]⟩
abbrev S16384x64x16 : Shape := ⟨3, ![16384, 64, 16]⟩
abbrev S16384x16x64 : Shape := ⟨3, ![16384, 16, 64]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x5120, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S16384x1024, .f32⟩
  | .hbm, ⟨9, _⟩ => ⟨S16384x64x16, .f32⟩
  | .hbm, ⟨10, _⟩ => ⟨S16384x16x64, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S1024x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== MergeSample.lean ====
abbrev S512x1024 : Shape := ⟨2, ![512, 1024]⟩
abbrev S512x5120 : Shape := ⟨2, ![512, 5120]⟩
abbrev S1x1024x1024 : Shape := ⟨3, ![1, 1024, 1024]⟩
abbrev S1024x1024 : Shape := ⟨2, ![1024, 1024]⟩
abbrev S16x64x1024 : Shape := ⟨3, ![16, 64, 1024]⟩
abbrev S64x16x1024 : Shape := ⟨3, ![64, 16, 1024]⟩
abbrev S256x1024 : Shape := ⟨2, ![256, 1024]⟩

abbrev nBuf : Space → Nat
  | .hbm => 18
  | .vmem => 17
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x5120, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S16x64x1024, .f32⟩
  | .hbm, ⟨10, _⟩ => ⟨S64x16x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefSampleIdeal.lean ====
abbrev S512x1024 : Shape := ⟨2, ![512, 1024]⟩
abbrev S512x5120 : Shape := ⟨2, ![512, 5120]⟩
abbrev S1x1024x1024 : Shape := ⟨3, ![1, 1024, 1024]⟩
abbrev S512x64x16 : Shape := ⟨3, ![512, 64, 16]⟩
abbrev S512x16x64 : Shape := ⟨3, ![512, 16, 64]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x5120, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S512x1024, .f32⟩
  | .hbm, ⟨9, _⟩ => ⟨S512x64x16, .f32⟩
  | .hbm, ⟨10, _⟩ => ⟨S512x16x64, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S1024x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S1024x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S1024x1024, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.Table.lean ====
/-
   The page table of the indexer: the precondition bounds every entry, and every window the table selects then lies
   inside the page cache.
-/
module

public import proofs.«01_k».proof.Defs
public import proofs.«01_k».proof.Proof.Gen.Scores.Frame
public import proofs.«01_k».proof.Proof.Gen.ScoresIdeal.Frame
public import proofs.«01_k».proof.Proof.Gen.Pre_scores_table_in_range

@[expose] public section

set_option maxRecDepth 16384

namespace Cert.Table

open Idealize.ShloMosaic Idealize.SL.Sem

/-- A word between 0 and 2559 in the signed order is less than 2560 as a natural number. -/
theorem word_lt (v : BitVec 32) (h0 : IntOp.cmpi .sge v 0#32 = 1#1) (h1 : IntOp.cmpi .slt v 2560#32 = 1#1) :
    v.toNat < 2560 := by
  have ofBool_eq_one (p : Bool) : (BitVec.ofBool p = 1#1) ↔ p = true := by cases p <;> decide
  simp only [ofBool_eq_one, IntOp.cmpi, BitVec.sle, BitVec.slt, decide_eq_true_eq, BitVec.toInt, BitVec.toNat_ofNat] at h0 h1
  omega

/-- Where the precondition's predicate is one everywhere, every table entry names a page of the cache. -/
theorem entry_lt {F : FTy → Type} [FloatOps F] (q : FVec F Cert.Pre_scores_table_in_range.S512x5120 .f32)
    (k : FVec F Cert.Pre_scores_table_in_range.S1x2560x128x64 .f32) (tbl : IVec Cert.Pre_scores_table_in_range.S128x16 32)
    (h : Cert.Pre_scores_table_in_range.fn (F := F) q k tbl = fun _ => 1#1) (w : Cert.Pre_scores_table_in_range.S128x16.Idx) :
    (tbl w).toNat < 2560 := by
  have andi_one (a b : BitVec 1) : IntOp.andi a b = 1#1 ↔ a = 1#1 ∧ b = 1#1 := by revert a b; decide
  have pre := congrFun h w
  simp only [Cert.Pre_scores_table_in_range.fn, constantI, broadcastInDim, cmpi, andi, andi_one] at pre
  exact word_lt _ pre.1 pre.2

/-- The block of the cache that a page number below 2560 names lies inside the cache. -/
theorem page_inside (v : BitVec 32) (h : v.toNat < 2560) (a : Fin 3) :
    ((![v.toNat, (0#32 : BitVec 32).toNat, (0#32 : BitVec 32).toNat] : Fin 3 → Nat) a + 1) * (![1, 128, 64] : Fin 3 → Nat) a
      ≤ (![2560, 128, 64] : Fin 3 → Nat) a := by
  fin_cases a <;> simp <;> omega

end Cert.Table

namespace Cert.Scores

open Cert.Scores Cert.Scores.Gen Idealize.ShloMosaic Idealize.ShloMosaic.TcCoe Idealize.SL.Sem

/-- Where every entry of the page table names a page, the sixteen page windows lie inside the cache at every grid point. -/
theorem ok_of_entries {F : FTy → Type} [FloatOps F] (m : (ℓ : Loc nD τ sig) → Buf (Elt F) ℓ)
    (hw : ∀ w : S128x16.Idx, ((m (((0 : Dev nD) : Thread nD τ).loc main_arg2) : IVec S128x16 32) w).toNat < 2560) : Ok m := by
  have ht : ∀ w : S128x16.Idx, ((tbl m 0 : IVec S128x16 32) w).toNat < 2560 := fun w => by
    have e : (tbl m 0 : IVec S128x16 32) = m (((0 : Dev nD) : Thread nD τ).loc main_arg2) := V_main_arg2 m 0
    rw [e]
    exact hw w
  unfold Ok ok0
  refine ⟨?_, ?_, ?_, ?_, ?_, ?_, ?_, ?_, ?_, ?_, ?_, ?_, ?_, ?_, ?_, ?_⟩
  · intro i; refine ⟨fun a => ?_, Or.inl rfl⟩; unfold cc0_transform_3; exact Cert.Table.page_inside _ (ht _) a
  · intro i; refine ⟨fun a => ?_, Or.inl rfl⟩; unfold cc0_transform_4; exact Cert.Table.page_inside _ (ht _) a
  · intro i; refine ⟨fun a => ?_, Or.inl rfl⟩; unfold cc0_transform_5; exact Cert.Table.page_inside _ (ht _) a
  · intro i; refine ⟨fun a => ?_, Or.inl rfl⟩; unfold cc0_transform_6; exact Cert.Table.page_inside _ (ht _) a
  · intro i; refine ⟨fun a => ?_, Or.inl rfl⟩; unfold cc0_transform_7; exact Cert.Table.page_inside _ (ht _) a
  · intro i; refine ⟨fun a => ?_, Or.inl rfl⟩; unfold cc0_transform_8; exact Cert.Table.page_inside _ (ht _) a
  · intro i; refine ⟨fun a => ?_, Or.inl rfl⟩; unfold cc0_transform_9; exact Cert.Table.page_inside _ (ht _) a
  · intro i; refine ⟨fun a => ?_, Or.inl rfl⟩; unfold cc0_transform_10; exact Cert.Table.page_inside _ (ht _) a
  · intro i; refine ⟨fun a => ?_, Or.inl rfl⟩; unfold cc0_transform_11; exact Cert.Table.page_inside _ (ht _) a
  · intro i; refine ⟨fun a => ?_, Or.inl rfl⟩; unfold cc0_transform_12; exact Cert.Table.page_inside _ (ht _) a
  · intro i; refine ⟨fun a => ?_, Or.inl rfl⟩; unfold cc0_transform_13; exact Cert.Table.page_inside _ (ht _) a
  · intro i; refine ⟨fun a => ?_, Or.inl rfl⟩; unfold cc0_transform_14; exact Cert.Table.page_inside _ (ht _) a
  · intro i; refine ⟨fun a => ?_, Or.inl rfl⟩; unfold cc0_transform_15; exact Cert.Table.page_inside _ (ht _) a
  · intro i; refine ⟨fun a => ?_, Or.inl rfl⟩; unfold cc0_transform_16; exact Cert.Table.page_inside _ (ht _) a
  · intro i; refine ⟨fun a => ?_, Or.inl rfl⟩; unfold cc0_transform_17; exact Cert.Table.page_inside _ (ht _) a
  · intro i; refine ⟨fun a => ?_, Or.inl rfl⟩; unfold cc0_transform_18; exact Cert.Table.page_inside _ (ht _) a

/-- The precondition gives the side condition on the page table. -/
theorem ok_of_pre (m : (ℓ : Loc nD τ sig) → Buf (Elt Bits) ℓ) (h : Cert.Pre_Scores m) : Ok m :=
  ok_of_entries m fun w => Cert.Table.entry_lt _ _ _ (h 0) w

end Cert.Scores

namespace Cert.ScoresIdeal

open Cert.ScoresIdeal Cert.ScoresIdeal.Gen Idealize.ShloMosaic Idealize.ShloMosaic.TcCoe Idealize.SL.Sem

/-- Where every entry of the page table names a page, the sixteen page windows lie inside the cache at every grid point. -/
theorem ok_of_entries {F : FTy → Type} [FloatOps F] (m : (ℓ : Loc nD τ sig) → Buf (Elt F) ℓ)
    (hw : ∀ w : S128x16.Idx, ((m (((0 : Dev nD) : Thread nD τ).loc main_arg2) : IVec S128x16 32) w).toNat < 2560) : Ok m := by
  have ht : ∀ w : S128x16.Idx, ((tbl m 0 : IVec S128x16 32) w).toNat < 2560 := fun w => by
    have e : (tbl m 0 : IVec S128x16 32) = m (((0 : Dev nD) : Thread nD τ).loc main_arg2) := V_main_arg2 m 0
    rw [e]
    exact hw w
  unfold Ok ok0
  refine ⟨?_, ?_, ?_, ?_, ?_, ?_, ?_, ?_, ?_, ?_, ?_, ?_, ?_, ?_, ?_, ?_⟩
  · intro i; refine ⟨fun a => ?_, Or.inl rfl⟩; unfold cc0_transform_3; exact Cert.Table.page_inside _ (ht _) a
  · intro i; refine ⟨fun a => ?_, Or.inl rfl⟩; unfold cc0_transform_4; exact Cert.Table.page_inside _ (ht _) a
  · intro i; refine ⟨fun a => ?_, Or.inl rfl⟩; unfold cc0_transform_5; exact Cert.Table.page_inside _ (ht _) a
  · intro i; refine ⟨fun a => ?_, Or.inl rfl⟩; unfold cc0_transform_6; exact Cert.Table.page_inside _ (ht _) a
  · intro i; refine ⟨fun a => ?_, Or.inl rfl⟩; unfold cc0_transform_7; exact Cert.Table.page_inside _ (ht _) a
  · intro i; refine ⟨fun a => ?_, Or.inl rfl⟩; unfold cc0_transform_8; exact Cert.Table.page_inside _ (ht _) a
  · intro i; refine ⟨fun a => ?_, Or.inl rfl⟩; unfold cc0_transform_9; exact Cert.Table.page_inside _ (ht _) a
  · intro i; refine ⟨fun a => ?_, Or.inl rfl⟩; unfold cc0_transform_10; exact Cert.Table.page_inside _ (ht _) a
  · intro i; refine ⟨fun a => ?_, Or.inl rfl⟩; unfold cc0_transform_11; exact Cert.Table.page_inside _ (ht _) a
  · intro i; refine ⟨fun a => ?_, Or.inl rfl⟩; unfold cc0_transform_12; exact Cert.Table.page_inside _ (ht _) a
  · intro i; refine ⟨fun a => ?_, Or.inl rfl⟩; unfold cc0_transform_13; exact Cert.Table.page_inside _ (ht _) a
  · intro i; refine ⟨fun a => ?_, Or.inl rfl⟩; unfold cc0_transform_14; exact Cert.Table.page_inside _ (ht _) a
  · intro i; refine ⟨fun a => ?_, Or.inl rfl⟩; unfold cc0_transform_15; exact Cert.Table.page_inside _ (ht _) a
  · intro i; refine ⟨fun a => ?_, Or.inl rfl⟩; unfold cc0_transform_16; exact Cert.Table.page_inside _ (ht _) a
  · intro i; refine ⟨fun a => ?_, Or.inl rfl⟩; unfold cc0_transform_17; exact Cert.Table.page_inside _ (ht _) a
  · intro i; refine ⟨fun a => ?_, Or.inl rfl⟩; unfold cc0_transform_18; exact Cert.Table.page_inside _ (ht _) a

/-- The precondition gives the side condition on the page table. -/
theorem ok_of_pre (m : (ℓ : Loc nD τ sig) → Buf (Elt Ideal) ℓ) (h : Cert.Pre_ScoresIdeal m) : Ok m :=
  ok_of_entries m fun w => Cert.Table.entry_lt _ _ _ (h 0) w

end Cert.ScoresIdeal
-- ==== Proof.Pages.lean ====
/-
   The gather through the page table, read at an index: page `idx[b, p]` of the cache, row and column kept.
-/
module

public import proofs.«01_k».proof.Proof.Gen.ScoresRefIdeal
public import Idealize.ShloMosaic.Lib.Pipeline.ValueKit
public import Idealize.ShloMosaic.Lib.Pointwise

@[expose] public section

set_option maxRecDepth 16384

noncomputable section

namespace Cert.ScoresRefIdeal

open Cert.ScoresRefIdeal Cert.ScoresRefIdeal.Gen Idealize.ShloMosaic Idealize.ShloMosaic.TcCoe

/-- The dimension numbers of the page gather. -/
abbrev pageDims : GatherDims S2560x128x64 S128x16x1 S128x16x128x64 :=
  gather_S2560x128x64_S128x16x1_S128x16x128x64_23_0_n_n_0_2_112864

/-- The page gather at (sequence, page slot, row, column) is the cache at the page the index array names there, read
    signed and clamped into the cache, at the same row and column. -/
theorem gather_pages (x : S2560x128x64.Idx → Ideal .f32) (idx : IVec S128x16x1 32) (b : Fin 128) (p : Fin 16) (r : Fin 128)
    (e : Fin 64) : Host.gather pageDims x idx (ix4 b p r e)
      = x (ix3 ⟨min (idx (ix3 b p (0 : Fin 1))).toInt.toNat 2559, by omega⟩ r e) := by
  unfold Host.gather
  refine congrArg x (funext fun a => Fin.ext ?_)
  show pageDims.start (ix4 b p r e) idx a + pageDims.batchCoord (ix4 b p r e) a + pageDims.offCoord (ix4 b p r e) a = _
  rw [GatherDims.batchCoord_eq_zero _ _ _ List.not_mem_nil]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ pageDims.startIndexMap from List.mem_singleton.mpr rfl)]
    have hsi : pageDims.siIdx (ix4 b p r e) ⟨List.idxOf (0 : Fin 3) pageDims.startIndexMap,
        List.idxOf_lt_length_iff.2 (List.mem_singleton.mpr rfl)⟩ = ix3 b p (0 : Fin 1) := by
      funext q; refine Fin.ext ?_
      match q with
      | ⟨0, _⟩ => rfl
      | ⟨1, _⟩ => rfl
      | ⟨2, _⟩ => rfl
    rw [hsi]
    rfl
  · unfold GatherDims.start
    rw [dif_neg (show (1 : Fin 3) ∉ pageDims.startIndexMap from by decide)]
    simp only [Nat.zero_add]
    rfl
  · unfold GatherDims.start
    rw [dif_neg (show (2 : Fin 3) ∉ pageDims.startIndexMap from by decide)]
    simp only [Nat.zero_add]
    rfl

/-- A page number that is not negative is not shifted by the cache's length. -/
theorem page_select (v : BitVec 32) (h : v.toNat < 2560) :
    (if IntOp.cmpi .slt v 0#32 = 1#1 then IntOp.addi v 2560#32 else v) = v := by
  have e : IntOp.cmpi .slt v 0#32 = 0#1 := by
    have ofBool_eq (q : Bool) : (BitVec.ofBool q = 0#1) ↔ q = false := by cases q <;> decide
    simp only [IntOp.cmpi, ofBool_eq, BitVec.slt, decide_eq_false_iff_not, BitVec.toInt, BitVec.toNat_ofNat]
    omega
  rw [e]
  rfl

/-- A page number below the cache's length read signed and clamped into the cache is the page number. -/
theorem page_clamp (v : BitVec 32) (h : v.toNat < 2560) : min v.toInt.toNat 2559 = v.toNat := by
  simp only [BitVec.toInt]
  omega

end Cert.ScoresRefIdeal

end
-- ==== Proof.ScoresBody.lean ====
/-
   The index scores of one sequence: what the kernel's body computes of its blocks is the reference's scores.
-/
module

public import proofs.«01_k».proof.Proof.Gen.ScoresIdeal.Skeleton
public import proofs.«01_k».proof.Proof.Gen.ScoresRefIdeal.Run
public import proofs.«01_k».proof.Proof.Pages
public import Idealize.ShloMosaic.Lib.Pipeline.ValueKit
public import Idealize.ShloMosaic.Lib.Pointwise
public import Idealize.ShloMosaic.Lib.Claim

@[expose] public section

set_option maxRecDepth 16384

noncomputable section

namespace Cert.ScoresRefIdeal

open Cert.ScoresRefIdeal Cert.ScoresRefIdeal.Gen Idealize.ShloMosaic Idealize.ShloMosaic.TcCoe

/-- The cache pages the table names, gathered: (sequence, page slot, row, column). -/
def pages (a1 : FVec Ideal S1x2560x128x64 .f32) (a2 : IVec S128x16 32) : FVec Ideal S128x16x128x64 .f32 :=
  Host.gather gather_S2560x128x64_S128x16x1_S128x16x128x64_23_0_n_n_0_2_112864 (shapeCast _ a1 shapeCasts_S1x2560x128x64_S2560x128x64) (broadcastInDim S128x16x1 ![0, 1] bcast_S128x16_S128x16x1_0_1 (select (cmpi .slt a2 (broadcastInDim S128x16 ![] bcast_S_S128x16 (constantI S_ 32 0#32))) (addi a2 (broadcastInDim S128x16 ![] bcast_S_S128x16 (constantI S_ 32 2560#32))) a2))

/-- The reference's result as a term of its arguments: the masked index scores. -/
def scored (a0 : FVec Ideal S512x5120 .f32) (a1 : FVec Ideal S1x2560x128x64 .f32) (a2 : IVec S128x16 32) :
    FVec Ideal S128x4x2176 .f32 :=
  pad S128x4x2176 ![0, 0, 0] ![0, 0, 124] ![0, 0, 0] (select (broadcastInDim S128x4x2052 ![0, 1, 2] bcast_S1x4x2052_S128x4x2052_0_1_2 (broadcastInDim S1x4x2052 ![1, 2] bcast_S4x2052_S1x4x2052_1_2 (cmpi .sle (broadcastInDim S4x2052 ![0, 1] bcast_S1x2052_S4x2052_0_1 (broadcastInDim S1x2052 ![1] bcast_S2052_S1x2052_1 (iotaInDim S2052 32 0))) (broadcastInDim S4x2052 ![0, 1] bcast_S4x1_S4x2052_0_1 (broadcastInDim S4x1 ![0] bcast_S4_S4x1_0 (addi (broadcastInDim S4 ![] bcast_S_S4 (constantI S_ 32 2048#32)) (iotaInDim S4 32 0))))))) (Host.dotGeneral dot_S128x4x8x2052_S128x4x8_S128x4x2052_2_2_3_n_01_01 none (maximumf (Host.dotGeneral dot_S128x4x8x64_S128x2052x64_S128x4x8x2052_3_2_12_1_0_0 none (mulf (shapeCast _ (extractStridedSlice S128x4x512 ![0, 0, 1024] (shapeCast _ a0 shapeCasts_S512x5120_S128x4x5120) slices_S128x4x5120_S128x4x512_0_0_1024) shapeCasts_S128x4x512_S128x4x8x64) (broadcastInDim S128x4x8x64 ![] bcast_S_S128x4x8x64 (constant S_ .f32 0x3E000000#32))) (concatenate S128x2052x64 1 [⟨S128x2048x64, (shapeCast _ (pages a1 a2) shapeCasts_S128x16x128x64_S128x2048x64)⟩, ⟨S128x4x64, (extractStridedSlice S128x4x64 ![0, 0, 1792] (shapeCast _ a0 shapeCasts_S512x5120_S128x4x5120) slices_S128x4x5120_S128x4x64_0_0_1792)⟩] concatenates_S128x2048x64_S128x4x64_S128x2052x64_d1)) (broadcastInDim S128x4x8x2052 ![] bcast_S_S128x4x8x2052 (constant S_ .f32 0x00000000#32))) (mulf (extractStridedSlice S128x4x8 ![0, 0, 1856] (shapeCast _ a0 shapeCasts_S512x5120_S128x4x5120) slices_S128x4x5120_S128x4x8_0_0_1856) (broadcastInDim S128x4x8 ![] bcast_S_S128x4x8 (constant S_ .f32 0x3EB504F3#32)))) (broadcastInDim S128x4x2052 ![] bcast_S_S128x4x2052 (id (constant S_ .f32 0xFF800000#32)))) (id (constant S_ .f32 0xFF800000#32)) pads_S128x4x2052_S128x4x2176_000_000_01240 h_S_

/-- The gathered page at (sequence, slot) is the cache's page of that number, where the table's entries name pages. -/
theorem pages_apply (a1 : FVec Ideal S1x2560x128x64 .f32) (a2 : IVec S128x16 32) (h : ∀ w, (a2 w).toNat < 2560)
    (b : Fin 128) (p : Fin 16) (r : Fin 128) (e : Fin 64) :
    pages a1 a2 (ix4 b p r e) = a1 (ix4 (0 : Fin 1) ⟨(a2 (ix2 b p)).toNat, h _⟩ r e) := by
  unfold pages
  rw [gather_pages]
  pointwise
  have e : Scalar.select (IntOp.cmpi .slt (a2 (ix2 b p)) 0#32) (IntOp.addi (a2 (ix2 b p)) 2560#32) (a2 (ix2 b p)) = a2 (ix2 b p) :=
    page_select _ (h _)
  simp only [e, page_clamp _ (h _)]

end Cert.ScoresRefIdeal

namespace Cert.ScoresIdeal.Value

open Cert.ScoresIdeal Cert.ScoresIdeal.Gen Idealize.ShloMosaic Idealize.ShloMosaic.TcCoe Idealize.SL.Sem

/-- The sixteen pages of a sequence stacked: its 2048 cached keys. -/
def stack (x : Fin 16 → Vec Ideal S1x128x64 .f32) : FVec Ideal S2048x64 .f32 :=
  concatenate S2048x64 0 [⟨S128x64, shapeCast S128x64 (x 0) shapeCasts_S1x128x64_S128x64⟩, ⟨S128x64, shapeCast S128x64 (x 1) shapeCasts_S1x128x64_S128x64⟩, ⟨S128x64, shapeCast S128x64 (x 2) shapeCasts_S1x128x64_S128x64⟩, ⟨S128x64, shapeCast S128x64 (x 3) shapeCasts_S1x128x64_S128x64⟩, ⟨S128x64, shapeCast S128x64 (x 4) shapeCasts_S1x128x64_S128x64⟩, ⟨S128x64, shapeCast S128x64 (x 5) shapeCasts_S1x128x64_S128x64⟩, ⟨S128x64, shapeCast S128x64 (x 6) shapeCasts_S1x128x64_S128x64⟩, ⟨S128x64, shapeCast S128x64 (x 7) shapeCasts_S1x128x64_S128x64⟩, ⟨S128x64, shapeCast S128x64 (x 8) shapeCasts_S1x128x64_S128x64⟩, ⟨S128x64, shapeCast S128x64 (x 9) shapeCasts_S1x128x64_S128x64⟩, ⟨S128x64, shapeCast S128x64 (x 10) shapeCasts_S1x128x64_S128x64⟩, ⟨S128x64, shapeCast S128x64 (x 11) shapeCasts_S1x128x64_S128x64⟩, ⟨S128x64, shapeCast S128x64 (x 12) shapeCasts_S1x128x64_S128x64⟩, ⟨S128x64, shapeCast S128x64 (x 13) shapeCasts_S1x128x64_S128x64⟩, ⟨S128x64, shapeCast S128x64 (x 14) shapeCasts_S1x128x64_S128x64⟩, ⟨S128x64, shapeCast S128x64 (x 15) shapeCasts_S1x128x64_S128x64⟩] concatenates_S128x64_S128x64_S128x64_S128x64_S128x64_S128x64_S128x64_S128x64_S128x64_S128x64_S128x64_S128x64_S128x64_S128x64_S128x64_S128x64_S2048x64_d0

/-- Row `s` of the stack is row `s % 128` of page `s / 128`. -/
theorem stack_apply (x : Fin 16 → Vec Ideal S1x128x64 .f32) (s : Fin 2048) (e : Fin 64) :
    stack x (ix2 s e) = x ⟨s.val / 128, by omega⟩ (ix3 (0 : Fin 1) ⟨s.val % 128, by omega⟩ e) := by
  unfold stack
  refine (concatenate_ofFn_apply (t := S2048x64) (s₁ := S128x64) (0 : Fin 2) (N := 16)
    (fun j => shapeCast S128x64 (x j) shapeCasts_S1x128x64_S128x64) _ rfl 128 rfl (ix2 s e)
    ⟨s.val / 128, by omega⟩ rfl (ix2 ⟨s.val % 128, by omega⟩ e) rfl (fun b hb => by
      have h01 : b = (0 : Fin 2) ∨ b = (1 : Fin 2) := by
        match b with
        | ⟨0, _⟩ => exact Or.inl rfl
        | ⟨1, _⟩ => exact Or.inr rfl
      rcases h01 with rfl | rfl
      · exact absurd rfl hb
      · rfl)).trans ?_
  pointwise

/-- Two positions of a matrix with the same row and the same column are the same position. -/
theorem ix2_of_val {n k : ℕ} {p p' : Fin n} {q q' : Fin k} (hp : p.val = p'.val) (hq : q.val = q'.val) :
    ix2 p q = ix2 p' q' := by
  rw [Fin.ext hp, Fin.ext hq]

/-- The scores of a sequence from its stacked keys `K`, its new keys, its queries and its weights. -/
def scores (K : FVec Ideal S2048x64 .f32) (v34 : Vec Ideal S1x4x64 .f32) (v39 : Vec Ideal S1x32x64 .f32)
    (v49 : Vec Ideal S1x32x1 .f32) : FVec Ideal S4x8x2176 .f32 :=
  have v33 : FVec Ideal S2048x64 .bf16 := truncf .bf16 K bitsLt_bf16_f32
  have v35 : FVec Ideal S4x64 .f32 := shapeCast S4x64 v34 shapeCasts_S1x4x64_S4x64
  have cst : Ideal .f32 := Scalar.ofBits .f32 0x00000000#32
  have v36 : FVec Ideal S124x64 .f32 := broadcast S124x64 cst
  have v37 : FVec Ideal S128x64 .f32 := concatenate S128x64 0 [⟨S4x64, v35⟩, ⟨S124x64, v36⟩] concatenates_S4x64_S124x64_S128x64_d0
  have v38 : FVec Ideal S128x64 .bf16 := truncf .bf16 v37 bitsLt_bf16_f32
  have v40 : FVec Ideal S32x64 .f32 := shapeCast S32x64 v39 shapeCasts_S1x32x64_S32x64
  have cst_53 : Ideal .f32 := Scalar.ofBits .f32 0x3E000000#32
  have v41 : FVec Ideal S32x64 .f32 := broadcast S32x64 cst_53
  have v42 : FVec Ideal S32x64 .f32 := mulf v40 v41
  have v43 : FVec Ideal S32x64 .bf16 := truncf .bf16 v42 bitsLt_bf16_f32
  have cst_54 : FVec Ideal S32x2048 .f32 := constant S32x2048 .f32 0x00000000#32
  have v44 : FVec Ideal S32x2048 .f32 := matmul dot_S32x64_S2048x64_S32x2048_1_1_0_0_n_n none v43 v33 cst_54
  have cst_55 : FVec Ideal S32x128 .f32 := constant S32x128 .f32 0x00000000#32
  have v45 : FVec Ideal S32x128 .f32 := matmul dot_S32x64_S128x64_S32x128_1_1_0_0_n_n none v43 v38 cst_55
  have v46 : FVec Ideal S32x2176 .f32 := concatenate S32x2176 1 [⟨S32x2048, v44⟩, ⟨S32x128, v45⟩] concatenates_S32x2048_S32x128_S32x2176_d1
  have cst_56 : Ideal .f32 := Scalar.ofBits .f32 0x00000000#32
  have v47 : FVec Ideal S32x2176 .f32 := broadcast S32x2176 cst_56
  have v48 : FVec Ideal S32x2176 .f32 := maximumf v46 v47
  have v50 : FVec Ideal S32x1 .f32 := shapeCast S32x1 v49 shapeCasts_S1x32x1_S32x1
  have cst_60 : Ideal .f32 := Scalar.ofBits .f32 0x3EB504F3#32
  have v51 : FVec Ideal S32x1 .f32 := broadcast S32x1 cst_60
  have v52 : FVec Ideal S32x1 .f32 := mulf v50 v51
  have v53 : FVec Ideal S32x2176 .f32 := broadcastTo S32x2176 v52 broadcasts_S32x1_S32x2176
  have v54 : FVec Ideal S32x2176 .f32 := mulf v48 v53
  have v55 : FVec Ideal S4x8x2176 .f32 := shapeCast S4x8x2176 v54 shapeCasts_S32x2176_S4x8x2176
  v55

/-- What the body leaves at a point, of the blocks it reads. -/
def body (q : Vec Ideal S1x32x64 .f32) (w : Vec Ideal S1x32x1 .f32) (n : Vec Ideal S1x4x128 .f32)
    (x : Fin 16 → Vec Ideal S1x128x64 .f32) : FVec Ideal S1x4x2176 .f32 :=
  k0_pay1 (F := Ideal) (scores (stack x) (View.ld n (Rect.unit ![0, 0, 0] ![1, 4, 64] inb_S1x4x128_S1x4x64_0_0_0)) q w)

set_option maxHeartbeats 1000000 in
/-- Where the blocks hold the queries, the weights, the new keys and the sixteen pages of sequence `b`, what the body
    leaves is the reference's scores of that sequence. -/
theorem body_apply (a0 : FVec Ideal S512x5120 .f32) (a1 : FVec Ideal S1x2560x128x64 .f32) (a2 : IVec S128x16 32)
    (q : Vec Ideal S1x32x64 .f32) (w : Vec Ideal S1x32x1 .f32) (n : Vec Ideal S1x4x128 .f32)
    (x : Fin 16 → Vec Ideal S1x128x64 .f32) (b : Fin 128)
    (hq : ∀ (r : Fin 32) (e : Fin 64), q (ix3 (0 : Fin 1) r e)
      = a0 (ix2 ⟨b.val * 4 + r.val / 8, by omega⟩ ⟨1024 + (r.val % 8 * 64 + e.val), by omega⟩))
    (hw : ∀ r : Fin 32, w (ix3 (0 : Fin 1) r (0 : Fin 1))
      = a0 (ix2 ⟨b.val * 4 + r.val / 8, by omega⟩ ⟨1856 + r.val % 8, by omega⟩))
    (hn : ∀ (i : Fin 4) (l : Fin 128), n (ix3 (0 : Fin 1) i l) = a0 (ix2 ⟨b.val * 4 + i.val, by omega⟩ ⟨1792 + l.val, by omega⟩))
    (hx : ∀ (j : Fin 16) (r : Fin 128) (e : Fin 64), x j (ix3 (0 : Fin 1) r e) = Cert.ScoresRefIdeal.pages a1 a2 (ix4 b j r e))
    (i : Fin 4) (s : Fin 2176) :
    body q w n x (ix3 (0 : Fin 1) i s) = Cert.ScoresRefIdeal.scored a0 a1 a2 (ix3 b i s) := by
  pointwise [body, scores, k0_pay1, Cert.ScoresRefIdeal.scored]
  have hdead : ¬ s.val < 2052 →
      IntOp.cmpi .sle (BitVec.ofNat 32 s.val) (IntOp.addi 2048#32 (BitVec.ofNat 32 i.val)) = 0#1 := fun h => by
    have ofBool_eq (p : Bool) : (BitVec.ofBool p = 0#1) ↔ p = false := by cases p <;> decide
    have hi := i.isLt
    have hs := s.isLt
    simp only [IntOp.cmpi, IntOp.addi, ofBool_eq, BitVec.sle, decide_eq_false_iff_not, BitVec.toInt, BitVec.toNat_ofNat,
      BitVec.toNat_add]
    omega
  by_cases h52 : s.val < 2052
  · rw [dif_pos h52]
    refine congrArg (fun z => Scalar.select _ z _) ?_
    refine Fin.sum_fin_congr fun x1 => Ideal.mul_congr (congrArg (fun z => max z 0) ?_) ?_
    · by_cases h48 : s.val < 2048
      · rw [dif_pos h48]
        refine Fin.sum_fin_congr fun x2 => ?_
        rw [dif_pos h48, hq, stack_apply, hx]
        refine Ideal.mul_congr (Ideal.mul_congr (congrArg a0 (ix2_of_val ?_ ?_)) rfl) rfl <;> dsimp only <;> omega
      · rw [dif_neg h48]
        refine Fin.sum_fin_congr fun x2 => ?_
        rw [dif_neg h48, dif_pos (by omega), hq, hn]
        refine Ideal.mul_congr (Ideal.mul_congr (congrArg a0 (ix2_of_val ?_ ?_)) rfl) rfl <;> dsimp only <;> omega
    · rw [hw]
      refine Ideal.mul_congr (congrArg a0 (ix2_of_val ?_ ?_)) rfl <;> dsimp only <;> omega
  · rw [dif_neg h52, hdead h52]
    rfl

end Cert.ScoresIdeal.Value

end
-- ==== Proof.ScoresValue.lean ====
/-
   The index scores as an array: the array the kernel leaves is the reference's, index by index. A page window reads the cache at
   the page the table names; the reference gathers the same page.
-/
module

public import proofs.«01_k».proof.Proof.Gen.ScoresIdeal.Frame
public import proofs.«01_k».proof.Proof.Gen.ScoresRefIdeal.Run
public import proofs.«01_k».proof.Proof.ScoresBody
public import proofs.«01_k».proof.Proof.Table
public import Idealize.ShloMosaic.Lib.Pipeline.ValueKit
public import Idealize.ShloMosaic.Lib.Pointwise
public import Idealize.ShloMosaic.Lib.Claim

@[expose] public section

set_option maxRecDepth 16384

noncomputable section

namespace Cert.ScoresIdeal.Value

open Cert.ScoresIdeal Cert.ScoresIdeal.Gen Idealize.ShloMosaic Idealize.ShloMosaic.TcCoe Idealize.SL.Sem

variable (m : (ℓ : Loc nD τ sig) → Buf (Elt Ideal) ℓ)

/-- The result's window on the grid's 128 points, without the tables it does not read. -/
abbrev winOut : Pipeline.Window sig grid0 := spec0_19.pin (G := grid0) ((hcount0 19).trans rfl) cc0_transform_19 hreads0_19
  (fun h => absurd h (by decide)) (fun _ _ => none) hinb0_19 (fun i => (hwx0_19 i).elim View.wordExact_bits ((harr0 19).wordExact_slice rfl _))
  fun _ s => spec0_19.wordExact_stage_whole s _

/-- The pipeline's result window is that window. -/
theorem win_eq (hO : Ok m) : (cfgM m hO).win 19 = winOut := rfl

/-- The result's blocks cover the array. -/
theorem covers (hO : Ok m) : ((cfgM m hO).win 19).Covers := (by decide +kernel : winOut.Covers)

set_option maxHeartbeats 1000000 in
/-- The body's one run leaves that, whatever buffers its blocks are staged in. -/
theorem out_eq  (c : Dev nD) (i : grid0.Coords) (arg2 : Memref sig .tc .vmem S1x32x64 .f32) (harg2 : arg2.IsWhole) (arg3 : Memref sig .tc .vmem S1x32x1 .f32) (harg3 : arg3.IsWhole) (arg4 : Memref sig .tc .vmem S1x4x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S1x128x64 .f32) (harg9 : arg9.IsWhole) (arg10 : Memref sig .tc .vmem S1x128x64 .f32) (harg10 : arg10.IsWhole) (arg11 : Memref sig .tc .vmem S1x128x64 .f32) (harg11 : arg11.IsWhole) (arg12 : Memref sig .tc .vmem S1x128x64 .f32) (harg12 : arg12.IsWhole) (arg13 : Memref sig .tc .vmem S1x128x64 .f32) (harg13 : arg13.IsWhole) (arg14 : Memref sig .tc .vmem S1x128x64 .f32) (harg14 : arg14.IsWhole) (arg15 : Memref sig .tc .vmem S1x128x64 .f32) (harg15 : arg15.IsWhole) (arg16 : Memref sig .tc .vmem S1x128x64 .f32) (harg16 : arg16.IsWhole) (arg17 : Memref sig .tc .vmem S1x128x64 .f32) (harg17 : arg17.IsWhole) (arg18 : Memref sig .tc .vmem S1x128x64 .f32) (harg18 : arg18.IsWhole) (arg19 : Memref sig .tc .vmem S1x128x64 .f32) (harg19 : arg19.IsWhole) (arg20 : Memref sig .tc .vmem S1x128x64 .f32) (harg20 : arg20.IsWhole) (arg21 : Memref sig .tc .vmem S1x4x2176 .f32) (harg21 : arg21.IsWhole)
    (x0 : Vec Ideal S1x32x64 .f32) (x1 : Vec Ideal S1x32x1 .f32) (x2 : Vec Ideal S1x4x128 .f32) (x3 : Vec Ideal S1x128x64 .f32) (x4 : Vec Ideal S1x128x64 .f32) (x5 : Vec Ideal S1x128x64 .f32) (x6 : Vec Ideal S1x128x64 .f32) (x7 : Vec Ideal S1x128x64 .f32) (x8 : Vec Ideal S1x128x64 .f32) (x9 : Vec Ideal S1x128x64 .f32) (x10 : Vec Ideal S1x128x64 .f32) (x11 : Vec Ideal S1x128x64 .f32) (x12 : Vec Ideal S1x128x64 .f32) (x13 : Vec Ideal S1x128x64 .f32) (x14 : Vec Ideal S1x128x64 .f32) (x15 : Vec Ideal S1x128x64 .f32) (x16 : Vec Ideal S1x128x64 .f32) (x17 : Vec Ideal S1x128x64 .f32) (x18 : Vec Ideal S1x128x64 .f32) (xt0 : TbBuf0 (F := Ideal) c tbM0_0) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 xt0 = body x0 x1 x2 ![x3, x4, x5, x6, x7, x8, x9, x10, x11, x12, x13, x14, x15, x16, x17, x18] := by
  funext y
  unfold out0_A_19
  frame_out
  rfl

/-- A grid point's first coordinate is its number. -/
theorem coord_val : ∀ t : Fin grid0.N, (BitVec.ofNat 32 ((grid0.coords t) 0).val).toNat = t.val := by decide +kernel

/-- A read of one entry of the page table, at the row and the column its offsets name. -/
theorem entry_at (pf : pre0.Contents (Elt Ideal)) (off : Fin 2 → ℕ) (hin : ∀ a, off a + S1x1.size a ≤ S128x16.size a)
    (h1 : S1x1.numel = 1) (t : Fin 128) (j : Fin 16) (ht : off 0 = t.val) (hj : off 1 = j.val) :
    pf.at 0 (Rect.unit (s := S128x16) off S1x1.size hin) h1 = (pf 0 : IVec S128x16 32) (ix2 t j) := by
  refine congrArg (pf 0 : IVec S128x16 32) (funext fun a => Fin.ext ?_)
  match a with
  | ⟨0, _⟩ => exact (show off 0 + 1 * 0 = t.val by omega)
  | ⟨1, _⟩ => exact (show off 1 + 1 * 0 = j.val by omega)

/-- The cache at the position a page's block names is the gathered page's element. -/
theorem page_at (hw : ∀ w : S128x16.Idx, ((m (((0 : Dev nD) : Thread nD τ).loc main_arg2) : IVec S128x16 32) w).toNat < 2560)
    (t : Fin 128) (j : Fin 16) (r : Fin 128) (e : Fin 64) (i : S2560x128x64.Idx)
    (h0 : (i 0).val = ((tbl m 0 : IVec S128x16 32) (ix2 t j)).toNat) (h1 : (i 1).val = r.val) (h2 : (i 2).val = e.val) :
    (V m 0 main_v0 : FVec Ideal S2560x128x64 .f32) i = Cert.ScoresRefIdeal.pages (m (((0 : Dev nD) : Thread nD τ).loc main_arg1))
      (m (((0 : Dev nD) : Thread nD τ).loc main_arg2)) (ix4 t j r e) := by
  have e2 : (tbl m 0 : IVec S128x16 32) = m (((0 : Dev nD) : Thread nD τ).loc main_arg2) := V_main_arg2 m 0
  rw [e2] at h0
  rw [Cert.ScoresRefIdeal.pages_apply _ _ hw]
  obtain rfl : i = ix3 ⟨_, hw (ix2 t j)⟩ r e := by
    funext a
    refine Fin.ext ?_
    match a with
    | ⟨0, _⟩ => exact h0
    | ⟨1, _⟩ => exact h1
    | ⟨2, _⟩ => exact h2
  entry_read
  pointwise

/-- An offset of one element's extent. -/
theorem mul_one_add_zero (n : ℕ) : n * 1 + 1 * 0 = n := by omega

/-- The first block's offset. -/
theorem zero_mul_add_one_mul (k n : ℕ) : 0 * k + 1 * n = n := by omega

/-- Page window 0's block at a point. -/
theorem page_block0 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 3 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (0 : Fin 16) r e) := by
  unfold iblk
  exact page_at m hw _ (0 : Fin 16) r e _
    ((mul_one_add_zero _).trans (congrArg BitVec.toNat (entry_at (tbl m) _ _ _ _ (0 : Fin 16) (coord_val t) rfl)))
    (zero_mul_add_one_mul 128 _) (zero_mul_add_one_mul 64 _)

/-- Page window 1's block at a point. -/
theorem page_block1 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 4 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (1 : Fin 16) r e) := by
  unfold iblk
  exact page_at m hw _ (1 : Fin 16) r e _
    ((mul_one_add_zero _).trans (congrArg BitVec.toNat (entry_at (tbl m) _ _ _ _ (1 : Fin 16) (coord_val t) rfl)))
    (zero_mul_add_one_mul 128 _) (zero_mul_add_one_mul 64 _)

/-- Page window 2's block at a point. -/
theorem page_block2 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 5 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (2 : Fin 16) r e) := by
  unfold iblk
  exact page_at m hw _ (2 : Fin 16) r e _
    ((mul_one_add_zero _).trans (congrArg BitVec.toNat (entry_at (tbl m) _ _ _ _ (2 : Fin 16) (coord_val t) rfl)))
    (zero_mul_add_one_mul 128 _) (zero_mul_add_one_mul 64 _)

/-- Page window 3's block at a point. -/
theorem page_block3 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 6 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (3 : Fin 16) r e) := by
  unfold iblk
  exact page_at m hw _ (3 : Fin 16) r e _
    ((mul_one_add_zero _).trans (congrArg BitVec.toNat (entry_at (tbl m) _ _ _ _ (3 : Fin 16) (coord_val t) rfl)))
    (zero_mul_add_one_mul 128 _) (zero_mul_add_one_mul 64 _)

/-- Page window 4's block at a point. -/
theorem page_block4 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 7 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (4 : Fin 16) r e) := by
  unfold iblk
  exact page_at m hw _ (4 : Fin 16) r e _
    ((mul_one_add_zero _).trans (congrArg BitVec.toNat (entry_at (tbl m) _ _ _ _ (4 : Fin 16) (coord_val t) rfl)))
    (zero_mul_add_one_mul 128 _) (zero_mul_add_one_mul 64 _)

/-- Page window 5's block at a point. -/
theorem page_block5 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 8 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (5 : Fin 16) r e) := by
  unfold iblk
  exact page_at m hw _ (5 : Fin 16) r e _
    ((mul_one_add_zero _).trans (congrArg BitVec.toNat (entry_at (tbl m) _ _ _ _ (5 : Fin 16) (coord_val t) rfl)))
    (zero_mul_add_one_mul 128 _) (zero_mul_add_one_mul 64 _)

/-- Page window 6's block at a point. -/
theorem page_block6 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 9 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (6 : Fin 16) r e) := by
  unfold iblk
  exact page_at m hw _ (6 : Fin 16) r e _
    ((mul_one_add_zero _).trans (congrArg BitVec.toNat (entry_at (tbl m) _ _ _ _ (6 : Fin 16) (coord_val t) rfl)))
    (zero_mul_add_one_mul 128 _) (zero_mul_add_one_mul 64 _)

/-- Page window 7's block at a point. -/
theorem page_block7 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 10 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (7 : Fin 16) r e) := by
  unfold iblk
  exact page_at m hw _ (7 : Fin 16) r e _
    ((mul_one_add_zero _).trans (congrArg BitVec.toNat (entry_at (tbl m) _ _ _ _ (7 : Fin 16) (coord_val t) rfl)))
    (zero_mul_add_one_mul 128 _) (zero_mul_add_one_mul 64 _)

/-- Page window 8's block at a point. -/
theorem page_block8 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 11 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (8 : Fin 16) r e) := by
  unfold iblk
  exact page_at m hw _ (8 : Fin 16) r e _
    ((mul_one_add_zero _).trans (congrArg BitVec.toNat (entry_at (tbl m) _ _ _ _ (8 : Fin 16) (coord_val t) rfl)))
    (zero_mul_add_one_mul 128 _) (zero_mul_add_one_mul 64 _)

/-- Page window 9's block at a point. -/
theorem page_block9 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 12 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (9 : Fin 16) r e) := by
  unfold iblk
  exact page_at m hw _ (9 : Fin 16) r e _
    ((mul_one_add_zero _).trans (congrArg BitVec.toNat (entry_at (tbl m) _ _ _ _ (9 : Fin 16) (coord_val t) rfl)))
    (zero_mul_add_one_mul 128 _) (zero_mul_add_one_mul 64 _)

/-- Page window 10's block at a point. -/
theorem page_block10 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 13 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (10 : Fin 16) r e) := by
  unfold iblk
  exact page_at m hw _ (10 : Fin 16) r e _
    ((mul_one_add_zero _).trans (congrArg BitVec.toNat (entry_at (tbl m) _ _ _ _ (10 : Fin 16) (coord_val t) rfl)))
    (zero_mul_add_one_mul 128 _) (zero_mul_add_one_mul 64 _)

/-- Page window 11's block at a point. -/
theorem page_block11 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 14 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (11 : Fin 16) r e) := by
  unfold iblk
  exact page_at m hw _ (11 : Fin 16) r e _
    ((mul_one_add_zero _).trans (congrArg BitVec.toNat (entry_at (tbl m) _ _ _ _ (11 : Fin 16) (coord_val t) rfl)))
    (zero_mul_add_one_mul 128 _) (zero_mul_add_one_mul 64 _)

/-- Page window 12's block at a point. -/
theorem page_block12 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 15 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (12 : Fin 16) r e) := by
  unfold iblk
  exact page_at m hw _ (12 : Fin 16) r e _
    ((mul_one_add_zero _).trans (congrArg BitVec.toNat (entry_at (tbl m) _ _ _ _ (12 : Fin 16) (coord_val t) rfl)))
    (zero_mul_add_one_mul 128 _) (zero_mul_add_one_mul 64 _)

/-- Page window 13's block at a point. -/
theorem page_block13 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 16 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (13 : Fin 16) r e) := by
  unfold iblk
  exact page_at m hw _ (13 : Fin 16) r e _
    ((mul_one_add_zero _).trans (congrArg BitVec.toNat (entry_at (tbl m) _ _ _ _ (13 : Fin 16) (coord_val t) rfl)))
    (zero_mul_add_one_mul 128 _) (zero_mul_add_one_mul 64 _)

/-- Page window 14's block at a point. -/
theorem page_block14 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 17 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (14 : Fin 16) r e) := by
  unfold iblk
  exact page_at m hw _ (14 : Fin 16) r e _
    ((mul_one_add_zero _).trans (congrArg BitVec.toNat (entry_at (tbl m) _ _ _ _ (14 : Fin 16) (coord_val t) rfl)))
    (zero_mul_add_one_mul 128 _) (zero_mul_add_one_mul 64 _)

/-- Page window 15's block at a point. -/
theorem page_block15 (hO : Ok m) (hw : ∀ w : S128x16.Idx, ((m (((0 : Dev nD) : Thread nD τ).loc main_arg2) : IVec S128x16 32) w).toNat < 2560)
    (t : Fin (cfgM m hO).N) (r : Fin 128) (e : Fin 64) : (iblk m hO 0 18 t : Vec Ideal S1x128x64 .f32) (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) (15 : Fin 16) r e) := by
  unfold iblk
  exact page_at m hw _ (15 : Fin 16) r e _
    ((mul_one_add_zero _).trans (congrArg BitVec.toNat (entry_at (tbl m) _ _ _ _ (15 : Fin 16) (coord_val t) rfl)))
    (zero_mul_add_one_mul 128 _) (zero_mul_add_one_mul 64 _)

/-- The sixteen pages' blocks at a point. -/
theorem page_blocks (hO : Ok m) (hw : ∀ w : S128x16.Idx, ((m (((0 : Dev nD) : Thread nD τ).loc main_arg2) : IVec S128x16 32) w).toNat < 2560)
    (t : Fin (cfgM m hO).N) (j : Fin 16) (r : Fin 128) (e : Fin 64) :
    (![iblk m hO 0 3 t, iblk m hO 0 4 t, iblk m hO 0 5 t, iblk m hO 0 6 t, iblk m hO 0 7 t, iblk m hO 0 8 t, iblk m hO 0 9 t, iblk m hO 0 10 t, iblk m hO 0 11 t, iblk m hO 0 12 t, iblk m hO 0 13 t, iblk m hO 0 14 t, iblk m hO 0 15 t, iblk m hO 0 16 t, iblk m hO 0 17 t, iblk m hO 0 18 t] : Fin 16 → Vec Ideal S1x128x64 .f32) j (ix3 (0 : Fin 1) r e)
      = Cert.ScoresRefIdeal.pages (m (((0 : Dev nD) : Thread nD τ).loc main_arg1))
        (m (((0 : Dev nD) : Thread nD τ).loc main_arg2)) (ix4 (⟨t.val, t.isLt⟩ : Fin 128) j r e) := by
  match j with
  | ⟨0, _⟩ => exact page_block0 m hO hw t r e
  | ⟨1, _⟩ => exact page_block1 m hO hw t r e
  | ⟨2, _⟩ => exact page_block2 m hO hw t r e
  | ⟨3, _⟩ => exact page_block3 m hO hw t r e
  | ⟨4, _⟩ => exact page_block4 m hO hw t r e
  | ⟨5, _⟩ => exact page_block5 m hO hw t r e
  | ⟨6, _⟩ => exact page_block6 m hO hw t r e
  | ⟨7, _⟩ => exact page_block7 m hO hw t r e
  | ⟨8, _⟩ => exact page_block8 m hO hw t r e
  | ⟨9, _⟩ => exact page_block9 m hO hw t r e
  | ⟨10, _⟩ => exact page_block10 m hO hw t r e
  | ⟨11, _⟩ => exact page_block11 m hO hw t r e
  | ⟨12, _⟩ => exact page_block12 m hO hw t r e
  | ⟨13, _⟩ => exact page_block13 m hO hw t r e
  | ⟨14, _⟩ => exact page_block14 m hO hw t r e
  | ⟨15, _⟩ => exact page_block15 m hO hw t r e
  | ⟨_ + 16, h⟩ => exact absurd h (by omega)

/-- The queries' block at a point. -/
theorem q_block (hO : Ok m) (t : Fin (cfgM m hO).N) (r : Fin 32) (e : Fin 64) :
    (iblk m hO 0 0 t : Vec Ideal S1x32x64 .f32) (ix3 (0 : Fin 1) r e) = (m (((0 : Dev nD) : Thread nD τ).loc main_arg0) : FVec Ideal S512x5120 .f32)
      (ix2 ⟨t.val * 4 + r.val / 8, by have := (show t.val < 128 from t.isLt); omega⟩ ⟨1024 + (r.val % 8 * 64 + e.val), by omega⟩) := by
  unfold iblk
  refine (congrArg (V m 0 main_v3 : FVec Ideal S128x32x64 .f32) (?_ : _ = ix3 (⟨t.val, t.isLt⟩ : Fin 128) r e)).trans ?_
  · funext a
    refine Fin.ext ?_
    match a with
    | ⟨0, _⟩ => exact (show (BitVec.ofNat 32 ((grid0.coords t) 0).val).toNat * 1 + 1 * 0 = t.val by rw [coord_val]; omega)
    | ⟨1, _⟩ => exact (show 0 * 32 + 1 * r.val = r.val by omega)
    | ⟨2, _⟩ => exact (show 0 * 64 + 1 * e.val = e.val by omega)
  · entry_read
    pointwise

/-- The weights' block at a point. -/
theorem w_block (hO : Ok m) (t : Fin (cfgM m hO).N) (r : Fin 32) :
    (iblk m hO 0 1 t : Vec Ideal S1x32x1 .f32) (ix3 (0 : Fin 1) r (0 : Fin 1)) = (m (((0 : Dev nD) : Thread nD τ).loc main_arg0) : FVec Ideal S512x5120 .f32)
      (ix2 ⟨t.val * 4 + r.val / 8, by have := (show t.val < 128 from t.isLt); omega⟩ ⟨1856 + r.val % 8, by omega⟩) := by
  unfold iblk
  refine (congrArg (V m 0 main_v5 : FVec Ideal S128x32x1 .f32) (?_ : _ = ix3 (⟨t.val, t.isLt⟩ : Fin 128) r (0 : Fin 1))).trans ?_
  · funext a
    refine Fin.ext ?_
    match a with
    | ⟨0, _⟩ => exact (show (BitVec.ofNat 32 ((grid0.coords t) 0).val).toNat * 1 + 1 * 0 = t.val by rw [coord_val]; omega)
    | ⟨1, _⟩ => exact (show 0 * 32 + 1 * r.val = r.val by omega)
    | ⟨2, _⟩ => rfl
  · entry_read
    pointwise

/-- The new keys' block at a point. -/
theorem n_block (hO : Ok m) (t : Fin (cfgM m hO).N) (i : Fin 4) (l : Fin 128) :
    (iblk m hO 0 2 t : Vec Ideal S1x4x128 .f32) (ix3 (0 : Fin 1) i l) = (m (((0 : Dev nD) : Thread nD τ).loc main_arg0) : FVec Ideal S512x5120 .f32)
      (ix2 ⟨t.val * 4 + i.val, by have := (show t.val < 128 from t.isLt); omega⟩ ⟨1792 + l.val, by omega⟩) := by
  unfold iblk
  refine (congrArg (V m 0 main_v1 : FVec Ideal S128x4x5120 .f32) (?_ : _ = ix3 (⟨t.val, t.isLt⟩ : Fin 128) i (⟨1792 + l.val, by omega⟩ : Fin 5120))).trans ?_
  · funext a
    refine Fin.ext ?_
    match a with
    | ⟨0, _⟩ => exact (show (BitVec.ofNat 32 ((grid0.coords t) 0).val).toNat * 1 + 1 * 0 = t.val by rw [coord_val]; omega)
    | ⟨1, _⟩ => exact (show 0 * 4 + 1 * i.val = i.val by omega)
    | ⟨2, _⟩ => exact (show 14 * 128 + 1 * l.val = 1792 + l.val by omega)
  · entry_read
    pointwise

/-- What the body leaves at a grid point is the reference's scores of that sequence. -/
theorem point (hO : Ok m) (hw : ∀ w : S128x16.Idx, ((m (((0 : Dev nD) : Thread nD τ).loc main_arg2) : IVec S128x16 32) w).toNat < 2560)
    (t : Fin (cfgM m hO).N) (i : Fin 4) (s : Fin 2176) :
    outsAt0 m hO 0 t (ix3 (0 : Fin 1) i s) = Cert.ScoresRefIdeal.scored (m (((0 : Dev nD) : Thread nD τ).loc main_arg0))
      (m (((0 : Dev nD) : Thread nD τ).loc main_arg1)) (m (((0 : Dev nD) : Thread nD τ).loc main_arg2))
      (ix3 (⟨t.val, t.isLt⟩ : Fin 128) i s) := by
  unfold outsAt0
  exact (congrFun (out_eq 0 (grid0.coords t) _ _ _ _ _ _ _ _ _ _ _ _ _ _ _ _ _ _ _ _ _ _ _ _ _ _ _ _ _ _ _ _ _ _ _ _ _ _ _ _
      _ _ _ _ _ _ _ _ _ _ _ _ _ _ _ _ _ _ _ _) _).trans
    (body_apply _ _ _ _ _ _ _ (⟨t.val, t.isLt⟩ : Fin 128) (q_block m hO t) (w_block m hO t) (n_block m hO t) (page_blocks m hO hw t) i s)

/-- The result's block at a grid point is that sequence's rows of the result. -/
theorem emb_out (hO : Ok m) (t : Fin (cfgM m hO).N) (i : Fin 4) (s : Fin 2176) :
    (((cfgM m hO).win 19).blk t).view.emb (ix3 (0 : Fin 1) i s) = (ix3 (⟨t.val, t.isLt⟩ : Fin 128) i s : S128x4x2176.Idx) := by
  funext a
  refine Fin.ext ?_
  match a with
  | ⟨0, _⟩ => exact (show (BitVec.ofNat 32 ((grid0.coords t) 0).val).toNat * 1 + 1 * 0 = t.val by rw [coord_val]; omega)
  | ⟨1, _⟩ => exact (show 0 * 4 + 1 * i.val = i.val by omega)
  | ⟨2, _⟩ => exact (show 0 * 2176 + 1 * s.val = s.val by omega)

set_option maxHeartbeats 1000000 in
/-- What the body leaves at a position of the result's block is the reference's score at that position of the array. -/
theorem point_emb (hO : Ok m) (hw : ∀ w : S128x16.Idx, ((m (((0 : Dev nD) : Thread nD τ).loc main_arg2) : IVec S128x16 32) w).toNat < 2560)
    (t : Fin (cfgM m hO).N) (y : S1x4x2176.Idx) :
    outsAt0 m hO 0 t y = Cert.ScoresRefIdeal.scored (m (((0 : Dev nD) : Thread nD τ).loc main_arg0))
      (m (((0 : Dev nD) : Thread nD τ).loc main_arg1)) (m (((0 : Dev nD) : Thread nD τ).loc main_arg2))
      ((((cfgM m hO).win 19).blk t).view.emb y) := by
  obtain ⟨z, i, s, rfl⟩ : ∃ (z : Fin 1) (i : Fin 4) (s : Fin 2176), y = ix3 z i s := ⟨y 0, y 1, y 2, by
    funext a
    match a with
    | ⟨0, _⟩ => rfl
    | ⟨1, _⟩ => rfl
    | ⟨2, _⟩ => rfl⟩
  obtain rfl : z = 0 := Subsingleton.elim _ _
  rw [point m hO hw t i s]
  exact congrArg (Cert.ScoresRefIdeal.scored (m (((0 : Dev nD) : Thread nD τ).loc main_arg0))
      (m (((0 : Dev nD) : Thread nD τ).loc main_arg1)) (m (((0 : Dev nD) : Thread nD τ).loc main_arg2))) (emb_out m hO t i s).symm

end Cert.ScoresIdeal.Value

end
-- ==== Proof.ScoresFinal.lean ====
/-
   The index scores as an array: the array the kernel leaves is the reference's, index by index. A page window reads the cache at
   the page the table names; the reference gathers the same page.
-/
module

public import proofs.«01_k».proof.Proof.Gen.ScoresIdeal.Frame
public import proofs.«01_k».proof.Proof.Gen.ScoresRefIdeal.Run
public import proofs.«01_k».proof.Proof.ScoresValue
public import proofs.«01_k».proof.Proof.Table
public import Idealize.ShloMosaic.Lib.Pipeline.ValueKit
public import Idealize.ShloMosaic.Lib.Pointwise
public import Idealize.ShloMosaic.Lib.Claim

@[expose] public section

set_option maxRecDepth 16384

noncomputable section

namespace Cert.ScoresIdeal.Value

open Cert.ScoresIdeal Cert.ScoresIdeal.Gen Idealize.ShloMosaic Idealize.ShloMosaic.TcCoe Idealize.SL.Sem

variable (m : (ℓ : Loc nD τ sig) → Buf (Elt Ideal) ℓ)

set_option maxHeartbeats 1000000 in
/-- The array after the run is the reference's scores of the arguments. -/
theorem final (hO : Ok m) (hw : ∀ w : S128x16.Idx, ((m (((0 : Dev nD) : Thread nD τ).loc main_arg2) : IVec S128x16 32) w).toNat < 2560) :
    (dats m hO 0 0).arrAt 19 (cfgM m hO).N
    = Cert.ScoresRefIdeal.scored (m (((0 : Dev nD) : Thread nD τ).loc main_arg0)) (m (((0 : Dev nD) : Thread nD τ).loc main_arg1))
        (m (((0 : Dev nD) : Thread nD τ).loc main_arg2)) := by
  refine (dats m hO 0 0).arrAt_eq_of_covers 19 _ (covers m hO) fun t _ y => ?_
  rw [after0_19]
  refine (cast_eq _ _).trans ?_
  refine Eq.trans (congrArg (outsAt0 m hO 0 t) (?_ : _ = y)) (point_emb m hO hw t y)
  · rfl

end Cert.ScoresIdeal.Value

end
-- ==== Proof.AlgScores.lean ====
/-
   The index scores: the kernel and the reference leave the same array.
-/
module

public import proofs.«01_k».proof.Defs
public import proofs.«01_k».proof.Proof.ScoresFinal
public import proofs.«01_k».proof.Proof.Table
public import proofs.«01_k».proof.Proof.Gen.Scores
public import proofs.«01_k».proof.Proof.Gen.Pre_scores_table_in_range

@[expose] public section

set_option maxRecDepth 16384

noncomputable section

namespace Cert.ScoresIdeal.Value

open Cert.ScoresIdeal Cert.ScoresIdeal.Gen Idealize.ShloMosaic Idealize.ShloMosaic.TcCoe Idealize.SL.Sem

/-- The kernel's run, read: the scores of the arguments in the result, the arguments unchanged. -/
theorem run (m : (ℓ : Loc nD τ sig) → Buf (Elt Ideal) ℓ) (ρ : Dev nD → PrngReg)
    (hw : ∀ w : S128x16.Idx, ((m (((0 : Dev nD) : Thread nD τ).loc main_arg2) : IVec S128x16 32) w).toNat < 2560) :
    θ_run defs (onTc (τ := τ) (main (F := Ideal))) ⟨m, fun _ => 0, ρ⟩ fun r => ∀ c : Dev nD,
      r.2.mem ((c.tc : Thread nD τ).loc main_v6) = Cert.ScoresRefIdeal.scored (m ((c : Thread nD τ).loc main_arg0))
          (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have hO := ok_of_entries m hw
  (θ_run defs _ _).mono (fun _ h c => by
      obtain rfl : c = 0 := Subsingleton.elim _ _
      exact ⟨((h 0).1 19).trans (final m hO hw),
        ((h 0).2 main_arg0 (by decide : main_arg0 ∈ Pipeline.restRefs sig spec0)).trans (V_main_arg0 m 0),
        ((h 0).2 main_arg1 (by decide : main_arg1 ∈ Pipeline.restRefs sig spec0)).trans (V_main_arg1 m 0),
        ((h 0).2 main_arg2 (by decide : main_arg2 ∈ Pipeline.restRefs sig spec0)).trans (V_main_arg2 m 0)⟩)
    (run_main m ρ hO)

/-- The kernel's result is the reference's, in exact arithmetic, wherever the page table names pages. -/
theorem algebraic : Cert.algebraic_ScoresIdeal_ScoresRefIdeal := by
  pair_intro
  · exact run m g fun w => Cert.Table.entry_lt _ _ _ (hpre 0) w
  · refine (θ_run _ _ _).mono (fun r h c => ⟨(h c).1.trans ?_, (h c).2⟩) (Cert.ScoresRefIdeal.Value.run m' g')
    obtain ⟨a0, a1, a2⟩ := hagree c
    rw [a0, a1, a2]
    rfl

end Cert.ScoresIdeal.Value

end
-- ==== Proof.Sums.lean ====
/-
   Sums over reordered index ranges.
-/
module

public import Idealize.ShloMosaic.Lib.Pointwise
public import Idealize.ShloMosaic.Lib.Claim

@[expose] public section

noncomputable section

namespace Cert.Sums

/-- A sum over 1024 positions is the sum over the same positions visited as 64 columns of 16: position `k` of the
    second order is position `k % 64 * 16 + k / 64` of the first. -/
theorem sum_heads (f : Fin 1024 → EReal) :
    ∑ k : Fin 1024, f ⟨k.val % 64 * 16 + k.val / 64, by omega⟩ = ∑ k : Fin 1024, f k := by
  refine Fintype.sum_bijective (fun k : Fin 1024 => (⟨k.val % 64 * 16 + k.val / 64, by omega⟩ : Fin 1024)) ?_ _ _ fun _ => rfl
  refine Function.bijective_iff_has_inverse.2 ⟨fun k => ⟨k.val % 16 * 64 + k.val / 16, by omega⟩, fun k => ?_, fun k => ?_⟩
  · apply Fin.ext; show (k.val % 64 * 16 + k.val / 64) % 16 * 64 + (k.val % 64 * 16 + k.val / 64) / 16 = k.val; omega
  · apply Fin.ext; show (k.val % 16 * 64 + k.val / 16) % 64 * 16 + (k.val % 16 * 64 + k.val / 16) / 64 = k.val; omega

end Cert.Sums

end
-- ==== Proof.MergePrompt.lean ====
/-
   The merge of the two branches (16384 rows): the array the kernel leaves is the reference's, index by index.
-/
module

public import proofs.«01_k».proof.Proof.Gen.MergePromptIdeal.Value
public import proofs.«01_k».proof.Proof.Gen.MergeRefPromptIdeal.Run
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

namespace Cert.MergeRefPromptIdeal

open Cert.MergeRefPromptIdeal Cert.MergeRefPromptIdeal.Gen Idealize.ShloMosaic Idealize.ShloMosaic.TcCoe

/-- The reference's result as a term of its arguments: the input plus the output projection of the two gated branch
    projections, the first branch brought from (element, head) to (head, element) column order. -/
def merged (a0 a1 a2 a3 : FVec Ideal S16384x1024 .f32) (a4 : FVec Ideal S16384x5120 .f32)
    (a5 a6 a7 : FVec Ideal S1x1024x1024 .f32) : FVec Ideal S16384x1024 .f32 :=
  addf a0 (Host.dotGeneral dot_S16384x1024_S1024x1024_S16384x1024_1_0_0_1_n_n none (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3072] a4 slices_S16384x5120_S16384x1024_0_3072))))) (Host.dotGeneral dot_S16384x1024_S1024x1024_S16384x1024_1_0_0_1_n_n none (shapeCast _ (transpose S16384x16x64 [0, 2, 1] (shapeCast _ (mulf a1 a2) shapeCasts_S16384x1024_S16384x64x16) transposes_S16384x64x16_S16384x16x64_0_2_1) shapeCasts_S16384x16x64_S16384x1024) (shapeCast _ a5 shapeCasts_S1x1024x1024_S1024x1024))) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 4096] a4 slices_S16384x5120_S16384x1024_0_4096))))) (Host.dotGeneral dot_S16384x1024_S1024x1024_S16384x1024_1_0_0_1_n_n none a3 (shapeCast _ a6 shapeCasts_S1x1024x1024_S1024x1024)))) (shapeCast _ a7 shapeCasts_S1x1024x1024_S1024x1024))

end Cert.MergeRefPromptIdeal

namespace Cert.MergePromptIdeal.Value

open Cert.MergePromptIdeal Cert.MergePromptIdeal.Gen Idealize.ShloMosaic Idealize.ShloMosaic.TcCoe Idealize.SL.Sem

variable (m : (ℓ : Loc nD τ sig) → Buf (Elt Ideal) ℓ)

/-- Each window's block index at a point: the row windows move with the point (the two gates at column blocks 3 and 4),
    the three weights stay. -/
theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 3 ∧ win0_5.index t 0 = t.val ∧ win0_5.index t 1 = 4
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = t.val ∧ win0_9.index t 1 = 0 :=
  (by decide +kernel : ∀ t : Fin grid0.N, _)

/-- The array after the run is the reference's merge of the arguments. -/
theorem final (c : Dev nD) : (dats m 0 c).arrAt 9 cfg0.N
    = Cert.MergeRefPromptIdeal.merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  frame_out
  idx_vars y
  pointwise [k0_pay1, k0_pay2, Cert.MergeRefPromptIdeal.merged]
  refine Ideal.add_congr ?_ (Fin.sum_fin_congr fun x => Ideal.mul_congr (Ideal.add_congr (Ideal.mul_congr ?_
    ((Cert.Sums.sum_heads _).symm.trans (Fin.sum_fin_congr fun h => Ideal.mul_congr (Ideal.mul_congr ?_ ?_) ?_)))
    (Ideal.mul_congr ?_ (Fin.sum_fin_congr fun h => Ideal.mul_congr ?_ ?_))) ?_)
  all_goals (try simp only [zero_sub])
  all_goals (try refine congrArg (fun z => Ideal.div 1 (1 + Ideal.exp (-z))) ?_)
  all_goals blk_point [iblk, V, idx t]

end Cert.MergePromptIdeal.Value

end
-- ==== Proof.MergeSample.lean ====
/-
   The merge of the two branches (512 rows): the array the kernel leaves is the reference's, index by index.
-/
module

public import proofs.«01_k».proof.Proof.Gen.MergeSampleIdeal.Value
public import proofs.«01_k».proof.Proof.Gen.MergeRefSampleIdeal.Run
public import proofs.«01_k».proof.Proof.Sums
public import Idealize.ShloMosaic.Lib.Pipeline.ValueKit
public import Idealize.ShloMosaic.Lib.Pointwise
public import Idealize.ShloMosaic.Lib.Claim

@[expose] public section

set_option maxRecDepth 16384

noncomputable section

namespace Cert.MergeRefSampleIdeal

open Cert.MergeRefSampleIdeal Cert.MergeRefSampleIdeal.Gen Idealize.ShloMosaic Idealize.ShloMosaic.TcCoe

/-- The reference's result as a term of its arguments: the input plus the output projection of the two gated branch
    projections, the first branch brought from (element, head) to (head, element) column order. -/
def merged (a0 a1 a2 a3 : FVec Ideal S512x1024 .f32) (a4 : FVec Ideal S512x5120 .f32)
    (a5 a6 a7 : FVec Ideal S1x1024x1024 .f32) : FVec Ideal S512x1024 .f32 :=
  addf a0 (Host.dotGeneral dot_S512x1024_S1024x1024_S512x1024_1_0_0_1_n_n none (addf (mulf (Host.divf (broadcastInDim S512x1024 ![] bcast_S_S512x1024 (constant S_ .f32 0x3F800000#32)) (addf (broadcastInDim S512x1024 ![] bcast_S_S512x1024 (constant S_ .f32 0x3F800000#32)) (Host.exp (Host.negf (extractStridedSlice S512x1024 ![0, 3072] a4 slices_S512x5120_S512x1024_0_3072))))) (Host.dotGeneral dot_S512x1024_S1024x1024_S512x1024_1_0_0_1_n_n none (shapeCast _ (transpose S512x16x64 [0, 2, 1] (shapeCast _ (mulf a1 a2) shapeCasts_S512x1024_S512x64x16) transposes_S512x64x16_S512x16x64_0_2_1) shapeCasts_S512x16x64_S512x1024) (shapeCast _ a5 shapeCasts_S1x1024x1024_S1024x1024))) (mulf (Host.divf (broadcastInDim S512x1024 ![] bcast_S_S512x1024 (constant S_ .f32 0x3F800000#32)) (addf (broadcastInDim S512x1024 ![] bcast_S_S512x1024 (constant S_ .f32 0x3F800000#32)) (Host.exp (Host.negf (extractStridedSlice S512x1024 ![0, 4096] a4 slices_S512x5120_S512x1024_0_4096))))) (Host.dotGeneral dot_S512x1024_S1024x1024_S512x1024_1_0_0_1_n_n none a3 (shapeCast _ a6 shapeCasts_S1x1024x1024_S1024x1024)))) (shapeCast _ a7 shapeCasts_S1x1024x1024_S1024x1024))

end Cert.MergeRefSampleIdeal

namespace Cert.MergeSampleIdeal.Value

open Cert.MergeSampleIdeal Cert.MergeSampleIdeal.Gen Idealize.ShloMosaic Idealize.ShloMosaic.TcCoe Idealize.SL.Sem

variable (m : (ℓ : Loc nD τ sig) → Buf (Elt Ideal) ℓ)

/-- Each window's block index at a point: the row windows move with the point (the two gates at column blocks 3 and 4),
    the three weights stay. -/
theorem idx : ∀ t : Fin cfg0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 3 ∧ win0_5.index t 0 = t.val ∧ win0_5.index t 1 = 4
    ∧ win0_6.index t 0 = 0 ∧ win0_6.index t 1 = 0 ∧ win0_7.index t 0 = 0 ∧ win0_7.index t 1 = 0
    ∧ win0_8.index t 0 = 0 ∧ win0_8.index t 1 = 0 ∧ win0_9.index t 0 = t.val ∧ win0_9.index t 1 = 0 :=
  (by decide +kernel : ∀ t : Fin grid0.N, _)

/-- The array after the run is the reference's merge of the arguments. -/
theorem final (c : Dev nD) : (dats m 0 c).arrAt 9 cfg0.N
    = Cert.MergeRefSampleIdeal.merged (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  frame_out
  idx_vars y
  pointwise [k0_pay1, k0_pay2, Cert.MergeRefSampleIdeal.merged]
  refine Ideal.add_congr ?_ (Fin.sum_fin_congr fun x => Ideal.mul_congr (Ideal.add_congr (Ideal.mul_congr ?_
    ((Cert.Sums.sum_heads _).symm.trans (Fin.sum_fin_congr fun h => Ideal.mul_congr (Ideal.mul_congr ?_ ?_) ?_)))
    (Ideal.mul_congr ?_ (Fin.sum_fin_congr fun h => Ideal.mul_congr ?_ ?_))) ?_)
  all_goals (try simp only [zero_sub])
  all_goals (try refine congrArg (fun z => Ideal.div 1 (1 + Ideal.exp (-z))) ?_)
  all_goals blk_point [iblk, V, idx t]

end Cert.MergeSampleIdeal.Value

end
-- ==== Proof.AlgMerge.lean ====
/-
   The merges: the kernel and the reference leave the same array.
-/
module

public import proofs.«01_k».proof.Defs
public import proofs.«01_k».proof.Proof.MergePrompt
public import proofs.«01_k».proof.Proof.MergeSample

@[expose] public section

set_option maxRecDepth 16384

noncomputable section

namespace Cert.MergePromptIdeal.Value

open Cert.MergePromptIdeal Cert.MergePromptIdeal.Gen Idealize.ShloMosaic Idealize.ShloMosaic.TcCoe Idealize.SL.Sem

/-- The kernel's result is the reference's, in exact arithmetic. -/
theorem algebraic : Cert.algebraic_MergePromptIdeal_MergeRefPromptIdeal := by
  pair_intro
  · run_from run_blocks m g
  · refine (θ_run _ _ _).mono (fun r h c => ⟨(h c).1.trans ?_, (h c).2⟩) (Cert.MergeRefPromptIdeal.Value.run m' g')
    obtain ⟨a0, a1, a2, a3, a4, a5, a6, a7⟩ := hagree c
    rw [a0, a1, a2, a3, a4, a5, a6, a7]
    exact (final m c).symm

end Cert.MergePromptIdeal.Value

namespace Cert.MergeSampleIdeal.Value

open Cert.MergeSampleIdeal Cert.MergeSampleIdeal.Gen Idealize.ShloMosaic Idealize.ShloMosaic.TcCoe Idealize.SL.Sem

/-- The kernel's result is the reference's, in exact arithmetic. -/
theorem algebraic : Cert.algebraic_MergeSampleIdeal_MergeRefSampleIdeal := by
  pair_intro
  · run_from run_blocks m g
  · refine (θ_run _ _ _).mono (fun r h c => ⟨(h c).1.trans ?_, (h c).2⟩) (Cert.MergeRefSampleIdeal.Value.run m' g')
    obtain ⟨a0, a1, a2, a3, a4, a5, a6, a7⟩ := hagree c
    rw [a0, a1, a2, a3, a4, a5, a6, a7]
    exact (final m c).symm

end Cert.MergeSampleIdeal.Value

end
-- ==== Proof.ProjPromptRun.lean ====
/-
   The in-projection of the prompt: its run, with each result array at what the last host operations leave.
-/
module

public import proofs.«01_k».proof.Proof.Gen.ProjPromptIdeal.Frame

@[expose] public section

set_option maxRecDepth 16384

noncomputable section

namespace Cert.ProjPromptIdeal.Value

open Cert.ProjPromptIdeal Cert.ProjPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result array at the contents the last host operations leave, and the arguments unchanged. -/
theorem run_end : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_v43) = W7 m ρ c (Proc.devRef .tc main_v43)
      ∧ r.2.mem ((c.tc : Thread nD τ).loc main_v44) = W7 m ρ c (Proc.devRef .tc main_v44)
      ∧ r.2.mem ((c.tc : Thread nD τ).loc main_v47) = W7 m ρ c (Proc.devRef .tc main_v47)
      ∧ r.2.mem ((c.tc : Thread nD τ).loc main_v41) = W7 m ρ c (Proc.devRef .tc main_v41)
      ∧ r.2.mem ((c.tc : Thread nD τ).loc main_v49) = W7 m ρ c (Proc.devRef .tc main_v49)
      ∧ r.2.mem ((c.tc : Thread nD τ).loc main_v51) = W7 m ρ c (Proc.devRef .tc main_v51)
      ∧ r.2.mem ((c.tc : Thread nD τ).loc main_v53) = W7 m ρ c (Proc.devRef .tc main_v53)
      ∧ r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v42 (by decide)),
       h c _ (mem_uc main_v43 (by decide)),
       h c _ (mem_uc main_v44 (by decide)),
       h c _ (mem_uc main_v47 (by decide)),
       h c _ (mem_uc main_v41 (by decide)),
       h c _ (mem_uc main_v49 (by decide)),
       h c _ (mem_uc main_v51 (by decide)),
       h c _ (mem_uc main_v53 (by decide)),
       h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.ProjPromptIdeal.Value

end
-- ==== Proof.ProjPromptRegions.lean ====
/-
   The in-projection of the prompt, region by region: what each pipeline leaves in its result array, as a term of the
   arrays it reads.
-/
module

public import proofs.«01_k».proof.Proof.Gen.ProjPromptIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

variable (V : (c : Dev nD) → (b : Ref sig .tc) → Buf (Elt Ideal) ((c : Thread nD τ).loc b))

/-- A row divided by the root of its mean square, times the gain. -/
def normed (x : FVec Ideal S16384x1024 .f32) (g : FVec Ideal S1x1024 .f32) : FVec Ideal S16384x1024 .bf16 := fun y =>
  x (ix2 (y 0) (y 1)) * Ideal.rsqrt (Ideal.div (∑ k : Fin 1024, x (ix2 (y 0) k) * x (ix2 (y 0) k)) (Ideal.ofBits .f32 0x44800000#32)
      + Ideal.ofBits .f32 0x358637BD#32)
    * g (ix2 (0 : Fin 1) (y 1))

/-- The product of the rows with a weight of `n` columns. -/
def prod {n : ℕ} (x : FVec Ideal S16384x1024 .bf16) (w : FVec Ideal ⟨2, ![1024, n]⟩ .bf16) : FVec Ideal ⟨2, ![16384, n]⟩ .f32 := fun y =>
  ∑ k : Fin 1024, x (ix2 (y 0) k) * w (ix2 k (y 1))

/-- Each window's block index at a point of the first region. -/
theorem idx0 : ∀ t : Fin cfg0.N,
    win0_0.index t 0 = t.val ∧ win0_0.index t 1 = 0 ∧ win0_1.index t 0 = 0 ∧ win0_1.index t 1 = 0
    ∧ win0_2.index t 0 = t.val ∧ win0_2.index t 1 = 0 := (by decide +kernel : ∀ t : Fin grid0.N, _)

/-- Each window's block index at a point of the second region. -/
theorem idx1 : ∀ t : Fin cfg1.N,
    win1_0.index t 0 = t.val / 3 ∧ win1_0.index t 1 = 0 ∧ win1_1.index t 0 = 0 ∧ win1_1.index t 1 = t.val % 3
    ∧ win1_2.index t 0 = t.val / 3 ∧ win1_2.index t 1 = t.val % 3 := (by decide +kernel : ∀ t : Fin grid1.N, _)

/-- Each window's block index at a point of the third region. -/
theorem idx2 : ∀ t : Fin cfg2.N,
    win2_0.index t 0 = t.val / 4 ∧ win2_0.index t 1 = 0 ∧ win2_1.index t 0 = 0 ∧ win2_1.index t 1 = t.val % 4
    ∧ win2_2.index t 0 = t.val / 4 ∧ win2_2.index t 1 = t.val % 4 := (by decide +kernel : ∀ t : Fin grid2.N, _)

/-- The first region leaves the normalised rows. -/
theorem final0 (c : Dev nD) : (dat0 V c).arrAt 2 cfg0.N = normed (V c main_v20) (V c main_v22) := by
  refine (dat0 V c).arrAt_eq_of_covers 2 _ (by decide +kernel) fun t _ y => ?_
  blk_simp
  rw [after0_2]
  frame_out
  idx_vars y
  pointwise [k0_pay1, normed]
  refine Ideal.mul_congr (Ideal.mul_congr ?_ (congrArg Ideal.rsqrt (Ideal.add_congr (congrArg (Ideal.div · _)
    (Fin.sum_fin_congr fun x => Ideal.mul_congr ?_ ?_)) rfl))) ?_
  all_goals blk_point [iblk0, idx0 t]

/-- The second region leaves the product with its weight. -/
theorem final1 (c : Dev nD) : (dat1 V c).arrAt 2 cfg1.N = prod (n := 4224) (V c main_v23) (V c main_v19) := by
  refine (dat1 V c).arrAt_eq_of_covers 2 _ (by decide +kernel) fun t _ y => ?_
  blk_simp
  rw [after1_2]
  frame_out
  idx_vars y
  pointwise [k1_pay1, prod]
  refine Fin.sum_fin_congr fun x => Ideal.mul_congr ?_ ?_
  · blk_point [iblk1, idx1 t]
  · blk_point [iblk1, idx1 t]

/-- The third region leaves the product with its weight. -/
theorem final2 (c : Dev nD) : (dat2 V c).arrAt 2 cfg2.N = prod (n := 5120) (V c main_v23) (V c main_v9) := by
  refine (dat2 V c).arrAt_eq_of_covers 2 _ (by decide +kernel) fun t _ y => ?_
  blk_simp
  rw [after2_2]
  frame_out
  idx_vars y
  pointwise [k2_pay1, prod]
  refine Fin.sum_fin_congr fun x => Ideal.mul_congr ?_ ?_
  · blk_point [iblk2, idx2 t]
  · blk_point [iblk2, idx2 t]

end Cert.ProjPromptIdeal.Value

end
-- ==== Proof.ProjPromptKeys.lean ====
/-
   The in-projection of the prompt: the normalised keys the last pipeline leaves.
-/
module

public import proofs.«01_k».proof.Proof.Gen.ProjPromptIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

variable (V : (c : Dev nD) → (b : Ref sig .tc) → Buf (Elt Ideal) ((c : Thread nD τ).loc b))

/-- The normalised key of a row of the key and value columns: an entry over the root of its head's mean square, times the gain. -/
def keyAt (x2 : Vec Ideal S512x256 .f32) (x5 : Vec Ideal S1x64 .f32) (y0 : Fin 512) (y1 : Fin 128) : Ideal .f32 :=
  x2 (ix2 y0 ⟨y1.val, by omega⟩) * Ideal.rsqrt (Ideal.div (∑ k : Fin 64, x2 (ix2 y0 ⟨64 * (y1.val / 64) + k.val, by omega⟩)
      * x2 (ix2 y0 ⟨64 * (y1.val / 64) + k.val, by omega⟩)) (Ideal.ofBits .f32 0x42800000#32) + Ideal.ofBits .f32 0x358637BD#32)
    * x5 (ix2 (0 : Fin 1) ⟨y1.val % 64, by omega⟩)

set_option maxHeartbeats 1000000 in
/-- The fourth region's block of the normalised keys, entry by entry. -/
theorem out3_at (c : Dev nD) (t : Fin cfg3.N) (x0 : Vec Ideal S512x1024 .f32) (x1 : Vec Ideal S512x512 .f32) (x2 : Vec Ideal S512x256 .f32)
    (x3 : Vec Ideal S512x128 .f32) (x4 x5 : Vec Ideal S1x64 .f32) (y0 : Fin 512) (y1 : Fin 128) :
    out3_A_6 (F := Ideal) c (grid3.coords t) (ms3_0 t) (hs3_0 t) (ms3_1 t) (hs3_1 t) (ms3_2 t) (hs3_2 t) (ms3_3 t) (hs3_3 t) (ms3_4 t) (hs3_4 t)
      (ms3_5 t) (hs3_5 t) (ms3_6 t) (hs3_6 t) (ms3_7 t) (hs3_7 t) (ms3_8 t) (hs3_8 t) (ms3_9 t) (hs3_9 t) (ms3_10 t) (hs3_10 t)
      x0 x1 x2 x3 x4 x5 (ix2 y0 y1) = keyAt x2 x5 y0 y1 := by
  unfold out3_A_6
  frame_out
  canon_tiles x h
  all_goals
    idx_vars x
    pointwise [k3_pay1, k3_pay4, k3_pay5, k3_pay6, keyAt]
    obtain rfl : y0 = x0 := Fin.ext h0
    refine Ideal.mul_congr (Ideal.mul_congr (congrArg x2 (congrArg (ix2 y0) (Fin.ext ?_))) (congrArg Ideal.rsqrt (Ideal.add_congr
      (congrArg (Ideal.div · _) (Fin.sum_fin_congr fun k => Ideal.mul_congr (congrArg x2 (congrArg (ix2 y0) (Fin.ext ?_)))
        (congrArg x2 (congrArg (ix2 y0) (Fin.ext ?_))))) rfl))) (congrArg x5 (congrArg (ix2 (0 : Fin 1)) (Fin.ext ?_)))
    all_goals (dsimp only; omega)

/-- The normalised keys from the columns of the second product: an entry over the root of its head's mean square, times the gain. -/
def keyed (z : FVec Ideal S16384x5120 .f32) (g : FVec Ideal S1x64 .f32) : FVec Ideal S16384x128 .f32 := fun y =>
  z (ix2 (y 0) ⟨1536 + (y 1).val, by have := (y 1).isLt; change _ < 128 at this; omega⟩) * Ideal.rsqrt (Ideal.div (∑ k : Fin 64,
      z (ix2 (y 0) ⟨1536 + (64 * ((y 1).val / 64) + k.val), by have := (y 1).isLt; change _ < 128 at this; omega⟩)
      * z (ix2 (y 0) ⟨1536 + (64 * ((y 1).val / 64) + k.val), by have := (y 1).isLt; change _ < 128 at this; omega⟩)) (Ideal.ofBits .f32 0x42800000#32)
        + Ideal.ofBits .f32 0x358637BD#32)
    * g (ix2 (0 : Fin 1) ⟨(y 1).val % 64, by omega⟩)

/-- Each window's block index at a point of the fourth region. -/
theorem idx3 : ∀ t : Fin cfg3.N,
    win3_2.index t 0 = t.val ∧ win3_2.index t 1 = 6 ∧ win3_5.index t 0 = 0 ∧ win3_5.index t 1 = 0
    ∧ win3_6.index t 0 = t.val ∧ win3_6.index t 1 = 0 := (by decide +kernel : ∀ t : Fin grid3.N, _)

set_option maxHeartbeats 1000000 in
/-- The block of the keys the fourth region leaves at a point, entry by entry. -/
theorem outs3_at (c : Dev nD) (t : Fin cfg3.N) (y0 : Fin 512) (y1 : Fin 128) :
    (outsAt3 V c t).1 (ix2 y0 y1) = keyAt (iblk3 V c 2 t) (iblk3 V c 5 t) y0 y1 := by
  unfold outsAt3
  dsimp only
  exact out3_at c t (iblk3 V c 0 t) (iblk3 V c 1 t) (iblk3 V c 2 t) (iblk3 V c 3 t) (iblk3 V c 4 t) (iblk3 V c 5 t) y0 y1

/-- The block of the key and value columns at a point. -/
theorem kv_at (c : Dev nD) (t : Fin cfg3.N) (y0 : Fin 512) (j : Fin 256) (r : Fin 16384) (q : Fin 5120) (hr : r.val = t.val * 512 + y0.val)
    (hq : q.val = 1536 + j.val) : (iblk3 V c 2 t : Vec Ideal S512x256 .f32) (ix2 y0 j) = V c main_v25 (ix2 r q) := by
  blk_point [iblk3, idx3 t]

/-- The keys' gain at a point. -/
theorem gain_at (c : Dev nD) (t : Fin cfg3.N) (j : Fin 64) :
    (iblk3 V c 5 t : Vec Ideal S1x64 .f32) (ix2 (0 : Fin 1) j) = V c main_v29 (ix2 (0 : Fin 1) j) := by
  blk_point [iblk3, idx3 t]

/-- The place of an entry of the keys' block in the array. -/
theorem emb3 (t : Fin cfg3.N) (y0 : Fin 512) (y1 : Fin 128) (r : Fin 16384) (hr : r.val = t.val * 512 + y0.val) :
    (((View.whole main_v30_0).slice (win3_6.rect t)).emb (ix2 y0 y1) : S16384x128.Idx) = ix2 r y1 := by
  refine funext fun a => Fin.ext ?_
  match a with
  | ⟨0, _⟩ => exact (show win3_6.index t 0 * 512 + 1 * y0.val = r.val by rw [(idx3 t).2.2.2.2.1]; omega)
  | ⟨1, _⟩ => exact (show win3_6.index t 1 * 128 + 1 * y1.val = y1.val by rw [(idx3 t).2.2.2.2.2]; omega)

set_option maxHeartbeats 1000000 in
/-- The fourth region leaves the normalised keys. -/
theorem final3 (c : Dev nD) : (dat3 V c).arrAt 6 cfg3.N = keyed (V c main_v25) (V c main_v29) := by
  refine (dat3 V c).arrAt_eq_of_covers 6 _ (by decide +kernel) fun t _ y => ?_
  blk_simp
  rw [after3_6]
  idx_vars y
  have ht : t.val < 32 := t.isLt
  refine (outs3_at V c t y0 y1).trans ?_
  refine Eq.trans ?_ (congrArg (keyed (V c main_v25) (V c main_v29)) (emb3 t y0 y1 ⟨t.val * 512 + y0.val, by omega⟩ rfl).symm)
  unfold keyAt keyed
  refine Ideal.mul_congr (Ideal.mul_congr ?_ (congrArg Ideal.rsqrt (Ideal.add_congr (congrArg (Ideal.div · _)
    (Fin.sum_fin_congr fun x => Ideal.mul_congr ?_ ?_)) rfl))) ?_
  · exact kv_at V c t y0 _ _ _ rfl rfl
  · exact kv_at V c t y0 _ _ _ rfl rfl
  · exact kv_at V c t y0 _ _ _ rfl rfl
  · exact gain_at V c t _

end Cert.ProjPromptIdeal.Value

end
-- ==== Proof.ProjPromptArrays.lean ====
/-
   The in-projection of the prompt: the arrays between its regions, as terms of the arguments.
-/
module

public import proofs.«01_k».proof.Proof.ProjPromptRegions
public import proofs.«01_k».proof.Proof.ProjPromptKeys

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

/-- The rows of the input. -/
def rows (a0 : FVec Ideal S8x2048x1024 .f32) : FVec Ideal S16384x1024 .f32 := shapeCast S16384x1024 a0 shapeCasts_S8x2048x1024_S16384x1024

/-- The gain of the norm, as a row. -/
def gain (a1 : FVec Ideal S1x1024 .f32) : FVec Ideal S1x1024 .f32 :=
  shapeCast S1x1024 (shapeCast S1024 a1 shapeCasts_S1x1024_S1024) shapeCasts_S1024_S1x1024

/-- The keys' gain, as a row. -/
def keyGain (a4 : FVec Ideal S1x64 .f32) : FVec Ideal S1x64 .f32 := shapeCast S1x64 (shapeCast S64 a4 shapeCasts_S1x64_S64) shapeCasts_S64_S1x64

/-- The weight as a matrix. -/
def weight (a2 : FVec Ideal S1x1024x9160 .f32) : FVec Ideal S1024x9160 .f32 := shapeCast S1024x9160 a2 shapeCasts_S1x1024x9160_S1024x9160

/-- The columns of the attention and the gates in the kernel's order, with zeros between. -/
def attnWeight (a2 : FVec Ideal S1x1024x9160 .f32) : FVec Ideal S1024x5120 .bf16 :=
  truncf .bf16 (concatenate S1024x5120 1
    [⟨S1024x1024, extractStridedSlice S1024x1024 ![0, 4224] (weight a2) slices_S1024x9160_S1024x1024_0_4224⟩,
     ⟨S1024x512, extractStridedSlice S1024x512 ![0, 5504] (weight a2) slices_S1024x9160_S1024x512_0_5504⟩,
     ⟨S1024x256, extractStridedSlice S1024x256 ![0, 5248] (weight a2) slices_S1024x9160_S1024x256_0_5248⟩,
     ⟨S1024x72, extractStridedSlice S1024x72 ![0, 6016] (weight a2) slices_S1024x9160_S1024x72_0_6016⟩,
     ⟨S1024x56, broadcastInDim S1024x56 ![] bcast_S_S1024x56 (constant S_ .f32 0x00000000#32 : FVec Ideal S_ .f32)⟩,
     ⟨S1024x128, broadcastInDim S1024x128 ![] bcast_S_S1024x128 (constant S_ .f32 0x00000000#32 : FVec Ideal S_ .f32)⟩,
     ⟨S1024x3072, extractStridedSlice S1024x3072 ![0, 6088] (weight a2) slices_S1024x9160_S1024x3072_0_6088⟩]
    concatenates_S1024x1024_S1024x512_S1024x256_S1024x72_S1024x56_S1024x128_S1024x3072_S1024x5120_d1 : FVec Ideal S1024x5120 .f32) bitsLt_bf16_f32

/-- The columns of the recurrence in the kernel's order: within each of four groups, head and entry exchanged. -/
def recWeight (a2 : FVec Ideal S1x1024x9160 .f32) : FVec Ideal S1024x4224 .bf16 :=
  truncf .bf16 (concatenate S1024x4224 1
    [⟨S1024x4096, shapeCast S1024x4096 (shapeCast S1024x4x1024 (transpose S1024x4x64x16 [0, 1, 3, 2]
        (shapeCast S1024x4x16x64 (shapeCast S1024x4x1024 (extractStridedSlice S1024x4096 ![0, 0]
          (extractStridedSlice S1024x4224 ![0, 0] (weight a2) slices_S1024x9160_S1024x4224_0_0) slices_S1024x4224_S1024x4096_0_0)
          shapeCasts_S1024x4096_S1024x4x1024) shapeCasts_S1024x4x1024_S1024x4x16x64) transposes_S1024x4x16x64_S1024x4x64x16_0_1_3_2)
        shapeCasts_S1024x4x64x16_S1024x4x1024) shapeCasts_S1024x4x1024_S1024x4096⟩,
     ⟨S1024x128, extractStridedSlice S1024x128 ![0, 4096]
        (extractStridedSlice S1024x4224 ![0, 0] (weight a2) slices_S1024x9160_S1024x4224_0_0) slices_S1024x4224_S1024x128_0_4096⟩]
    concatenates_S1024x4096_S1024x128_S1024x4224_d1 : FVec Ideal S1024x4224 .f32) bitsLt_bf16_f32

variable (m : (ℓ : Loc nD τ sig) → Buf (Elt Ideal) ℓ) (ρ : Dev nD → PrngReg) (c : Dev nD)

/-- Argument 0, 1, 2, 4 at the launch. -/
abbrev A0 : FVec Ideal S8x2048x1024 .f32 := m ((c.tc : Thread nD τ).loc main_arg0)
@[inherit_doc A0] abbrev A1 : FVec Ideal S1x1024 .f32 := m ((c.tc : Thread nD τ).loc main_arg1)
@[inherit_doc A0] abbrev A2 : FVec Ideal S1x1024x9160 .f32 := m ((c.tc : Thread nD τ).loc main_arg2)
@[inherit_doc A0] abbrev A4 : FVec Ideal S1x64 .f32 := m ((c.tc : Thread nD τ).loc main_arg4)

/-- The rows enter the first region. -/
theorem W1_rows : W1 m ρ c (Proc.devRef .tc main_v20) = rows (A0 m c) := by
  dsimp only [W1]; after_results_simp <;> rfl

/-- The gain enters the first region. -/
theorem W1_gain : W1 m ρ c (Proc.devRef .tc main_v22) = gain (A1 m c) := by
  dsimp only [W1]; after_results_simp <;> rfl

/-- The columns of the attention and the gates, before the first region. -/
theorem W1_attn : W1 m ρ c (Proc.devRef .tc main_v9) = attnWeight (A2 m c) := by
  dsimp only [W1]; after_results_simp <;> rfl

/-- The columns of the recurrence, before the first region. -/
theorem W1_rec : W1 m ρ c (Proc.devRef .tc main_v19) = recWeight (A2 m c) := by
  dsimp only [W1]; after_results_simp <;> rfl

/-- The normalised rows after the first region. -/
theorem W2_norm : W2 m ρ c (Proc.devRef .tc main_v23) = normed (rows (A0 m c)) (gain (A1 m c)) :=
  ((W2_arr m ρ c 2).trans (final0 (V1 m ρ) c)).trans (congrArg₂ normed (W1_rows m ρ c) (W1_gain m ρ c))

/-- The second region's product. -/
def recOut (a0 : FVec Ideal S8x2048x1024 .f32) (a1 : FVec Ideal S1x1024 .f32) (a2 : FVec Ideal S1x1024x9160 .f32) : FVec Ideal S16384x4224 .f32 :=
  prod (n := 4224) (normed (rows a0) (gain a1)) (recWeight a2)

/-- The third region's product. -/
def attnOut (a0 : FVec Ideal S8x2048x1024 .f32) (a1 : FVec Ideal S1x1024 .f32) (a2 : FVec Ideal S1x1024x9160 .f32) : FVec Ideal S16384x5120 .f32 :=
  prod (n := 5120) (normed (rows a0) (gain a1)) (attnWeight a2)

/-- The product of the recurrence's columns after the second region. -/
theorem W3_rec : W3 m ρ c (Proc.devRef .tc main_v24) = recOut (A0 m c) (A1 m c) (A2 m c) :=
  ((W3_arr m ρ c 2).trans (final1 (V2 m ρ) c)).trans (congrArg₂ (prod (n := 4224)) (W2_norm m ρ c)
    ((W2_of m ρ c main_v19 (by decide)).trans (W1_rec m ρ c)))

/-- The product of the attention's columns after the third region. -/
theorem W4_attn : W4 m ρ c (Proc.devRef .tc main_v25) = attnOut (A0 m c) (A1 m c) (A2 m c) :=
  ((W4_arr m ρ c 2).trans (final2 (V3 m ρ) c)).trans (congrArg₂ (prod (n := 5120))
    ((W3_of m ρ c main_v23 (by decide)).trans (W2_norm m ρ c))
    (((W3_of m ρ c main_v9 (by decide)).trans (W2_of m ρ c main_v9 (by decide))).trans (W1_attn m ρ c)))

/-- The product of the attention's columns enters the fourth region. -/
theorem W5_attn : W5 m ρ c (Proc.devRef .tc main_v25) = attnOut (A0 m c) (A1 m c) (A2 m c) :=
  (W5_of m ρ c main_v25 (by decide)).trans (W4_attn m ρ c)

/-- The keys' gain enters the fourth region. -/
theorem W5_keyGain : W5 m ρ c (Proc.devRef .tc main_v29) = keyGain (A4 m c) := by
  have h : W4 m ρ c (Proc.devRef .tc main_arg4) = A4 m c := W4_args m ρ c main_arg4 (by decide)
  have h' : W5 m ρ c (Proc.devRef .tc main_v29) = keyGain (W4 m ρ c (Proc.devRef .tc main_arg4)) := by
    dsimp only [W5]; after_results_simp <;> rfl
  exact h'.trans (congrArg keyGain h)

/-- The keys after the fourth region. -/
theorem W6_keys : W6 m ρ c (Proc.devRef .tc main_v30_0) = keyed (attnOut (A0 m c) (A1 m c) (A2 m c)) (keyGain (A4 m c)) :=
  ((W6_arr m ρ c 6).trans (final3 (V5 m ρ) c)).trans (congrArg₂ keyed (W5_attn m ρ c) (W5_keyGain m ρ c))

/-- The product of the attention's columns after the fourth region. -/
theorem W6_attn : W6 m ρ c (Proc.devRef .tc main_v25) = attnOut (A0 m c) (A1 m c) (A2 m c) :=
  (W6_of m ρ c main_v25 (by decide)).trans (W5_attn m ρ c)

/-- The product of the recurrence's columns after the fourth region. -/
theorem W6_rec : W6 m ρ c (Proc.devRef .tc main_v24) = recOut (A0 m c) (A1 m c) (A2 m c) :=
  (W6_of m ρ c main_v24 (by decide)).trans ((W5_of m ρ c main_v24 (by decide)).trans ((W4_of m ρ c main_v24 (by decide)).trans (W3_rec m ρ c)))

/-- Result 0's host operations: the keys by head. -/
def headKeys (k : FVec Ideal S16384x128 .f32) : FVec Ideal S1x8x2048x2x64 .f32 := shapeCast S1x8x2048x2x64 k shapeCasts_S16384x128_S1x8x2048x2x64
/-- Result 1's host operations: the values by head. -/
def headValues (z : FVec Ideal S16384x5120 .f32) : FVec Ideal S1x8x2048x2x64 .f32 :=
  shapeCast S1x8x2048x2x64 (extractStridedSlice S16384x128 ![0, 1664] z slices_S16384x5120_S16384x128_0_1664) shapeCasts_S16384x128_S1x8x2048x2x64
/-- Result 2's host operations: the index keys. -/
def headIdx (z : FVec Ideal S16384x5120 .f32) : FVec Ideal S1x8x2048x64 .f32 :=
  shapeCast S1x8x2048x64 (extractStridedSlice S16384x64 ![0, 1792] z slices_S16384x5120_S16384x64_0_1792) shapeCasts_S16384x64_S1x8x2048x64
/-- Result 4's host operations: the recurrence's columns in the weight's order. -/
def recBack (z : FVec Ideal S16384x4224 .f32) : FVec Ideal S8x2048x4224 .f32 :=
  concatenate S8x2048x4224 2
    [⟨S8x2048x4096, shapeCast S8x2048x4096 (shapeCast S8x2048x4x1024 (transpose S8x2048x4x16x64 [0, 1, 2, 4, 3]
        (shapeCast S8x2048x4x64x16 (shapeCast S8x2048x4x1024 (extractStridedSlice S8x2048x4096 ![0, 0, 0]
          (shapeCast S8x2048x4224 z shapeCasts_S16384x4224_S8x2048x4224) slices_S8x2048x4224_S8x2048x4096_0_0_0)
          shapeCasts_S8x2048x4096_S8x2048x4x1024) shapeCasts_S8x2048x4x1024_S8x2048x4x64x16) transposes_S8x2048x4x64x16_S8x2048x4x16x64_0_1_2_4_3)
        shapeCasts_S8x2048x4x16x64_S8x2048x4x1024) shapeCasts_S8x2048x4x1024_S8x2048x4096⟩,
     ⟨S8x2048x128, extractStridedSlice S8x2048x128 ![0, 0, 4096]
        (shapeCast S8x2048x4224 z shapeCasts_S16384x4224_S8x2048x4224) slices_S8x2048x4224_S8x2048x128_0_0_4096⟩]
    concatenates_S8x2048x4096_S8x2048x128_S8x2048x4224_d2
/-- Result 3's host operations: the last token's row of the recurrence's columns. -/
def lastRow (z : FVec Ideal S8x2048x4224 .f32) : FVec Ideal S1x8x4224 .f32 :=
  broadcastInDim S1x8x4224 ![1, 2] bcast_S8x4224_S1x8x4224_1_2
    (shapeCast S8x4224 (extractStridedSlice S8x1x4224 ![0, 2047, 0] z slices_S8x2048x4224_S8x1x4224_0_2047_0) shapeCasts_S8x1x4224_S8x4224)
/-- Result 5's host operations: the queries' columns. -/
def queries (z : FVec Ideal S16384x5120 .f32) : FVec Ideal S8x2048x1024 .f32 :=
  shapeCast S8x2048x1024 (extractStridedSlice S16384x1024 ![0, 0] z slices_S16384x5120_S16384x1024_0_0) shapeCasts_S16384x1024_S8x2048x1024
/-- Result 6's host operations: the index queries' columns. -/
def idxQueries (z : FVec Ideal S16384x5120 .f32) : FVec Ideal S8x2048x512 .f32 :=
  shapeCast S8x2048x512 (extractStridedSlice S16384x512 ![0, 1024] z slices_S16384x5120_S16384x512_0_1024) shapeCasts_S16384x512_S8x2048x512
/-- Result 7's host operations: the index heads' weights. -/
def idxWeights (z : FVec Ideal S16384x5120 .f32) : FVec Ideal S8x2048x8 .f32 :=
  shapeCast S8x2048x8 (extractStridedSlice S16384x8 ![0, 1856] z slices_S16384x5120_S16384x8_0_1856) shapeCasts_S16384x8_S8x2048x8
/-- Result 8's host operations: the gates' columns. -/
def gates (z : FVec Ideal S16384x5120 .f32) : FVec Ideal S8x2048x3072 .f32 :=
  shapeCast S8x2048x3072 (extractStridedSlice S16384x3072 ![0, 2048] z slices_S16384x5120_S16384x3072_0_2048) shapeCasts_S16384x3072_S8x2048x3072

end Cert.ProjPromptIdeal.Value

end
-- ==== Proof.ProjPromptResults.lean ====
/-
   The in-projection of the prompt: what the last host operations leave in each result array.
-/
module

public import proofs.«01_k».proof.Proof.ProjPromptArrays

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

variable (m : (ℓ : Loc nD τ sig) → Buf (Elt Ideal) ℓ) (ρ : Dev nD → PrngReg) (c : Dev nD)

/-- Result 0: the normalised keys. -/
theorem W7_keys : W7 m ρ c (Proc.devRef .tc main_v42) = headKeys (keyed (attnOut (A0 m c) (A1 m c) (A2 m c)) (keyGain (A4 m c))) := by
  have h : W7 m ρ c (Proc.devRef .tc main_v42) = headKeys (W6 m ρ c (Proc.devRef .tc main_v30_0)) := by
    dsimp only [W7]; after_results_simp <;> rfl
  exact h.trans (congrArg headKeys (W6_keys m ρ c))
/-- Result 1: the values. -/
theorem W7_values : W7 m ρ c (Proc.devRef .tc main_v43) = headValues (attnOut (A0 m c) (A1 m c) (A2 m c)) := by
  have h : W7 m ρ c (Proc.devRef .tc main_v43) = headValues (W6 m ρ c (Proc.devRef .tc main_v25)) := by
    dsimp only [W7]; after_results_simp <;> rfl
  exact h.trans (congrArg headValues (W6_attn m ρ c))
/-- Result 2: the index keys. -/
theorem W7_idx : W7 m ρ c (Proc.devRef .tc main_v44) = headIdx (attnOut (A0 m c) (A1 m c) (A2 m c)) := by
  have h : W7 m ρ c (Proc.devRef .tc main_v44) = headIdx (W6 m ρ c (Proc.devRef .tc main_v25)) := by
    dsimp only [W7]; after_results_simp <;> rfl
  exact h.trans (congrArg headIdx (W6_attn m ρ c))
/-- Result 5: the queries. -/
theorem W7_queries : W7 m ρ c (Proc.devRef .tc main_v49) = queries (attnOut (A0 m c) (A1 m c) (A2 m c)) := by
  have h : W7 m ρ c (Proc.devRef .tc main_v49) = queries (W6 m ρ c (Proc.devRef .tc main_v25)) := by
    dsimp only [W7]; after_results_simp <;> rfl
  exact h.trans (congrArg queries (W6_attn m ρ c))
/-- Result 6: the index queries. -/
theorem W7_idxQueries : W7 m ρ c (Proc.devRef .tc main_v51) = idxQueries (attnOut (A0 m c) (A1 m c) (A2 m c)) := by
  have h : W7 m ρ c (Proc.devRef .tc main_v51) = idxQueries (W6 m ρ c (Proc.devRef .tc main_v25)) := by
    dsimp only [W7]; after_results_simp <;> rfl
  exact h.trans (congrArg idxQueries (W6_attn m ρ c))
/-- Result 7: the index heads' weights. -/
theorem W7_idxWeights : W7 m ρ c (Proc.devRef .tc main_v53) = idxWeights (attnOut (A0 m c) (A1 m c) (A2 m c)) := by
  have h : W7 m ρ c (Proc.devRef .tc main_v53) = idxWeights (W6 m ρ c (Proc.devRef .tc main_v25)) := by
    dsimp only [W7]; after_results_simp <;> rfl
  exact h.trans (congrArg idxWeights (W6_attn m ρ c))
/-- Result 8: the gates. -/
theorem W7_gates : W7 m ρ c (Proc.devRef .tc main_v55) = gates (attnOut (A0 m c) (A1 m c) (A2 m c)) := by
  have h : W7 m ρ c (Proc.devRef .tc main_v55) = gates (W6 m ρ c (Proc.devRef .tc main_v25)) := by
    dsimp only [W7]; after_results_simp <;> rfl
  exact h.trans (congrArg gates (W6_attn m ρ c))

end Cert.ProjPromptIdeal.Value

end
-- ==== Proof.ProjPromptRec.lean ====
/-
   The in-projection of the prompt: what the last host operations leave in each result array.
-/
module

public import proofs.«01_k».proof.Proof.ProjPromptArrays

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

variable (m : (ℓ : Loc nD τ sig) → Buf (Elt Ideal) ℓ) (ρ : Dev nD → PrngReg) (c : Dev nD)

/-- The recurrence's product by sequence and token. -/
theorem at_v33 : (W7 m ρ c (Proc.devRef .tc main_v33) : FVec Ideal S8x2048x4224 .f32) = shapeCast S8x2048x4224 (W6 m ρ c (Proc.devRef .tc main_v24) : FVec Ideal S16384x4224 .f32) shapeCasts_S16384x4224_S8x2048x4224 := by
  dsimp only [W7]; after_results_simp <;> rfl

/-- Its first 4096 columns. -/
theorem at_v34 : (W7 m ρ c (Proc.devRef .tc main_v34) : FVec Ideal S8x2048x4096 .f32) = extractStridedSlice S8x2048x4096 ![0, 0, 0] (W7 m ρ c (Proc.devRef .tc main_v33) : FVec Ideal S8x2048x4224 .f32) slices_S8x2048x4224_S8x2048x4096_0_0_0 := by
  dsimp only [W7]; after_results_simp <;> rfl

/-- Them in four groups. -/
theorem at_v35 : (W7 m ρ c (Proc.devRef .tc main_v35) : FVec Ideal S8x2048x4x1024 .f32) = shapeCast S8x2048x4x1024 (W7 m ρ c (Proc.devRef .tc main_v34) : FVec Ideal S8x2048x4096 .f32) shapeCasts_S8x2048x4096_S8x2048x4x1024 := by
  dsimp only [W7]; after_results_simp <;> rfl

/-- Each group by entry and head. -/
theorem at_v36 : (W7 m ρ c (Proc.devRef .tc main_v36) : FVec Ideal S8x2048x4x64x16 .f32) = shapeCast S8x2048x4x64x16 (W7 m ρ c (Proc.devRef .tc main_v35) : FVec Ideal S8x2048x4x1024 .f32) shapeCasts_S8x2048x4x1024_S8x2048x4x64x16 := by
  dsimp only [W7]; after_results_simp <;> rfl

/-- Head and entry exchanged. -/
theorem at_v37 : (W7 m ρ c (Proc.devRef .tc main_v37) : FVec Ideal S8x2048x4x16x64 .f32) = transpose S8x2048x4x16x64 [0, 1, 2, 4, 3] (W7 m ρ c (Proc.devRef .tc main_v36) : FVec Ideal S8x2048x4x64x16 .f32) transposes_S8x2048x4x64x16_S8x2048x4x16x64_0_1_2_4_3 := by
  dsimp only [W7]; after_results_simp <;> rfl

/-- The groups again. -/
theorem at_v38 : (W7 m ρ c (Proc.devRef .tc main_v38) : FVec Ideal S8x2048x4x1024 .f32) = shapeCast S8x2048x4x1024 (W7 m ρ c (Proc.devRef .tc main_v37) : FVec Ideal S8x2048x4x16x64 .f32) shapeCasts_S8x2048x4x16x64_S8x2048x4x1024 := by
  dsimp only [W7]; after_results_simp <;> rfl

/-- The 4096 columns in the weight's order. -/
theorem at_v39 : (W7 m ρ c (Proc.devRef .tc main_v39) : FVec Ideal S8x2048x4096 .f32) = shapeCast S8x2048x4096 (W7 m ρ c (Proc.devRef .tc main_v38) : FVec Ideal S8x2048x4x1024 .f32) shapeCasts_S8x2048x4x1024_S8x2048x4096 := by
  dsimp only [W7]; after_results_simp <;> rfl

/-- The other 128 columns. -/
theorem at_v40 : (W7 m ρ c (Proc.devRef .tc main_v40) : FVec Ideal S8x2048x128 .f32) = extractStridedSlice S8x2048x128 ![0, 0, 4096] (W7 m ρ c (Proc.devRef .tc main_v33) : FVec Ideal S8x2048x4224 .f32) slices_S8x2048x4224_S8x2048x128_0_0_4096 := by
  dsimp only [W7]; after_results_simp <;> rfl

/-- All the columns. -/
theorem at_v41 : (W7 m ρ c (Proc.devRef .tc main_v41) : FVec Ideal S8x2048x4224 .f32) = concatenate S8x2048x4224 2 [⟨S8x2048x4096, (W7 m ρ c (Proc.devRef .tc main_v39) : FVec Ideal S8x2048x4096 .f32)⟩, ⟨S8x2048x128, (W7 m ρ c (Proc.devRef .tc main_v40) : FVec Ideal S8x2048x128 .f32)⟩] concatenates_S8x2048x4096_S8x2048x128_S8x2048x4224_d2 := by
  dsimp only [W7]; after_results_simp <;> rfl

/-- Result 4: the recurrence's columns. -/
theorem W7_rec : W7 m ρ c (Proc.devRef .tc main_v41) = recBack (recOut (A0 m c) (A1 m c) (A2 m c)) := by
  refine (at_v41 m ρ c).trans ?_
  rw [at_v39, at_v38, at_v37, at_v36, at_v35, at_v34, at_v40, at_v33, W6_rec]
  unfold recBack
  with_reducible rfl

/-- Result 3: the last token's row of the recurrence's columns. -/
theorem W7_last : W7 m ρ c (Proc.devRef .tc main_v47) = lastRow (recBack (recOut (A0 m c) (A1 m c) (A2 m c))) := by
  have h : W7 m ρ c (Proc.devRef .tc main_v47) = broadcastInDim S1x8x4224 ![1, 2] bcast_S8x4224_S1x8x4224_1_2
      (shapeCast S8x4224 (extractStridedSlice S8x1x4224 ![0, 2047, 0] (W7 m ρ c (Proc.devRef .tc main_v41) : FVec Ideal S8x2048x4224 .f32)
        slices_S8x2048x4224_S8x1x4224_0_2047_0) shapeCasts_S8x1x4224_S8x4224) := by
    dsimp only [W7]; after_results_simp <;> rfl
  refine h.trans ?_
  rw [W7_rec]
  unfold lastRow
  with_reducible rfl

end Cert.ProjPromptIdeal.Value

end
-- ==== Proof.ProjRefPrompt.lean ====
/-
   The in-projection of the prompt: the reference's results, entry by entry.
-/
module

public import proofs.«01_k».proof.Proof.Gen.ProjRefPromptIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjRefPromptIdeal

open Cert.ProjRefPromptIdeal Cert.ProjRefPromptIdeal.Gen Idealize.ShloMosaic Idealize.ShloMosaic.TcCoe

/-- An entry of the normalised input. -/
def xAt (a0 : FVec Ideal S8x2048x1024 .f32) (a1 : FVec Ideal S1x1024 .f32) (b : Fin 8) (t : Fin 2048) (k : Fin 1024) : Ideal .f32 :=
  a0 (ix3 b t k) * Ideal.rsqrt (Ideal.div (∑ x : Fin 1024, a0 (ix3 b t x) * a0 (ix3 b t x)) (Ideal.ofBits .f32 0x44800000#32)
    + Ideal.ofBits .f32 0x358637BD#32) * a1 (ix2 (0 : Fin 1) k)

/-- An entry of the in-projection. -/
def zAt (a0 : FVec Ideal S8x2048x1024 .f32) (a1 : FVec Ideal S1x1024 .f32) (a2 : FVec Ideal S1x1024x9160 .f32) (b : Fin 8) (t : Fin 2048) (j : Fin 9160) : Ideal .f32 :=
  ∑ k : Fin 1024, xAt a0 a1 b t k * a2 (ix3 (0 : Fin 1) k j)

/-- An entry of the normalised keys. -/
def kAt (a0 : FVec Ideal S8x2048x1024 .f32) (a1 : FVec Ideal S1x1024 .f32) (a2 : FVec Ideal S1x1024x9160 .f32) (a4 : FVec Ideal S1x64 .f32) (b : Fin 8) (t : Fin 2048) (h : Fin 2) (j : Fin 64) : Ideal .f32 :=
  zAt a0 a1 a2 b t ⟨5248 + (h.val * 64 + j.val), by omega⟩ * Ideal.rsqrt (Ideal.div (∑ x : Fin 64,
      zAt a0 a1 a2 b t ⟨5248 + (h.val * 64 + x.val), by omega⟩ * zAt a0 a1 a2 b t ⟨5248 + (h.val * 64 + x.val), by omega⟩)
      (Ideal.ofBits .f32 0x42800000#32) + Ideal.ofBits .f32 0x358637BD#32)
    * a4 (ix2 (0 : Fin 1) j)

/-- The reference's result 0 of its arguments: the normalised keys. -/
def r0 (a0 : FVec Ideal S8x2048x1024 .f32) (a1 : FVec Ideal S1x1024 .f32) (a2 : FVec Ideal S1x1024x9160 .f32) (a4 : FVec Ideal S1x64 .f32) : FVec Ideal S1x8x2048x2x64 .f32 :=
  broadcastInDim S1x8x2048x2x64 ![1, 2, 3, 4] bcast_S8x2048x2x64_S1x8x2048x2x64_1_2_3_4 (mulf (mulf (shapeCast _ (extractStridedSlice S8x2048x128 ![0, 0, 5248] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x128_0_0_5248) shapeCasts_S8x2048x128_S8x2048x2x64) (broadcastInDim S8x2048x2x64 ![0, 1, 2, 3] bcast_S8x2048x2x1_S8x2048x2x64_0_1_2_3 (Host.rsqrt (addf (Host.divf (broadcastInDim S8x2048x2x1 ![0, 1, 2] bcast_S8x2048x2_S8x2048x2x1_0_1_2 (Host.reduceAdd (mulf (shapeCast _ (extractStridedSlice S8x2048x128 ![0, 0, 5248] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x128_0_0_5248) shapeCasts_S8x2048x128_S8x2048x2x64) (shapeCast _ (extractStridedSlice S8x2048x128 ![0, 0, 5248] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x128_0_0_5248) shapeCasts_S8x2048x128_S8x2048x2x64)) (constant S_ .f32 0x00000000#32) reducesTo_S8x2048x2x64_S8x2048x2_d3 h_S_)) (broadcastInDim S8x2048x2x1 ![] bcast_S_S8x2048x2x1 (constant S_ .f32 0x42800000#32))) (broadcastInDim S8x2048x2x1 ![] bcast_S_S8x2048x2x1 (constant S_ .f32 0x358637BD#32)))))) (broadcastInDim S8x2048x2x64 ![0, 1, 2, 3] bcast_S1x1x1x64_S8x2048x2x64_0_1_2_3 (broadcastInDim S1x1x1x64 ![3] bcast_S64_S1x1x1x64_3 (shapeCast _ a4 shapeCasts_S1x64_S64))))

/-- The reference's result 1 of its arguments: the values. -/
def r1 (a0 : FVec Ideal S8x2048x1024 .f32) (a1 : FVec Ideal S1x1024 .f32) (a2 : FVec Ideal S1x1024x9160 .f32) : FVec Ideal S1x8x2048x2x64 .f32 :=
  broadcastInDim S1x8x2048x2x64 ![1, 2, 3, 4] bcast_S8x2048x2x64_S1x8x2048x2x64_1_2_3_4 (shapeCast _ (extractStridedSlice S8x2048x128 ![0, 0, 5376] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x128_0_0_5376) shapeCasts_S8x2048x128_S8x2048x2x64)

/-- The reference's result 2 of its arguments: the index keys. -/
def r2 (a0 : FVec Ideal S8x2048x1024 .f32) (a1 : FVec Ideal S1x1024 .f32) (a2 : FVec Ideal S1x1024x9160 .f32) : FVec Ideal S1x8x2048x64 .f32 :=
  broadcastInDim S1x8x2048x64 ![1, 2, 3] bcast_S8x2048x64_S1x8x2048x64_1_2_3 (extractStridedSlice S8x2048x64 ![0, 0, 6016] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x64_0_0_6016)

/-- The reference's result 3 of its arguments: the last token's row of the recurrence's columns. -/
def r3 (a0 : FVec Ideal S8x2048x1024 .f32) (a1 : FVec Ideal S1x1024 .f32) (a2 : FVec Ideal S1x1024x9160 .f32) : FVec Ideal S1x8x4224 .f32 :=
  broadcastInDim S1x8x4224 ![1, 2] bcast_S8x4224_S1x8x4224_1_2 (shapeCast _ (extractStridedSlice S8x1x4224 ![0, 2047, 0] (extractStridedSlice S8x2048x4224 ![0, 0, 0] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x4224_0_0_0) slices_S8x2048x4224_S8x1x4224_0_2047_0) shapeCasts_S8x1x4224_S8x4224)

/-- The reference's result 4 of its arguments: the recurrence's columns. -/
def r4 (a0 : FVec Ideal S8x2048x1024 .f32) (a1 : FVec Ideal S1x1024 .f32) (a2 : FVec Ideal S1x1024x9160 .f32) : FVec Ideal S8x2048x4224 .f32 :=
  extractStridedSlice S8x2048x4224 ![0, 0, 0] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x4224_0_0_0

/-- The reference's result 5 of its arguments: the queries. -/
def r5 (a0 : FVec Ideal S8x2048x1024 .f32) (a1 : FVec Ideal S1x1024 .f32) (a2 : FVec Ideal S1x1024x9160 .f32) : FVec Ideal S8x2048x1024 .f32 :=
  extractStridedSlice S8x2048x1024 ![0, 0, 4224] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x1024_0_0_4224

/-- The reference's result 6 of its arguments: the index queries. -/
def r6 (a0 : FVec Ideal S8x2048x1024 .f32) (a1 : FVec Ideal S1x1024 .f32) (a2 : FVec Ideal S1x1024x9160 .f32) : FVec Ideal S8x2048x512 .f32 :=
  extractStridedSlice S8x2048x512 ![0, 0, 5504] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x512_0_0_5504

/-- The reference's result 7 of its arguments: the index heads' weights. -/
def r7 (a0 : FVec Ideal S8x2048x1024 .f32) (a1 : FVec Ideal S1x1024 .f32) (a2 : FVec Ideal S1x1024x9160 .f32) : FVec Ideal S8x2048x8 .f32 :=
  extractStridedSlice S8x2048x8 ![0, 0, 6080] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x8_0_0_6080

/-- The reference's result 8 of its arguments: the gates. -/
def r8 (a0 : FVec Ideal S8x2048x1024 .f32) (a1 : FVec Ideal S1x1024 .f32) (a2 : FVec Ideal S1x1024x9160 .f32) : FVec Ideal S8x2048x3072 .f32 :=
  extractStridedSlice S8x2048x3072 ![0, 0, 6088] (Host.dotGeneral dot_S8x2048x1024_S1024x9160_S8x2048x9160_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x9160_S1024x9160)) slices_S8x2048x9160_S8x2048x3072_0_0_6088

/-- An entry of result 0. -/
theorem r0_at (a0 : FVec Ideal S8x2048x1024 .f32) (a1 : FVec Ideal S1x1024 .f32) (a2 : FVec Ideal S1x1024x9160 .f32) (a4 : FVec Ideal S1x64 .f32) (b : Fin 8) (t : Fin 2048) (h : Fin 2) (j : Fin 64) :
    r0 a0 a1 a2 a4 (ix5 (0 : Fin 1) b t h j) = kAt a0 a1 a2 a4 b t h j := by
  pointwise [r0, kAt, zAt, xAt]

/-- An entry of result 1. -/
theorem r1_at (a0 : FVec Ideal S8x2048x1024 .f32) (a1 : FVec Ideal S1x1024 .f32) (a2 : FVec Ideal S1x1024x9160 .f32) (b : Fin 8) (t : Fin 2048) (h : Fin 2) (j : Fin 64) :
    r1 a0 a1 a2 (ix5 (0 : Fin 1) b t h j) = zAt a0 a1 a2 b t ⟨5376 + (h.val * 64 + j.val), by omega⟩ := by
  pointwise [r1, zAt, xAt]

/-- An entry of result 2. -/
theorem r2_at (a0 : FVec Ideal S8x2048x1024 .f32) (a1 : FVec Ideal S1x1024 .f32) (a2 : FVec Ideal S1x1024x9160 .f32) (b : Fin 8) (t : Fin 2048) (j : Fin 64) :
    r2 a0 a1 a2 (ix4 (0 : Fin 1) b t j) = zAt a0 a1 a2 b t ⟨6016 + j.val, by omega⟩ := by
  pointwise [r2, zAt, xAt]

/-- An entry of result 3. -/
theorem r3_at (a0 : FVec Ideal S8x2048x1024 .f32) (a1 : FVec Ideal S1x1024 .f32) (a2 : FVec Ideal S1x1024x9160 .f32) (b : Fin 8) (j : Fin 4224) :
    r3 a0 a1 a2 (ix3 (0 : Fin 1) b j) = zAt a0 a1 a2 b 2047 ⟨j.val, by omega⟩ := by
  pointwise [r3, zAt, xAt]

/-- An entry of result 4. -/
theorem r4_at (a0 : FVec Ideal S8x2048x1024 .f32) (a1 : FVec Ideal S1x1024 .f32) (a2 : FVec Ideal S1x1024x9160 .f32) (b : Fin 8) (t : Fin 2048) (j : Fin 4224) :
    r4 a0 a1 a2 (ix3 b t j) = zAt a0 a1 a2 b t ⟨j.val, by omega⟩ := by
  pointwise [r4, zAt, xAt]

/-- An entry of result 5. -/
theorem r5_at (a0 : FVec Ideal S8x2048x1024 .f32) (a1 : FVec Ideal S1x1024 .f32) (a2 : FVec Ideal S1x1024x9160 .f32) (b : Fin 8) (t : Fin 2048) (j : Fin 1024) :
    r5 a0 a1 a2 (ix3 b t j) = zAt a0 a1 a2 b t ⟨4224 + j.val, by omega⟩ := by
  pointwise [r5, zAt, xAt]

/-- An entry of result 6. -/
theorem r6_at (a0 : FVec Ideal S8x2048x1024 .f32) (a1 : FVec Ideal S1x1024 .f32) (a2 : FVec Ideal S1x1024x9160 .f32) (b : Fin 8) (t : Fin 2048) (j : Fin 512) :
    r6 a0 a1 a2 (ix3 b t j) = zAt a0 a1 a2 b t ⟨5504 + j.val, by omega⟩ := by
  pointwise [r6, zAt, xAt]

/-- An entry of result 7. -/
theorem r7_at (a0 : FVec Ideal S8x2048x1024 .f32) (a1 : FVec Ideal S1x1024 .f32) (a2 : FVec Ideal S1x1024x9160 .f32) (b : Fin 8) (t : Fin 2048) (j : Fin 8) :
    r7 a0 a1 a2 (ix3 b t j) = zAt a0 a1 a2 b t ⟨6080 + j.val, by omega⟩ := by
  pointwise [r7, zAt, xAt]

/-- An entry of result 8. -/
theorem r8_at (a0 : FVec Ideal S8x2048x1024 .f32) (a1 : FVec Ideal S1x1024 .f32) (a2 : FVec Ideal S1x1024x9160 .f32) (b : Fin 8) (t : Fin 2048) (j : Fin 3072) :
    r8 a0 a1 a2 (ix3 b t j) = zAt a0 a1 a2 b t ⟨6088 + j.val, by omega⟩ := by
  pointwise [r8, zAt, xAt]

end Cert.ProjRefPromptIdeal

end
-- ==== Proof.ProjPromptValue.lean ====
/-
   The in-projection of the prompt: the kernel's results are the reference's, entry by entry.
-/
module

public import proofs.«01_k».proof.Proof.ProjPromptArrays
public import proofs.«01_k».proof.Proof.ProjRefPrompt

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

/-- The normalised rows, entry by entry. -/
theorem normed_at (a0 : FVec Ideal S8x2048x1024 .f32) (a1 : FVec Ideal S1x1024 .f32) (b : Fin 8) (t : Fin 2048) (k : Fin 1024) (r : Fin 16384)
    (hr : r.val = b.val * 2048 + t.val) : normed (rows a0) (gain a1) (ix2 r k) = Cert.ProjRefPromptIdeal.xAt a0 a1 b t k := by
  have hx : ∀ x : Fin 1024, rows a0 (ix2 r x) = a0 (ix3 b t x) := fun x => by
    unfold rows
    pointwise
    exact congrArg₂ (fun p q => a0 (ix3 p q x)) (Fin.ext (by dsimp only; omega)) (Fin.ext (by dsimp only; omega))
  have hg : ∀ x : Fin 1024, gain a1 (ix2 (0 : Fin 1) x) = a1 (ix2 (0 : Fin 1) x) := fun x => by
    unfold gain
    pointwise
  exact Ideal.mul_congr (Ideal.mul_congr (hx k) (congrArg Ideal.rsqrt (Ideal.add_congr (congrArg (Ideal.div · _)
    (Fin.sum_fin_congr fun x => Ideal.mul_congr (hx x) (hx x))) rfl))) (hg k)

/-- An entry of the second region's product, at a column that is the weight's column `j'`. -/
theorem rec_at (a0 : FVec Ideal S8x2048x1024 .f32) (a1 : FVec Ideal S1x1024 .f32) (a2 : FVec Ideal S1x1024x9160 .f32) (b : Fin 8) (t : Fin 2048) (r : Fin 16384) (hr : r.val = b.val * 2048 + t.val)
    (j : Fin 4224) (j' : Fin 9160) (h : ∀ k : Fin 1024, recWeight a2 (ix2 k j) = a2 (ix3 (0 : Fin 1) k j')) :
    recOut a0 a1 a2 (ix2 r j) = Cert.ProjRefPromptIdeal.zAt a0 a1 a2 b t j' :=
  Fin.sum_fin_congr fun k => Ideal.mul_congr (normed_at a0 a1 b t k r hr) (h k)

/-- An entry of the third region's product, at a column that is the weight's column `j'`. -/
theorem attn_at (a0 : FVec Ideal S8x2048x1024 .f32) (a1 : FVec Ideal S1x1024 .f32) (a2 : FVec Ideal S1x1024x9160 .f32) (b : Fin 8) (t : Fin 2048) (r : Fin 16384) (hr : r.val = b.val * 2048 + t.val)
    (j : Fin 5120) (j' : Fin 9160) (h : ∀ k : Fin 1024, attnWeight a2 (ix2 k j) = a2 (ix3 (0 : Fin 1) k j')) :
    attnOut a0 a1 a2 (ix2 r j) = Cert.ProjRefPromptIdeal.zAt a0 a1 a2 b t j' :=
  Fin.sum_fin_congr fun k => Ideal.mul_congr (normed_at a0 a1 b t k r hr) (h k)

/-- The attention weight's columns, each of which of the weight's it is. -/
theorem attnWeight_at (a2 : FVec Ideal S1x1024x9160 .f32) (k : Fin 1024) (j : Fin 5120) (j' : Fin 9160)
    (h : (j.val < 1024 ∧ j'.val = 4224 + j.val) ∨ (1024 ≤ j.val ∧ j.val < 1536 ∧ j'.val = 4480 + j.val)
      ∨ (1536 ≤ j.val ∧ j.val < 1792 ∧ j'.val = 3712 + j.val) ∨ (1792 ≤ j.val ∧ j.val < 1864 ∧ j'.val = 4224 + j.val)
      ∨ (2048 ≤ j.val ∧ j'.val = 4040 + j.val)) :
    attnWeight a2 (ix2 k j) = a2 (ix3 (0 : Fin 1) k j') := by
  unfold attnWeight weight
  pointwise
  have e : ∀ q : Fin 9160, q.val = j'.val → a2 (ix3 (0 : Fin 1) k q) = a2 (ix3 (0 : Fin 1) k j') :=
    fun q hq => congrArg (fun q => a2 (ix3 (0 : Fin 1) k q)) (Fin.ext hq)
  by_cases h1 : j.val < 1024
  · rw [dif_pos h1]; exact e _ (by dsimp only; omega)
  rw [dif_neg h1]
  by_cases h2 : j.val - 1024 < 512
  · rw [dif_pos h2]; exact e _ (by dsimp only; omega)
  rw [dif_neg h2]
  by_cases h3 : j.val - 1024 - 512 < 256
  · rw [dif_pos h3]; exact e _ (by dsimp only; omega)
  rw [dif_neg h3]
  by_cases h4 : j.val - 1024 - 512 - 256 < 72
  · rw [dif_pos h4]; exact e _ (by dsimp only; omega)
  rw [dif_neg h4]
  have h5 : ¬ j.val - 1024 - 512 - 256 - 72 < 56 := by omega
  rw [dif_neg h5]
  have h6 : ¬ j.val - 1024 - 512 - 256 - 72 - 56 < 128 := by omega
  rw [dif_neg h6]; exact e _ (by dsimp only; omega)

/-- The recurrence weight's grouped columns. -/
theorem recWeight_lt (a2 : FVec Ideal S1x1024x9160 .f32) (k : Fin 1024) (j : Fin 4224) (j' : Fin 9160) (h : j.val < 4096)
    (hj : j'.val = j.val / 1024 * 1024 + j.val % 16 * 64 + j.val / 16 % 64) :
    recWeight a2 (ix2 k j) = a2 (ix3 (0 : Fin 1) k j') := by
  unfold recWeight weight
  pointwise
  rw [dif_pos h]
  exact congrArg (fun q => a2 (ix3 (0 : Fin 1) k q)) (Fin.ext hj.symm)

/-- The recurrence weight's other columns. -/
theorem recWeight_ge (a2 : FVec Ideal S1x1024x9160 .f32) (k : Fin 1024) (j : Fin 4224) (j' : Fin 9160) (h : ¬ j.val < 4096)
    (hj : j'.val = j.val) :
    recWeight a2 (ix2 k j) = a2 (ix3 (0 : Fin 1) k j') := by
  unfold recWeight weight
  pointwise
  rw [dif_neg h]
  exact congrArg (fun q => a2 (ix3 (0 : Fin 1) k q)) (Fin.ext (by dsimp only; omega))

/-- Grouping the columns undoes bringing them back. -/
theorem group_back (j : ℕ) : j = (j / 1024 * 1024 + j % 64 * 16 + j / 64 % 16) / 1024 * 1024
    + (j / 1024 * 1024 + j % 64 * 16 + j / 64 % 16) % 16 * 64 + (j / 1024 * 1024 + j % 64 * 16 + j / 64 % 16) / 16 % 64 := by
  have e1 : (j / 1024 * 1024 + j % 64 * 16 + j / 64 % 16) / 1024 = j / 1024 := by omega
  have e2 : (j / 1024 * 1024 + j % 64 * 16 + j / 64 % 16) % 16 = j / 64 % 16 := by omega
  have e3 : (j / 1024 * 1024 + j % 64 * 16 + j / 64 % 16) / 16 % 64 = j % 64 := by omega
  rw [e1, e2, e3]
  omega

/-- The recurrence's columns, brought back to the weight's order, entry by entry. -/
theorem recBack_at (a0 : FVec Ideal S8x2048x1024 .f32) (a1 : FVec Ideal S1x1024 .f32) (a2 : FVec Ideal S1x1024x9160 .f32) (b : Fin 8) (t : Fin 2048) (j : Fin 4224) :
    recBack (recOut a0 a1 a2) (ix3 b t j) = Cert.ProjRefPromptIdeal.zAt a0 a1 a2 b t ⟨j.val, by omega⟩ := by
  unfold recBack
  pointwise
  by_cases h : j.val < 4096
  · rw [dif_pos h]
    exact rec_at a0 a1 a2 b t _ rfl _ _ fun k => recWeight_lt a2 k _ _ (by dsimp only; omega) (group_back j.val)
  · rw [dif_neg h]
    exact rec_at a0 a1 a2 b t _ rfl _ _ fun k => recWeight_ge a2 k _ _ (by dsimp only; omega) (by dsimp only; omega)

/-- The normalised keys, entry by entry. -/
theorem keyed_at (a0 : FVec Ideal S8x2048x1024 .f32) (a1 : FVec Ideal S1x1024 .f32) (a2 : FVec Ideal S1x1024x9160 .f32) (a4 : FVec Ideal S1x64 .f32) (b : Fin 8) (t : Fin 2048) (h : Fin 2) (j : Fin 64) (r : Fin 16384) (hr : r.val = b.val * 2048 + t.val)
    (q : Fin 128) (hq : q.val = h.val * 64 + j.val) :
    keyed (attnOut a0 a1 a2) (keyGain a4) (ix2 r q) = Cert.ProjRefPromptIdeal.kAt a0 a1 a2 a4 b t h j := by
  have hz : ∀ (p : Fin 5120) (p' : Fin 9160), 1536 ≤ p.val → p.val < 1792 → p'.val = 3712 + p.val →
      attnOut a0 a1 a2 (ix2 r p) = Cert.ProjRefPromptIdeal.zAt a0 a1 a2 b t p' := fun p p' h1 h2 h3 =>
    attn_at a0 a1 a2 b t r hr p p' fun k => attnWeight_at a2 k p p' (.inr (.inr (.inl ⟨h1, h2, h3⟩)))
  have hg : ∀ x : Fin 64, keyGain a4 (ix2 (0 : Fin 1) x) = a4 (ix2 (0 : Fin 1) x) := fun x => by
    unfold keyGain
    pointwise
  refine Ideal.mul_congr (Ideal.mul_congr (hz _ _ ?_ ?_ ?_) (congrArg Ideal.rsqrt (Ideal.add_congr (congrArg (Ideal.div · _)
    (Fin.sum_fin_congr fun x => Ideal.mul_congr (hz _ _ ?_ ?_ ?_) (hz _ _ ?_ ?_ ?_))) rfl))) ((hg _).trans
      (congrArg (fun x => a4 (ix2 (0 : Fin 1) x)) (Fin.ext ?_)))
  all_goals
    simp only [ix2]
    change _
    first
    | (have hqq : (q : ℕ) = h.val * 64 + j.val := hq; show _ ; omega)

/-- Result 0 is the reference's. -/
theorem final_keys (a0 : FVec Ideal S8x2048x1024 .f32) (a1 : FVec Ideal S1x1024 .f32) (a2 : FVec Ideal S1x1024x9160 .f32) (a4 : FVec Ideal S1x64 .f32) :
    headKeys (keyed (attnOut a0 a1 a2) (keyGain a4)) = Cert.ProjRefPromptIdeal.r0 a0 a1 a2 a4 := by
  funext y
  idx_vars y
  obtain rfl : y0 = 0 := Subsingleton.elim _ _
  refine Eq.trans ?_ (Cert.ProjRefPromptIdeal.r0_at a0 a1 a2 a4 y1 y2 y3 y4).symm
  unfold headKeys
  pointwise
  exact keyed_at a0 a1 a2 a4 y1 y2 y3 y4 _ rfl _ rfl

/-- Result 1 is the reference's. -/
theorem final_values (a0 : FVec Ideal S8x2048x1024 .f32) (a1 : FVec Ideal S1x1024 .f32) (a2 : FVec Ideal S1x1024x9160 .f32) :
    headValues (attnOut a0 a1 a2) = Cert.ProjRefPromptIdeal.r1 a0 a1 a2 := by
  funext y
  idx_vars y
  obtain rfl : y0 = 0 := Subsingleton.elim _ _
  refine Eq.trans ?_ (Cert.ProjRefPromptIdeal.r1_at a0 a1 a2 y1 y2 y3 y4).symm
  unfold headValues
  pointwise
  exact attn_at a0 a1 a2 y1 y2 _ rfl _ _ fun k => attnWeight_at a2 k _ _ (.inr (.inr (.inl ⟨by dsimp only; omega, by dsimp only; omega, by dsimp only; omega⟩)))

/-- Result 2 is the reference's. -/
theorem final_idx (a0 : FVec Ideal S8x2048x1024 .f32) (a1 : FVec Ideal S1x1024 .f32) (a2 : FVec Ideal S1x1024x9160 .f32) :
    headIdx (attnOut a0 a1 a2) = Cert.ProjRefPromptIdeal.r2 a0 a1 a2 := by
  funext y
  idx_vars y
  obtain rfl : y0 = 0 := Subsingleton.elim _ _
  refine Eq.trans ?_ (Cert.ProjRefPromptIdeal.r2_at a0 a1 a2 y1 y2 y3).symm
  unfold headIdx
  pointwise
  exact attn_at a0 a1 a2 y1 y2 _ rfl _ _ fun k => attnWeight_at a2 k _ _ (.inr (.inr (.inr (.inl ⟨by dsimp only; omega, by dsimp only; omega, by dsimp only; omega⟩))))

/-- Result 3 is the reference's. -/
theorem final_last (a0 : FVec Ideal S8x2048x1024 .f32) (a1 : FVec Ideal S1x1024 .f32) (a2 : FVec Ideal S1x1024x9160 .f32) :
    lastRow (recBack (recOut a0 a1 a2)) = Cert.ProjRefPromptIdeal.r3 a0 a1 a2 := by
  funext y
  idx_vars y
  obtain rfl : y0 = 0 := Subsingleton.elim _ _
  refine Eq.trans ?_ (Cert.ProjRefPromptIdeal.r3_at a0 a1 a2 y1 y2).symm
  unfold lastRow
  pointwise
  exact recBack_at a0 a1 a2 y1 _ y2

/-- Result 4 is the reference's. -/
theorem final_rec (a0 : FVec Ideal S8x2048x1024 .f32) (a1 : FVec Ideal S1x1024 .f32) (a2 : FVec Ideal S1x1024x9160 .f32) :
    recBack (recOut a0 a1 a2) = Cert.ProjRefPromptIdeal.r4 a0 a1 a2 := by
  funext y
  idx_vars y
  exact (recBack_at a0 a1 a2 y0 y1 y2).trans (Cert.ProjRefPromptIdeal.r4_at a0 a1 a2 y0 y1 y2).symm

/-- Result 5 is the reference's. -/
theorem final_queries (a0 : FVec Ideal S8x2048x1024 .f32) (a1 : FVec Ideal S1x1024 .f32) (a2 : FVec Ideal S1x1024x9160 .f32) :
    queries (attnOut a0 a1 a2) = Cert.ProjRefPromptIdeal.r5 a0 a1 a2 := by
  funext y
  idx_vars y
  refine Eq.trans ?_ (Cert.ProjRefPromptIdeal.r5_at a0 a1 a2 y0 y1 y2).symm
  unfold queries
  pointwise
  exact attn_at a0 a1 a2 y0 y1 _ rfl _ _ fun k => attnWeight_at a2 k _ _ (.inl ⟨by dsimp only; omega, by dsimp only⟩)

/-- Result 6 is the reference's. -/
theorem final_idxQueries (a0 : FVec Ideal S8x2048x1024 .f32) (a1 : FVec Ideal S1x1024 .f32) (a2 : FVec Ideal S1x1024x9160 .f32) :
    idxQueries (attnOut a0 a1 a2) = Cert.ProjRefPromptIdeal.r6 a0 a1 a2 := by
  funext y
  idx_vars y
  refine Eq.trans ?_ (Cert.ProjRefPromptIdeal.r6_at a0 a1 a2 y0 y1 y2).symm
  unfold idxQueries
  pointwise
  exact attn_at a0 a1 a2 y0 y1 _ rfl _ _ fun k => attnWeight_at a2 k _ _ (.inr (.inl ⟨by dsimp only; omega, by dsimp only; omega, by dsimp only; omega⟩))

/-- Result 7 is the reference's. -/
theorem final_idxWeights (a0 : FVec Ideal S8x2048x1024 .f32) (a1 : FVec Ideal S1x1024 .f32) (a2 : FVec Ideal S1x1024x9160 .f32) :
    idxWeights (attnOut a0 a1 a2) = Cert.ProjRefPromptIdeal.r7 a0 a1 a2 := by
  funext y
  idx_vars y
  refine Eq.trans ?_ (Cert.ProjRefPromptIdeal.r7_at a0 a1 a2 y0 y1 y2).symm
  unfold idxWeights
  pointwise
  exact attn_at a0 a1 a2 y0 y1 _ rfl _ _ fun k => attnWeight_at a2 k _ _ (.inr (.inr (.inr (.inl ⟨by dsimp only; omega, by dsimp only; omega, by dsimp only; omega⟩))))

/-- Result 8 is the reference's. -/
theorem final_gates (a0 : FVec Ideal S8x2048x1024 .f32) (a1 : FVec Ideal S1x1024 .f32) (a2 : FVec Ideal S1x1024x9160 .f32) :
    gates (attnOut a0 a1 a2) = Cert.ProjRefPromptIdeal.r8 a0 a1 a2 := by
  funext y
  idx_vars y
  refine Eq.trans ?_ (Cert.ProjRefPromptIdeal.r8_at a0 a1 a2 y0 y1 y2).symm
  unfold gates
  pointwise
  exact attn_at a0 a1 a2 y0 y1 _ rfl _ _ fun k => attnWeight_at a2 k _ _ (.inr (.inr (.inr (.inr ⟨Nat.le_add_right _ _, by dsimp only; omega⟩))))

end Cert.ProjPromptIdeal.Value

end
-- ==== Proof.AlgProjPrompt.lean ====
/-
   The in-projection of the prompt: the kernel and the reference leave the same arrays.
-/
module

public import proofs.«01_k».proof.Defs
public import proofs.«01_k».proof.Proof.ProjPromptRun
public import proofs.«01_k».proof.Proof.ProjPromptResults
public import proofs.«01_k».proof.Proof.ProjPromptRec
public import proofs.«01_k».proof.Proof.ProjPromptValue

@[expose] public section

set_option maxRecDepth 16384

noncomputable section

namespace Cert.ProjPromptIdeal.Value

open Cert.ProjPromptIdeal Cert.ProjPromptIdeal.Gen Idealize.ShloMosaic Idealize.ShloMosaic.TcCoe Idealize.SL.Sem

/-- The kernel's results are the reference's, in exact arithmetic. -/
theorem algebraic : Cert.algebraic_ProjPromptIdeal_ProjRefPromptIdeal := by
  pair_intro
  · exact run_end m g
  · refine (θ_run _ _ _).mono (fun r h c => ?_) (Cert.ProjRefPromptIdeal.Value.run m' g')
    obtain ⟨h0, h1, h2, h3, h4, h5, h6, h7, h8, hargs⟩ := h c
    obtain ⟨a0, a1, a2, a3, a4⟩ := hagree c
    rw [W7_keys, W7_values, W7_idx, W7_last, W7_rec, W7_queries, W7_idxQueries, W7_idxWeights, W7_gates]
    refine ⟨h0.trans ?_, h1.trans ?_, h2.trans ?_, h3.trans ?_, h4.trans ?_, h5.trans ?_, h6.trans ?_, h7.trans ?_, h8.trans ?_, hargs⟩
    · unfold Cert.ProjRefPromptIdeal.Value.res_main_v39; rw [a0, a1, a2, a4]
      exact (final_keys (A0 m c) (A1 m c) (A2 m c) (A4 m c)).symm
    · rw [a0, a1, a2]
      exact (final_values (A0 m c) (A1 m c) (A2 m c)).symm
    · rw [a0, a1, a2]
      exact (final_idx (A0 m c) (A1 m c) (A2 m c)).symm
    · rw [a0, a1, a2]
      exact (final_last (A0 m c) (A1 m c) (A2 m c)).symm
    · rw [a0, a1, a2]
      exact (final_rec (A0 m c) (A1 m c) (A2 m c)).symm
    · rw [a0, a1, a2]
      exact (final_queries (A0 m c) (A1 m c) (A2 m c)).symm
    · rw [a0, a1, a2]
      exact (final_idxQueries (A0 m c) (A1 m c) (A2 m c)).symm
    · rw [a0, a1, a2]
      exact (final_idxWeights (A0 m c) (A1 m c) (A2 m c)).symm
    · rw [a0, a1, a2]
      exact (final_gates (A0 m c) (A1 m c) (A2 m c)).symm

end Cert.ProjPromptIdeal.Value

end
-- ==== Proof.ProjSampleRun.lean ====
/-
   The in-projection of the sampled tokens: its run, with each result array at what the last host operations leave.
-/
module

public import proofs.«01_k».proof.Proof.Gen.ProjSampleIdeal.Frame

@[expose] public section

set_option maxRecDepth 16384

noncomputable section

namespace Cert.ProjSampleIdeal.Value

open Cert.ProjSampleIdeal Cert.ProjSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result array at the contents the last host operations leave, and the arguments unchanged. -/
theorem run_end : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_v43) = W7 m ρ c (Proc.devRef .tc main_v43)
      ∧ r.2.mem ((c.tc : Thread nD τ).loc main_v44) = W7 m ρ c (Proc.devRef .tc main_v44)
      ∧ r.2.mem ((c.tc : Thread nD τ).loc main_v47) = W7 m ρ c (Proc.devRef .tc main_v47)
      ∧ r.2.mem ((c.tc : Thread nD τ).loc main_v41) = W7 m ρ c (Proc.devRef .tc main_v41)
      ∧ r.2.mem ((c.tc : Thread nD τ).loc main_v49) = W7 m ρ c (Proc.devRef .tc main_v49)
      ∧ r.2.mem ((c.tc : Thread nD τ).loc main_v51) = W7 m ρ c (Proc.devRef .tc main_v51)
      ∧ r.2.mem ((c.tc : Thread nD τ).loc main_v53) = W7 m ρ c (Proc.devRef .tc main_v53)
      ∧ r.2.mem ((c.tc : Thread nD τ).loc main_v55) = W7 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v42 (by decide)),
       h c _ (mem_uc main_v43 (by decide)),
       h c _ (mem_uc main_v44 (by decide)),
       h c _ (mem_uc main_v47 (by decide)),
       h c _ (mem_uc main_v41 (by decide)),
       h c _ (mem_uc main_v49 (by decide)),
       h c _ (mem_uc main_v51 (by decide)),
       h c _ (mem_uc main_v53 (by decide)),
       h c _ (mem_uc main_v55 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.ProjSampleIdeal.Value

end
-- ==== Proof.ProjSampleRegions.lean ====
/-
   The in-projection of the sampled tokens, region by region: what each pipeline leaves in its result array, as a term of the
   arrays it reads.
-/
module

public import proofs.«01_k».proof.Proof.Gen.ProjSampleIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

variable (V : (c : Dev nD) → (b : Ref sig .tc) → Buf (Elt Ideal) ((c : Thread nD τ).loc b))

/-- A row divided by the root of its mean square, times the gain. -/
def normed (x : FVec Ideal S512x1024 .f32) (g : FVec Ideal S1x1024 .f32) : FVec Ideal S512x1024 .bf16 := fun y =>
  x (ix2 (y 0) (y 1)) * Ideal.rsqrt (Ideal.div (∑ k : Fin 1024, x (ix2 (y 0) k) * x (ix2 (y 0) k)) (Ideal.ofBits .f32 0x44800000#32)
      + Ideal.ofBits .f32 0x358637BD#32)
    * g (ix2 (0 : Fin 1) (y 1))

/-- The product of the rows with a weight of `n` columns. -/
def prod {n : ℕ} (x : FVec Ideal S512x1024 .bf16) (w : FVec Ideal ⟨2, ![1024, n]⟩ .bf16) : FVec Ideal ⟨2, ![512, n]⟩ .f32 := fun y =>
  ∑ k : Fin 1024, x (ix2 (y 0) k) * w (ix2 k (y 1))

/-- Each window's block index at a point of the first region. -/
theorem idx0 : ∀ t : Fin cfg0.N,
    win0_0.index t 0 = t.val ∧ win0_0.index t 1 = 0 ∧ win0_1.index t 0 = 0 ∧ win0_1.index t 1 = 0
    ∧ win0_2.index t 0 = t.val ∧ win0_2.index t 1 = 0 := (by decide +kernel : ∀ t : Fin grid0.N, _)

/-- Each window's block index at a point of the second region. -/
theorem idx1 : ∀ t : Fin cfg1.N,
    win1_0.index t 0 = t.val / 3 ∧ win1_0.index t 1 = 0 ∧ win1_1.index t 0 = 0 ∧ win1_1.index t 1 = t.val % 3
    ∧ win1_2.index t 0 = t.val / 3 ∧ win1_2.index t 1 = t.val % 3 := (by decide +kernel : ∀ t : Fin grid1.N, _)

/-- Each window's block index at a point of the third region. -/
theorem idx2 : ∀ t : Fin cfg2.N,
    win2_0.index t 0 = t.val / 4 ∧ win2_0.index t 1 = 0 ∧ win2_1.index t 0 = 0 ∧ win2_1.index t 1 = t.val % 4
    ∧ win2_2.index t 0 = t.val / 4 ∧ win2_2.index t 1 = t.val % 4 := (by decide +kernel : ∀ t : Fin grid2.N, _)

/-- The first region leaves the normalised rows. -/
theorem final0 (c : Dev nD) : (dat0 V c).arrAt 2 cfg0.N = normed (V c main_v20) (V c main_v22) := by
  refine (dat0 V c).arrAt_eq_of_covers 2 _ (by decide +kernel) fun t _ y => ?_
  blk_simp
  rw [after0_2]
  frame_out
  idx_vars y
  pointwise [k0_pay1, normed]
  refine Ideal.mul_congr (Ideal.mul_congr ?_ (congrArg Ideal.rsqrt (Ideal.add_congr (congrArg (Ideal.div · _)
    (Fin.sum_fin_congr fun x => Ideal.mul_congr ?_ ?_)) rfl))) ?_
  all_goals blk_point [iblk0, idx0 t]

/-- The second region leaves the product with its weight. -/
theorem final1 (c : Dev nD) : (dat1 V c).arrAt 2 cfg1.N = prod (n := 4224) (V c main_v23) (V c main_v19) := by
  refine (dat1 V c).arrAt_eq_of_covers 2 _ (by decide +kernel) fun t _ y => ?_
  blk_simp
  rw [after1_2]
  frame_out
  idx_vars y
  pointwise [k1_pay1, prod]
  refine Fin.sum_fin_congr fun x => Ideal.mul_congr ?_ ?_
  · blk_point [iblk1, idx1 t]
  · blk_point [iblk1, idx1 t]

/-- The third region leaves the product with its weight. -/
theorem final2 (c : Dev nD) : (dat2 V c).arrAt 2 cfg2.N = prod (n := 5120) (V c main_v23) (V c main_v9) := by
  refine (dat2 V c).arrAt_eq_of_covers 2 _ (by decide +kernel) fun t _ y => ?_
  blk_simp
  rw [after2_2]
  frame_out
  idx_vars y
  pointwise [k2_pay1, prod]
  refine Fin.sum_fin_congr fun x => Ideal.mul_congr ?_ ?_
  · blk_point [iblk2, idx2 t]
  · blk_point [iblk2, idx2 t]

end Cert.ProjSampleIdeal.Value

end
-- ==== Proof.ProjSampleKeys.lean ====
/-
   The in-projection of the sampled tokens: the normalised keys the last pipeline leaves.
-/
module

public import proofs.«01_k».proof.Proof.Gen.ProjSampleIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

variable (V : (c : Dev nD) → (b : Ref sig .tc) → Buf (Elt Ideal) ((c : Thread nD τ).loc b))

/-- The normalised key of a row of the key and value columns: an entry over the root of its head's mean square, times the gain. -/
def keyAt (x2 : Vec Ideal S512x256 .f32) (x5 : Vec Ideal S1x64 .f32) (y0 : Fin 512) (y1 : Fin 128) : Ideal .f32 :=
  x2 (ix2 y0 ⟨y1.val, by omega⟩) * Ideal.rsqrt (Ideal.div (∑ k : Fin 64, x2 (ix2 y0 ⟨64 * (y1.val / 64) + k.val, by omega⟩)
      * x2 (ix2 y0 ⟨64 * (y1.val / 64) + k.val, by omega⟩)) (Ideal.ofBits .f32 0x42800000#32) + Ideal.ofBits .f32 0x358637BD#32)
    * x5 (ix2 (0 : Fin 1) ⟨y1.val % 64, by omega⟩)

set_option maxHeartbeats 1000000 in
/-- The fourth region's block of the normalised keys, entry by entry. -/
theorem out3_at (c : Dev nD) (t : Fin cfg3.N) (x0 : Vec Ideal S512x1024 .f32) (x1 : Vec Ideal S512x512 .f32) (x2 : Vec Ideal S512x256 .f32)
    (x3 : Vec Ideal S512x128 .f32) (x4 x5 : Vec Ideal S1x64 .f32) (y0 : Fin 512) (y1 : Fin 128) :
    out3_A_6 (F := Ideal) c (grid3.coords t) (ms3_0 t) (hs3_0 t) (ms3_1 t) (hs3_1 t) (ms3_2 t) (hs3_2 t) (ms3_3 t) (hs3_3 t) (ms3_4 t) (hs3_4 t)
      (ms3_5 t) (hs3_5 t) (ms3_6 t) (hs3_6 t) (ms3_7 t) (hs3_7 t) (ms3_8 t) (hs3_8 t) (ms3_9 t) (hs3_9 t) (ms3_10 t) (hs3_10 t)
      x0 x1 x2 x3 x4 x5 (ix2 y0 y1) = keyAt x2 x5 y0 y1 := by
  unfold out3_A_6
  frame_out
  canon_tiles x h
  all_goals
    idx_vars x
    pointwise [k3_pay1, k3_pay4, k3_pay5, k3_pay6, keyAt]
    obtain rfl : y0 = x0 := Fin.ext h0
    refine Ideal.mul_congr (Ideal.mul_congr (congrArg x2 (congrArg (ix2 y0) (Fin.ext ?_))) (congrArg Ideal.rsqrt (Ideal.add_congr
      (congrArg (Ideal.div · _) (Fin.sum_fin_congr fun k => Ideal.mul_congr (congrArg x2 (congrArg (ix2 y0) (Fin.ext ?_)))
        (congrArg x2 (congrArg (ix2 y0) (Fin.ext ?_))))) rfl))) (congrArg x5 (congrArg (ix2 (0 : Fin 1)) (Fin.ext ?_)))
    all_goals (dsimp only; omega)

/-- The normalised keys from the columns of the second product: an entry over the root of its head's mean square, times the gain. -/
def keyed (z : FVec Ideal S512x5120 .f32) (g : FVec Ideal S1x64 .f32) : FVec Ideal S512x128 .f32 := fun y =>
  z (ix2 (y 0) ⟨1536 + (y 1).val, by have := (y 1).isLt; change _ < 128 at this; omega⟩) * Ideal.rsqrt (Ideal.div (∑ k : Fin 64,
      z (ix2 (y 0) ⟨1536 + (64 * ((y 1).val / 64) + k.val), by have := (y 1).isLt; change _ < 128 at this; omega⟩)
      * z (ix2 (y 0) ⟨1536 + (64 * ((y 1).val / 64) + k.val), by have := (y 1).isLt; change _ < 128 at this; omega⟩)) (Ideal.ofBits .f32 0x42800000#32)
        + Ideal.ofBits .f32 0x358637BD#32)
    * g (ix2 (0 : Fin 1) ⟨(y 1).val % 64, by omega⟩)

/-- Each window's block index at a point of the fourth region. -/
theorem idx3 : ∀ t : Fin cfg3.N,
    win3_2.index t 0 = t.val ∧ win3_2.index t 1 = 6 ∧ win3_5.index t 0 = 0 ∧ win3_5.index t 1 = 0
    ∧ win3_6.index t 0 = t.val ∧ win3_6.index t 1 = 0 := (by decide +kernel : ∀ t : Fin grid3.N, _)

set_option maxHeartbeats 1000000 in
/-- The block of the keys the fourth region leaves at a point, entry by entry. -/
theorem outs3_at (c : Dev nD) (t : Fin cfg3.N) (y0 : Fin 512) (y1 : Fin 128) :
    (outsAt3 V c t).1 (ix2 y0 y1) = keyAt (iblk3 V c 2 t) (iblk3 V c 5 t) y0 y1 := by
  unfold outsAt3
  dsimp only
  exact out3_at c t (iblk3 V c 0 t) (iblk3 V c 1 t) (iblk3 V c 2 t) (iblk3 V c 3 t) (iblk3 V c 4 t) (iblk3 V c 5 t) y0 y1

/-- The block of the key and value columns at a point. -/
theorem kv_at (c : Dev nD) (t : Fin cfg3.N) (y0 : Fin 512) (j : Fin 256) (r : Fin 512) (q : Fin 5120) (hr : r.val = t.val * 512 + y0.val)
    (hq : q.val = 1536 + j.val) : (iblk3 V c 2 t : Vec Ideal S512x256 .f32) (ix2 y0 j) = V c main_v25 (ix2 r q) := by
  blk_point [iblk3, idx3 t]

/-- The keys' gain at a point. -/
theorem gain_at (c : Dev nD) (t : Fin cfg3.N) (j : Fin 64) :
    (iblk3 V c 5 t : Vec Ideal S1x64 .f32) (ix2 (0 : Fin 1) j) = V c main_v29 (ix2 (0 : Fin 1) j) := by
  blk_point [iblk3, idx3 t]

/-- The place of an entry of the keys' block in the array. -/
theorem emb3 (t : Fin cfg3.N) (y0 : Fin 512) (y1 : Fin 128) (r : Fin 512) (hr : r.val = t.val * 512 + y0.val) :
    (((View.whole main_v30_0).slice (win3_6.rect t)).emb (ix2 y0 y1) : S512x128.Idx) = ix2 r y1 := by
  refine funext fun a => Fin.ext ?_
  match a with
  | ⟨0, _⟩ => exact (show win3_6.index t 0 * 512 + 1 * y0.val = r.val by rw [(idx3 t).2.2.2.2.1]; omega)
  | ⟨1, _⟩ => exact (show win3_6.index t 1 * 128 + 1 * y1.val = y1.val by rw [(idx3 t).2.2.2.2.2]; omega)

set_option maxHeartbeats 1000000 in
/-- The fourth region leaves the normalised keys. -/
theorem final3 (c : Dev nD) : (dat3 V c).arrAt 6 cfg3.N = keyed (V c main_v25) (V c main_v29) := by
  refine (dat3 V c).arrAt_eq_of_covers 6 _ (by decide +kernel) fun t _ y => ?_
  blk_simp
  rw [after3_6]
  idx_vars y
  have ht : t.val < 1 := t.isLt
  refine (outs3_at V c t y0 y1).trans ?_
  refine Eq.trans ?_ (congrArg (keyed (V c main_v25) (V c main_v29)) (emb3 t y0 y1 ⟨t.val * 512 + y0.val, by omega⟩ rfl).symm)
  unfold keyAt keyed
  refine Ideal.mul_congr (Ideal.mul_congr ?_ (congrArg Ideal.rsqrt (Ideal.add_congr (congrArg (Ideal.div · _)
    (Fin.sum_fin_congr fun x => Ideal.mul_congr ?_ ?_)) rfl))) ?_
  · exact kv_at V c t y0 _ _ _ rfl rfl
  · exact kv_at V c t y0 _ _ _ rfl rfl
  · exact kv_at V c t y0 _ _ _ rfl rfl
  · exact gain_at V c t _

end Cert.ProjSampleIdeal.Value

end
-- ==== Proof.ProjSampleArrays.lean ====
/-
   The in-projection of the sampled tokens: the arrays between its regions, as terms of the arguments.
-/
module

public import proofs.«01_k».proof.Proof.ProjSampleRegions
public import proofs.«01_k».proof.Proof.ProjSampleKeys

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

/-- The rows of the input. -/
def rows (a0 : FVec Ideal S128x4x1024 .f32) : FVec Ideal S512x1024 .f32 := shapeCast S512x1024 a0 shapeCasts_S128x4x1024_S512x1024

/-- The gain of the norm, as a row. -/
def gain (a1 : FVec Ideal S1x1024 .f32) : FVec Ideal S1x1024 .f32 :=
  shapeCast S1x1024 (shapeCast S1024 a1 shapeCasts_S1x1024_S1024) shapeCasts_S1024_S1x1024

/-- The keys' gain, as a row. -/
def keyGain (a4 : FVec Ideal S1x64 .f32) : FVec Ideal S1x64 .f32 := shapeCast S1x64 (shapeCast S64 a4 shapeCasts_S1x64_S64) shapeCasts_S64_S1x64

/-- The weight as a matrix. -/
def weight (a2 : FVec Ideal S1x1024x9160 .f32) : FVec Ideal S1024x9160 .f32 := shapeCast S1024x9160 a2 shapeCasts_S1x1024x9160_S1024x9160

/-- The columns of the attention and the gates in the kernel's order, with zeros between. -/
def attnWeight (a2 : FVec Ideal S1x1024x9160 .f32) : FVec Ideal S1024x5120 .bf16 :=
  truncf .bf16 (concatenate S1024x5120 1
    [⟨S1024x1024, extractStridedSlice S1024x1024 ![0, 4224] (weight a2) slices_S1024x9160_S1024x1024_0_4224⟩,
     ⟨S1024x512, extractStridedSlice S1024x512 ![0, 5504] (weight a2) slices_S1024x9160_S1024x512_0_5504⟩,
     ⟨S1024x256, extractStridedSlice S1024x256 ![0, 5248] (weight a2) slices_S1024x9160_S1024x256_0_5248⟩,
     ⟨S1024x72, extractStridedSlice S1024x72 ![0, 6016] (weight a2) slices_S1024x9160_S1024x72_0_6016⟩,
     ⟨S1024x56, broadcastInDim S1024x56 ![] bcast_S_S1024x56 (constant S_ .f32 0x00000000#32 : FVec Ideal S_ .f32)⟩,
     ⟨S1024x128, broadcastInDim S1024x128 ![] bcast_S_S1024x128 (constant S_ .f32 0x00000000#32 : FVec Ideal S_ .f32)⟩,
     ⟨S1024x3072, extractStridedSlice S1024x3072 ![0, 6088] (weight a2) slices_S1024x9160_S1024x3072_0_6088⟩]
    concatenates_S1024x1024_S1024x512_S1024x256_S1024x72_S1024x56_S1024x128_S1024x3072_S1024x5120_d1 : FVec Ideal S1024x5120 .f32) bitsLt_bf16_f32

/-- The columns of the recurrence in the kernel's order: within each of four groups, head and entry exchanged. -/
def recWeight (a2 : FVec Ideal S1x1024x9160 .f32) : FVec Ideal S1024x4224 .bf16 :=
  truncf .bf16 (concatenate S1024x4224 1
    [⟨S1024x4096, shapeCast S1024x4096 (shapeCast S1024x4x1024 (transpose S1024x4x64x16 [0, 1, 3, 2]
        (shapeCast S1024x4x16x64 (shapeCast S1024x4x1024 (extractStridedSlice S1024x4096 ![0, 0]
          (extractStridedSlice S1024x4224 ![0, 0] (weight a2) slices_S1024x9160_S1024x4224_0_0) slices_S1024x4224_S1024x4096_0_0)
          shapeCasts_S1024x4096_S1024x4x1024) shapeCasts_S1024x4x1024_S1024x4x16x64) transposes_S1024x4x16x64_S1024x4x64x16_0_1_3_2)
        shapeCasts_S1024x4x64x16_S1024x4x1024) shapeCasts_S1024x4x1024_S1024x4096⟩,
     ⟨S1024x128, extractStridedSlice S1024x128 ![0, 4096]
        (extractStridedSlice S1024x4224 ![0, 0] (weight a2) slices_S1024x9160_S1024x4224_0_0) slices_S1024x4224_S1024x128_0_4096⟩]
    concatenates_S1024x4096_S1024x128_S1024x4224_d1 : FVec Ideal S1024x4224 .f32) bitsLt_bf16_f32

variable (m : (ℓ : Loc nD τ sig) → Buf (Elt Ideal) ℓ) (ρ : Dev nD → PrngReg) (c : Dev nD)

/-- Argument 0, 1, 2, 4 at the launch. -/
abbrev A0 : FVec Ideal S128x4x1024 .f32 := m ((c.tc : Thread nD τ).loc main_arg0)
@[inherit_doc A0] abbrev A1 : FVec Ideal S1x1024 .f32 := m ((c.tc : Thread nD τ).loc main_arg1)
@[inherit_doc A0] abbrev A2 : FVec Ideal S1x1024x9160 .f32 := m ((c.tc : Thread nD τ).loc main_arg2)
@[inherit_doc A0] abbrev A4 : FVec Ideal S1x64 .f32 := m ((c.tc : Thread nD τ).loc main_arg4)

/-- The rows enter the first region. -/
theorem W1_rows : W1 m ρ c (Proc.devRef .tc main_v20) = rows (A0 m c) := by
  dsimp only [W1]; after_results_simp <;> rfl

/-- The gain enters the first region. -/
theorem W1_gain : W1 m ρ c (Proc.devRef .tc main_v22) = gain (A1 m c) := by
  dsimp only [W1]; after_results_simp <;> rfl

/-- The columns of the attention and the gates, before the first region. -/
theorem W1_attn : W1 m ρ c (Proc.devRef .tc main_v9) = attnWeight (A2 m c) := by
  dsimp only [W1]; after_results_simp <;> rfl

/-- The columns of the recurrence, before the first region. -/
theorem W1_rec : W1 m ρ c (Proc.devRef .tc main_v19) = recWeight (A2 m c) := by
  dsimp only [W1]; after_results_simp <;> rfl

/-- The normalised rows after the first region. -/
theorem W2_norm : W2 m ρ c (Proc.devRef .tc main_v23) = normed (rows (A0 m c)) (gain (A1 m c)) :=
  ((W2_arr m ρ c 2).trans (final0 (V1 m ρ) c)).trans (congrArg₂ normed (W1_rows m ρ c) (W1_gain m ρ c))

/-- The second region's product. -/
def recOut (a0 : FVec Ideal S128x4x1024 .f32) (a1 : FVec Ideal S1x1024 .f32) (a2 : FVec Ideal S1x1024x9160 .f32) : FVec Ideal S512x4224 .f32 :=
  prod (n := 4224) (normed (rows a0) (gain a1)) (recWeight a2)

/-- The third region's product. -/
def attnOut (a0 : FVec Ideal S128x4x1024 .f32) (a1 : FVec Ideal S1x1024 .f32) (a2 : FVec Ideal S1x1024x9160 .f32) : FVec Ideal S512x5120 .f32 :=
  prod (n := 5120) (normed (rows a0) (gain a1)) (attnWeight a2)

/-- The product of the recurrence's columns after the second region. -/
theorem W3_rec : W3 m ρ c (Proc.devRef .tc main_v24) = recOut (A0 m c) (A1 m c) (A2 m c) :=
  ((W3_arr m ρ c 2).trans (final1 (V2 m ρ) c)).trans (congrArg₂ (prod (n := 4224)) (W2_norm m ρ c)
    ((W2_of m ρ c main_v19 (by decide)).trans (W1_rec m ρ c)))

/-- The product of the attention's columns after the third region. -/
theorem W4_attn : W4 m ρ c (Proc.devRef .tc main_v25) = attnOut (A0 m c) (A1 m c) (A2 m c) :=
  ((W4_arr m ρ c 2).trans (final2 (V3 m ρ) c)).trans (congrArg₂ (prod (n := 5120))
    ((W3_of m ρ c main_v23 (by decide)).trans (W2_norm m ρ c))
    (((W3_of m ρ c main_v9 (by decide)).trans (W2_of m ρ c main_v9 (by decide))).trans (W1_attn m ρ c)))

/-- The product of the attention's columns enters the fourth region. -/
theorem W5_attn : W5 m ρ c (Proc.devRef .tc main_v25) = attnOut (A0 m c) (A1 m c) (A2 m c) :=
  (W5_of m ρ c main_v25 (by decide)).trans (W4_attn m ρ c)

/-- The keys' gain enters the fourth region. -/
theorem W5_keyGain : W5 m ρ c (Proc.devRef .tc main_v29) = keyGain (A4 m c) := by
  have h : W4 m ρ c (Proc.devRef .tc main_arg4) = A4 m c := W4_args m ρ c main_arg4 (by decide)
  have h' : W5 m ρ c (Proc.devRef .tc main_v29) = keyGain (W4 m ρ c (Proc.devRef .tc main_arg4)) := by
    dsimp only [W5]; after_results_simp <;> rfl
  exact h'.trans (congrArg keyGain h)

/-- The keys after the fourth region. -/
theorem W6_keys : W6 m ρ c (Proc.devRef .tc main_v30_0) = keyed (attnOut (A0 m c) (A1 m c) (A2 m c)) (keyGain (A4 m c)) :=
  ((W6_arr m ρ c 6).trans (final3 (V5 m ρ) c)).trans (congrArg₂ keyed (W5_attn m ρ c) (W5_keyGain m ρ c))

/-- The product of the attention's columns after the fourth region. -/
theorem W6_attn : W6 m ρ c (Proc.devRef .tc main_v25) = attnOut (A0 m c) (A1 m c) (A2 m c) :=
  (W6_of m ρ c main_v25 (by decide)).trans (W5_attn m ρ c)

/-- The product of the recurrence's columns after the fourth region. -/
theorem W6_rec : W6 m ρ c (Proc.devRef .tc main_v24) = recOut (A0 m c) (A1 m c) (A2 m c) :=
  (W6_of m ρ c main_v24 (by decide)).trans ((W5_of m ρ c main_v24 (by decide)).trans ((W4_of m ρ c main_v24 (by decide)).trans (W3_rec m ρ c)))

/-- Result 0's host operations: the keys by head. -/
def headKeys (k : FVec Ideal S512x128 .f32) : FVec Ideal S1x128x4x2x64 .f32 := shapeCast S1x128x4x2x64 k shapeCasts_S512x128_S1x128x4x2x64
/-- Result 1's host operations: the values by head. -/
def headValues (z : FVec Ideal S512x5120 .f32) : FVec Ideal S1x128x4x2x64 .f32 :=
  shapeCast S1x128x4x2x64 (extractStridedSlice S512x128 ![0, 1664] z slices_S512x5120_S512x128_0_1664) shapeCasts_S512x128_S1x128x4x2x64
/-- Result 2's host operations: the index keys. -/
def headIdx (z : FVec Ideal S512x5120 .f32) : FVec Ideal S1x128x4x64 .f32 :=
  shapeCast S1x128x4x64 (extractStridedSlice S512x64 ![0, 1792] z slices_S512x5120_S512x64_0_1792) shapeCasts_S512x64_S1x128x4x64
/-- Result 4's host operations: the recurrence's columns in the weight's order. -/
def recBack (z : FVec Ideal S512x4224 .f32) : FVec Ideal S128x4x4224 .f32 :=
  concatenate S128x4x4224 2
    [⟨S128x4x4096, shapeCast S128x4x4096 (shapeCast S128x4x4x1024 (transpose S128x4x4x16x64 [0, 1, 2, 4, 3]
        (shapeCast S128x4x4x64x16 (shapeCast S128x4x4x1024 (extractStridedSlice S128x4x4096 ![0, 0, 0]
          (shapeCast S128x4x4224 z shapeCasts_S512x4224_S128x4x4224) slices_S128x4x4224_S128x4x4096_0_0_0)
          shapeCasts_S128x4x4096_S128x4x4x1024) shapeCasts_S128x4x4x1024_S128x4x4x64x16) transposes_S128x4x4x64x16_S128x4x4x16x64_0_1_2_4_3)
        shapeCasts_S128x4x4x16x64_S128x4x4x1024) shapeCasts_S128x4x4x1024_S128x4x4096⟩,
     ⟨S128x4x128, extractStridedSlice S128x4x128 ![0, 0, 4096]
        (shapeCast S128x4x4224 z shapeCasts_S512x4224_S128x4x4224) slices_S128x4x4224_S128x4x128_0_0_4096⟩]
    concatenates_S128x4x4096_S128x4x128_S128x4x4224_d2
/-- Result 3's host operations: the last token's row of the recurrence's columns. -/
def lastRow (z : FVec Ideal S128x4x4224 .f32) : FVec Ideal S1x128x4224 .f32 :=
  broadcastInDim S1x128x4224 ![1, 2] bcast_S128x4224_S1x128x4224_1_2
    (shapeCast S128x4224 (extractStridedSlice S128x1x4224 ![0, 3, 0] z slices_S128x4x4224_S128x1x4224_0_3_0) shapeCasts_S128x1x4224_S128x4224)
/-- Result 5's host operations: the queries' columns. -/
def queries (z : FVec Ideal S512x5120 .f32) : FVec Ideal S128x4x1024 .f32 :=
  shapeCast S128x4x1024 (extractStridedSlice S512x1024 ![0, 0] z slices_S512x5120_S512x1024_0_0) shapeCasts_S512x1024_S128x4x1024
/-- Result 6's host operations: the index queries' columns. -/
def idxQueries (z : FVec Ideal S512x5120 .f32) : FVec Ideal S128x4x512 .f32 :=
  shapeCast S128x4x512 (extractStridedSlice S512x512 ![0, 1024] z slices_S512x5120_S512x512_0_1024) shapeCasts_S512x512_S128x4x512
/-- Result 7's host operations: the index heads' weights. -/
def idxWeights (z : FVec Ideal S512x5120 .f32) : FVec Ideal S128x4x8 .f32 :=
  shapeCast S128x4x8 (extractStridedSlice S512x8 ![0, 1856] z slices_S512x5120_S512x8_0_1856) shapeCasts_S512x8_S128x4x8
/-- Result 8's host operations: the gates' columns. -/
def gates (z : FVec Ideal S512x5120 .f32) : FVec Ideal S128x4x3072 .f32 :=
  shapeCast S128x4x3072 (extractStridedSlice S512x3072 ![0, 2048] z slices_S512x5120_S512x3072_0_2048) shapeCasts_S512x3072_S128x4x3072

end Cert.ProjSampleIdeal.Value

end
-- ==== Proof.ProjSampleResults.lean ====
/-
   The in-projection of the sampled tokens: what the last host operations leave in each result array.
-/
module

public import proofs.«01_k».proof.Proof.ProjSampleArrays

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

variable (m : (ℓ : Loc nD τ sig) → Buf (Elt Ideal) ℓ) (ρ : Dev nD → PrngReg) (c : Dev nD)

/-- Result 0: the normalised keys. -/
theorem W7_keys : W7 m ρ c (Proc.devRef .tc main_v42) = headKeys (keyed (attnOut (A0 m c) (A1 m c) (A2 m c)) (keyGain (A4 m c))) := by
  have h : W7 m ρ c (Proc.devRef .tc main_v42) = headKeys (W6 m ρ c (Proc.devRef .tc main_v30_0)) := by
    dsimp only [W7]; after_results_simp <;> rfl
  exact h.trans (congrArg headKeys (W6_keys m ρ c))
/-- Result 1: the values. -/
theorem W7_values : W7 m ρ c (Proc.devRef .tc main_v43) = headValues (attnOut (A0 m c) (A1 m c) (A2 m c)) := by
  have h : W7 m ρ c (Proc.devRef .tc main_v43) = headValues (W6 m ρ c (Proc.devRef .tc main_v25)) := by
    dsimp only [W7]; after_results_simp <;> rfl
  exact h.trans (congrArg headValues (W6_attn m ρ c))
/-- Result 2: the index keys. -/
theorem W7_idx : W7 m ρ c (Proc.devRef .tc main_v44) = headIdx (attnOut (A0 m c) (A1 m c) (A2 m c)) := by
  have h : W7 m ρ c (Proc.devRef .tc main_v44) = headIdx (W6 m ρ c (Proc.devRef .tc main_v25)) := by
    dsimp only [W7]; after_results_simp <;> rfl
  exact h.trans (congrArg headIdx (W6_attn m ρ c))
/-- Result 5: the queries. -/
theorem W7_queries : W7 m ρ c (Proc.devRef .tc main_v49) = queries (attnOut (A0 m c) (A1 m c) (A2 m c)) := by
  have h : W7 m ρ c (Proc.devRef .tc main_v49) = queries (W6 m ρ c (Proc.devRef .tc main_v25)) := by
    dsimp only [W7]; after_results_simp <;> rfl
  exact h.trans (congrArg queries (W6_attn m ρ c))
/-- Result 6: the index queries. -/
theorem W7_idxQueries : W7 m ρ c (Proc.devRef .tc main_v51) = idxQueries (attnOut (A0 m c) (A1 m c) (A2 m c)) := by
  have h : W7 m ρ c (Proc.devRef .tc main_v51) = idxQueries (W6 m ρ c (Proc.devRef .tc main_v25)) := by
    dsimp only [W7]; after_results_simp <;> rfl
  exact h.trans (congrArg idxQueries (W6_attn m ρ c))
/-- Result 7: the index heads' weights. -/
theorem W7_idxWeights : W7 m ρ c (Proc.devRef .tc main_v53) = idxWeights (attnOut (A0 m c) (A1 m c) (A2 m c)) := by
  have h : W7 m ρ c (Proc.devRef .tc main_v53) = idxWeights (W6 m ρ c (Proc.devRef .tc main_v25)) := by
    dsimp only [W7]; after_results_simp <;> rfl
  exact h.trans (congrArg idxWeights (W6_attn m ρ c))
/-- Result 8: the gates. -/
theorem W7_gates : W7 m ρ c (Proc.devRef .tc main_v55) = gates (attnOut (A0 m c) (A1 m c) (A2 m c)) := by
  have h : W7 m ρ c (Proc.devRef .tc main_v55) = gates (W6 m ρ c (Proc.devRef .tc main_v25)) := by
    dsimp only [W7]; after_results_simp <;> rfl
  exact h.trans (congrArg gates (W6_attn m ρ c))

end Cert.ProjSampleIdeal.Value

end
-- ==== Proof.ProjSampleRec.lean ====
/-
   The in-projection of the sampled tokens: what the last host operations leave in each result array.
-/
module

public import proofs.«01_k».proof.Proof.ProjSampleArrays

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

variable (m : (ℓ : Loc nD τ sig) → Buf (Elt Ideal) ℓ) (ρ : Dev nD → PrngReg) (c : Dev nD)

/-- The recurrence's product by sequence and token. -/
theorem at_v33 : (W7 m ρ c (Proc.devRef .tc main_v33) : FVec Ideal S128x4x4224 .f32) = shapeCast S128x4x4224 (W6 m ρ c (Proc.devRef .tc main_v24) : FVec Ideal S512x4224 .f32) shapeCasts_S512x4224_S128x4x4224 := by
  dsimp only [W7]; after_results_simp <;> rfl

/-- Its first 4096 columns. -/
theorem at_v34 : (W7 m ρ c (Proc.devRef .tc main_v34) : FVec Ideal S128x4x4096 .f32) = extractStridedSlice S128x4x4096 ![0, 0, 0] (W7 m ρ c (Proc.devRef .tc main_v33) : FVec Ideal S128x4x4224 .f32) slices_S128x4x4224_S128x4x4096_0_0_0 := by
  dsimp only [W7]; after_results_simp <;> rfl

/-- Them in four groups. -/
theorem at_v35 : (W7 m ρ c (Proc.devRef .tc main_v35) : FVec Ideal S128x4x4x1024 .f32) = shapeCast S128x4x4x1024 (W7 m ρ c (Proc.devRef .tc main_v34) : FVec Ideal S128x4x4096 .f32) shapeCasts_S128x4x4096_S128x4x4x1024 := by
  dsimp only [W7]; after_results_simp <;> rfl

/-- Each group by entry and head. -/
theorem at_v36 : (W7 m ρ c (Proc.devRef .tc main_v36) : FVec Ideal S128x4x4x64x16 .f32) = shapeCast S128x4x4x64x16 (W7 m ρ c (Proc.devRef .tc main_v35) : FVec Ideal S128x4x4x1024 .f32) shapeCasts_S128x4x4x1024_S128x4x4x64x16 := by
  dsimp only [W7]; after_results_simp <;> rfl

/-- Head and entry exchanged. -/
theorem at_v37 : (W7 m ρ c (Proc.devRef .tc main_v37) : FVec Ideal S128x4x4x16x64 .f32) = transpose S128x4x4x16x64 [0, 1, 2, 4, 3] (W7 m ρ c (Proc.devRef .tc main_v36) : FVec Ideal S128x4x4x64x16 .f32) transposes_S128x4x4x64x16_S128x4x4x16x64_0_1_2_4_3 := by
  dsimp only [W7]; after_results_simp <;> rfl

/-- The groups again. -/
theorem at_v38 : (W7 m ρ c (Proc.devRef .tc main_v38) : FVec Ideal S128x4x4x1024 .f32) = shapeCast S128x4x4x1024 (W7 m ρ c (Proc.devRef .tc main_v37) : FVec Ideal S128x4x4x16x64 .f32) shapeCasts_S128x4x4x16x64_S128x4x4x1024 := by
  dsimp only [W7]; after_results_simp <;> rfl

/-- The 4096 columns in the weight's order. -/
theorem at_v39 : (W7 m ρ c (Proc.devRef .tc main_v39) : FVec Ideal S128x4x4096 .f32) = shapeCast S128x4x4096 (W7 m ρ c (Proc.devRef .tc main_v38) : FVec Ideal S128x4x4x1024 .f32) shapeCasts_S128x4x4x1024_S128x4x4096 := by
  dsimp only [W7]; after_results_simp <;> rfl

/-- The other 128 columns. -/
theorem at_v40 : (W7 m ρ c (Proc.devRef .tc main_v40) : FVec Ideal S128x4x128 .f32) = extractStridedSlice S128x4x128 ![0, 0, 4096] (W7 m ρ c (Proc.devRef .tc main_v33) : FVec Ideal S128x4x4224 .f32) slices_S128x4x4224_S128x4x128_0_0_4096 := by
  dsimp only [W7]; after_results_simp <;> rfl

/-- All the columns. -/
theorem at_v41 : (W7 m ρ c (Proc.devRef .tc main_v41) : FVec Ideal S128x4x4224 .f32) = concatenate S128x4x4224 2 [⟨S128x4x4096, (W7 m ρ c (Proc.devRef .tc main_v39) : FVec Ideal S128x4x4096 .f32)⟩, ⟨S128x4x128, (W7 m ρ c (Proc.devRef .tc main_v40) : FVec Ideal S128x4x128 .f32)⟩] concatenates_S128x4x4096_S128x4x128_S128x4x4224_d2 := by
  dsimp only [W7]; after_results_simp <;> rfl

/-- Result 4: the recurrence's columns. -/
theorem W7_rec : W7 m ρ c (Proc.devRef .tc main_v41) = recBack (recOut (A0 m c) (A1 m c) (A2 m c)) := by
  refine (at_v41 m ρ c).trans ?_
  rw [at_v39, at_v38, at_v37, at_v36, at_v35, at_v34, at_v40, at_v33, W6_rec]
  unfold recBack
  with_reducible rfl

/-- Result 3: the last token's row of the recurrence's columns. -/
theorem W7_last : W7 m ρ c (Proc.devRef .tc main_v47) = lastRow (recBack (recOut (A0 m c) (A1 m c) (A2 m c))) := by
  have h : W7 m ρ c (Proc.devRef .tc main_v47) = broadcastInDim S1x128x4224 ![1, 2] bcast_S128x4224_S1x128x4224_1_2
      (shapeCast S128x4224 (extractStridedSlice S128x1x4224 ![0, 3, 0] (W7 m ρ c (Proc.devRef .tc main_v41) : FVec Ideal S128x4x4224 .f32)
        slices_S128x4x4224_S128x1x4224_0_3_0) shapeCasts_S128x1x4224_S128x4224) := by
    dsimp only [W7]; after_results_simp <;> rfl
  refine h.trans ?_
  rw [W7_rec]
  unfold lastRow
  with_reducible rfl

end Cert.ProjSampleIdeal.Value

end
-- ==== Proof.ProjRefSample.lean ====
/-
   The in-projection of the sampled tokens: the reference's results, entry by entry.
-/
module

public import proofs.«01_k».proof.Proof.Gen.ProjRefSampleIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjRefSampleIdeal

open Cert.ProjRefSampleIdeal Cert.ProjRefSampleIdeal.Gen Idealize.ShloMosaic Idealize.ShloMosaic.TcCoe

/-- An entry of the normalised input. -/
def xAt (a0 : FVec Ideal S128x4x1024 .f32) (a1 : FVec Ideal S1x1024 .f32) (b : Fin 128) (t : Fin 4) (k : Fin 1024) : Ideal .f32 :=
  a0 (ix3 b t k) * Ideal.rsqrt (Ideal.div (∑ x : Fin 1024, a0 (ix3 b t x) * a0 (ix3 b t x)) (Ideal.ofBits .f32 0x44800000#32)
    + Ideal.ofBits .f32 0x358637BD#32) * a1 (ix2 (0 : Fin 1) k)

/-- An entry of the in-projection. -/
def zAt (a0 : FVec Ideal S128x4x1024 .f32) (a1 : FVec Ideal S1x1024 .f32) (a2 : FVec Ideal S1x1024x9160 .f32) (b : Fin 128) (t : Fin 4) (j : Fin 9160) : Ideal .f32 :=
  ∑ k : Fin 1024, xAt a0 a1 b t k * a2 (ix3 (0 : Fin 1) k j)

/-- An entry of the normalised keys. -/
def kAt (a0 : FVec Ideal S128x4x1024 .f32) (a1 : FVec Ideal S1x1024 .f32) (a2 : FVec Ideal S1x1024x9160 .f32) (a4 : FVec Ideal S1x64 .f32) (b : Fin 128) (t : Fin 4) (h : Fin 2) (j : Fin 64) : Ideal .f32 :=
  zAt a0 a1 a2 b t ⟨5248 + (h.val * 64 + j.val), by omega⟩ * Ideal.rsqrt (Ideal.div (∑ x : Fin 64,
      zAt a0 a1 a2 b t ⟨5248 + (h.val * 64 + x.val), by omega⟩ * zAt a0 a1 a2 b t ⟨5248 + (h.val * 64 + x.val), by omega⟩)
      (Ideal.ofBits .f32 0x42800000#32) + Ideal.ofBits .f32 0x358637BD#32)
    * a4 (ix2 (0 : Fin 1) j)

/-- The reference's result 0 of its arguments: the normalised keys. -/
def r0 (a0 : FVec Ideal S128x4x1024 .f32) (a1 : FVec Ideal S1x1024 .f32) (a2 : FVec Ideal S1x1024x9160 .f32) (a4 : FVec Ideal S1x64 .f32) : FVec Ideal S1x128x4x2x64 .f32 :=
  broadcastInDim S1x128x4x2x64 ![1, 2, 3, 4] bcast_S128x4x2x64_S1x128x4x2x64_1_2_3_4 (mulf (mulf (shapeCast _ (extractStridedSlice S128x4x128 ![0, 0, 5248] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x128_0_0_5248) shapeCasts_S128x4x128_S128x4x2x64) (broadcastInDim S128x4x2x64 ![0, 1, 2, 3] bcast_S128x4x2x1_S128x4x2x64_0_1_2_3 (Host.rsqrt (addf (Host.divf (broadcastInDim S128x4x2x1 ![0, 1, 2] bcast_S128x4x2_S128x4x2x1_0_1_2 (Host.reduceAdd (mulf (shapeCast _ (extractStridedSlice S128x4x128 ![0, 0, 5248] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x128_0_0_5248) shapeCasts_S128x4x128_S128x4x2x64) (shapeCast _ (extractStridedSlice S128x4x128 ![0, 0, 5248] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x128_0_0_5248) shapeCasts_S128x4x128_S128x4x2x64)) (constant S_ .f32 0x00000000#32) reducesTo_S128x4x2x64_S128x4x2_d3 h_S_)) (broadcastInDim S128x4x2x1 ![] bcast_S_S128x4x2x1 (constant S_ .f32 0x42800000#32))) (broadcastInDim S128x4x2x1 ![] bcast_S_S128x4x2x1 (constant S_ .f32 0x358637BD#32)))))) (broadcastInDim S128x4x2x64 ![0, 1, 2, 3] bcast_S1x1x1x64_S128x4x2x64_0_1_2_3 (broadcastInDim S1x1x1x64 ![3] bcast_S64_S1x1x1x64_3 (shapeCast _ a4 shapeCasts_S1x64_S64))))

/-- The reference's result 1 of its arguments: the values. -/
def r1 (a0 : FVec Ideal S128x4x1024 .f32) (a1 : FVec Ideal S1x1024 .f32) (a2 : FVec Ideal S1x1024x9160 .f32) : FVec Ideal S1x128x4x2x64 .f32 :=
  broadcastInDim S1x128x4x2x64 ![1, 2, 3, 4] bcast_S128x4x2x64_S1x128x4x2x64_1_2_3_4 (shapeCast _ (extractStridedSlice S128x4x128 ![0, 0, 5376] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x128_0_0_5376) shapeCasts_S128x4x128_S128x4x2x64)

/-- The reference's result 2 of its arguments: the index keys. -/
def r2 (a0 : FVec Ideal S128x4x1024 .f32) (a1 : FVec Ideal S1x1024 .f32) (a2 : FVec Ideal S1x1024x9160 .f32) : FVec Ideal S1x128x4x64 .f32 :=
  broadcastInDim S1x128x4x64 ![1, 2, 3] bcast_S128x4x64_S1x128x4x64_1_2_3 (extractStridedSlice S128x4x64 ![0, 0, 6016] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x64_0_0_6016)

/-- The reference's result 3 of its arguments: the last token's row of the recurrence's columns. -/
def r3 (a0 : FVec Ideal S128x4x1024 .f32) (a1 : FVec Ideal S1x1024 .f32) (a2 : FVec Ideal S1x1024x9160 .f32) : FVec Ideal S1x128x4224 .f32 :=
  broadcastInDim S1x128x4224 ![1, 2] bcast_S128x4224_S1x128x4224_1_2 (shapeCast _ (extractStridedSlice S128x1x4224 ![0, 3, 0] (extractStridedSlice S128x4x4224 ![0, 0, 0] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x4224_0_0_0) slices_S128x4x4224_S128x1x4224_0_3_0) shapeCasts_S128x1x4224_S128x4224)

/-- The reference's result 4 of its arguments: the recurrence's columns. -/
def r4 (a0 : FVec Ideal S128x4x1024 .f32) (a1 : FVec Ideal S1x1024 .f32) (a2 : FVec Ideal S1x1024x9160 .f32) : FVec Ideal S128x4x4224 .f32 :=
  extractStridedSlice S128x4x4224 ![0, 0, 0] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x4224_0_0_0

/-- The reference's result 5 of its arguments: the queries. -/
def r5 (a0 : FVec Ideal S128x4x1024 .f32) (a1 : FVec Ideal S1x1024 .f32) (a2 : FVec Ideal S1x1024x9160 .f32) : FVec Ideal S128x4x1024 .f32 :=
  extractStridedSlice S128x4x1024 ![0, 0, 4224] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x1024_0_0_4224

/-- The reference's result 6 of its arguments: the index queries. -/
def r6 (a0 : FVec Ideal S128x4x1024 .f32) (a1 : FVec Ideal S1x1024 .f32) (a2 : FVec Ideal S1x1024x9160 .f32) : FVec Ideal S128x4x512 .f32 :=
  extractStridedSlice S128x4x512 ![0, 0, 5504] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x512_0_0_5504

/-- The reference's result 7 of its arguments: the index heads' weights. -/
def r7 (a0 : FVec Ideal S128x4x1024 .f32) (a1 : FVec Ideal S1x1024 .f32) (a2 : FVec Ideal S1x1024x9160 .f32) : FVec Ideal S128x4x8 .f32 :=
  extractStridedSlice S128x4x8 ![0, 0, 6080] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x8_0_0_6080

/-- The reference's result 8 of its arguments: the gates. -/
def r8 (a0 : FVec Ideal S128x4x1024 .f32) (a1 : FVec Ideal S1x1024 .f32) (a2 : FVec Ideal S1x1024x9160 .f32) : FVec Ideal S128x4x3072 .f32 :=
  extractStridedSlice S128x4x3072 ![0, 0, 6088] (Host.dotGeneral dot_S128x4x1024_S1024x9160_S128x4x9160_2_0_01_1_n_n none (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ a1 shapeCasts_S1x1024_S1024)))) (shapeCast _ a2 shapeCasts_S1x1024x9160_S1024x9160)) slices_S128x4x9160_S128x4x3072_0_0_6088

/-- An entry of result 0. -/
theorem r0_at (a0 : FVec Ideal S128x4x1024 .f32) (a1 : FVec Ideal S1x1024 .f32) (a2 : FVec Ideal S1x1024x9160 .f32) (a4 : FVec Ideal S1x64 .f32) (b : Fin 128) (t : Fin 4) (h : Fin 2) (j : Fin 64) :
    r0 a0 a1 a2 a4 (ix5 (0 : Fin 1) b t h j) = kAt a0 a1 a2 a4 b t h j := by
  pointwise [r0, kAt, zAt, xAt]

/-- An entry of result 1. -/
theorem r1_at (a0 : FVec Ideal S128x4x1024 .f32) (a1 : FVec Ideal S1x1024 .f32) (a2 : FVec Ideal S1x1024x9160 .f32) (b : Fin 128) (t : Fin 4) (h : Fin 2) (j : Fin 64) :
    r1 a0 a1 a2 (ix5 (0 : Fin 1) b t h j) = zAt a0 a1 a2 b t ⟨5376 + (h.val * 64 + j.val), by omega⟩ := by
  pointwise [r1, zAt, xAt]

/-- An entry of result 2. -/
theorem r2_at (a0 : FVec Ideal S128x4x1024 .f32) (a1 : FVec Ideal S1x1024 .f32) (a2 : FVec Ideal S1x1024x9160 .f32) (b : Fin 128) (t : Fin 4) (j : Fin 64) :
    r2 a0 a1 a2 (ix4 (0 : Fin 1) b t j) = zAt a0 a1 a2 b t ⟨6016 + j.val, by omega⟩ := by
  pointwise [r2, zAt, xAt]

/-- An entry of result 3. -/
theorem r3_at (a0 : FVec Ideal S128x4x1024 .f32) (a1 : FVec Ideal S1x1024 .f32) (a2 : FVec Ideal S1x1024x9160 .f32) (b : Fin 128) (j : Fin 4224) :
    r3 a0 a1 a2 (ix3 (0 : Fin 1) b j) = zAt a0 a1 a2 b 3 ⟨j.val, by omega⟩ := by
  pointwise [r3, zAt, xAt]

/-- An entry of result 4. -/
theorem r4_at (a0 : FVec Ideal S128x4x1024 .f32) (a1 : FVec Ideal S1x1024 .f32) (a2 : FVec Ideal S1x1024x9160 .f32) (b : Fin 128) (t : Fin 4) (j : Fin 4224) :
    r4 a0 a1 a2 (ix3 b t j) = zAt a0 a1 a2 b t ⟨j.val, by omega⟩ := by
  pointwise [r4, zAt, xAt]

/-- An entry of result 5. -/
theorem r5_at (a0 : FVec Ideal S128x4x1024 .f32) (a1 : FVec Ideal S1x1024 .f32) (a2 : FVec Ideal S1x1024x9160 .f32) (b : Fin 128) (t : Fin 4) (j : Fin 1024) :
    r5 a0 a1 a2 (ix3 b t j) = zAt a0 a1 a2 b t ⟨4224 + j.val, by omega⟩ := by
  pointwise [r5, zAt, xAt]

/-- An entry of result 6. -/
theorem r6_at (a0 : FVec Ideal S128x4x1024 .f32) (a1 : FVec Ideal S1x1024 .f32) (a2 : FVec Ideal S1x1024x9160 .f32) (b : Fin 128) (t : Fin 4) (j : Fin 512) :
    r6 a0 a1 a2 (ix3 b t j) = zAt a0 a1 a2 b t ⟨5504 + j.val, by omega⟩ := by
  pointwise [r6, zAt, xAt]

/-- An entry of result 7. -/
theorem r7_at (a0 : FVec Ideal S128x4x1024 .f32) (a1 : FVec Ideal S1x1024 .f32) (a2 : FVec Ideal S1x1024x9160 .f32) (b : Fin 128) (t : Fin 4) (j : Fin 8) :
    r7 a0 a1 a2 (ix3 b t j) = zAt a0 a1 a2 b t ⟨6080 + j.val, by omega⟩ := by
  pointwise [r7, zAt, xAt]

/-- An entry of result 8. -/
theorem r8_at (a0 : FVec Ideal S128x4x1024 .f32) (a1 : FVec Ideal S1x1024 .f32) (a2 : FVec Ideal S1x1024x9160 .f32) (b : Fin 128) (t : Fin 4) (j : Fin 3072) :
    r8 a0 a1 a2 (ix3 b t j) = zAt a0 a1 a2 b t ⟨6088 + j.val, by omega⟩ := by
  pointwise [r8, zAt, xAt]

end Cert.ProjRefSampleIdeal

end
-- ==== Proof.ProjSampleValue.lean ====
/-
   The in-projection of the sampled tokens: the kernel's results are the reference's, entry by entry.
-/
module

public import proofs.«01_k».proof.Proof.ProjSampleArrays
public import proofs.«01_k».proof.Proof.ProjRefSample

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

/-- The normalised rows, entry by entry. -/
theorem normed_at (a0 : FVec Ideal S128x4x1024 .f32) (a1 : FVec Ideal S1x1024 .f32) (b : Fin 128) (t : Fin 4) (k : Fin 1024) (r : Fin 512)
    (hr : r.val = b.val * 4 + t.val) : normed (rows a0) (gain a1) (ix2 r k) = Cert.ProjRefSampleIdeal.xAt a0 a1 b t k := by
  have hx : ∀ x : Fin 1024, rows a0 (ix2 r x) = a0 (ix3 b t x) := fun x => by
    unfold rows
    pointwise
    exact congrArg₂ (fun p q => a0 (ix3 p q x)) (Fin.ext (by dsimp only; omega)) (Fin.ext (by dsimp only; omega))
  have hg : ∀ x : Fin 1024, gain a1 (ix2 (0 : Fin 1) x) = a1 (ix2 (0 : Fin 1) x) := fun x => by
    unfold gain
    pointwise
  exact Ideal.mul_congr (Ideal.mul_congr (hx k) (congrArg Ideal.rsqrt (Ideal.add_congr (congrArg (Ideal.div · _)
    (Fin.sum_fin_congr fun x => Ideal.mul_congr (hx x) (hx x))) rfl))) (hg k)

/-- An entry of the second region's product, at a column that is the weight's column `j'`. -/
theorem rec_at (a0 : FVec Ideal S128x4x1024 .f32) (a1 : FVec Ideal S1x1024 .f32) (a2 : FVec Ideal S1x1024x9160 .f32) (b : Fin 128) (t : Fin 4) (r : Fin 512) (hr : r.val = b.val * 4 + t.val)
    (j : Fin 4224) (j' : Fin 9160) (h : ∀ k : Fin 1024, recWeight a2 (ix2 k j) = a2 (ix3 (0 : Fin 1) k j')) :
    recOut a0 a1 a2 (ix2 r j) = Cert.ProjRefSampleIdeal.zAt a0 a1 a2 b t j' :=
  Fin.sum_fin_congr fun k => Ideal.mul_congr (normed_at a0 a1 b t k r hr) (h k)

/-- An entry of the third region's product, at a column that is the weight's column `j'`. -/
theorem attn_at (a0 : FVec Ideal S128x4x1024 .f32) (a1 : FVec Ideal S1x1024 .f32) (a2 : FVec Ideal S1x1024x9160 .f32) (b : Fin 128) (t : Fin 4) (r : Fin 512) (hr : r.val = b.val * 4 + t.val)
    (j : Fin 5120) (j' : Fin 9160) (h : ∀ k : Fin 1024, attnWeight a2 (ix2 k j) = a2 (ix3 (0 : Fin 1) k j')) :
    attnOut a0 a1 a2 (ix2 r j) = Cert.ProjRefSampleIdeal.zAt a0 a1 a2 b t j' :=
  Fin.sum_fin_congr fun k => Ideal.mul_congr (normed_at a0 a1 b t k r hr) (h k)

/-- The attention weight's columns, each of which of the weight's it is. -/
theorem attnWeight_at (a2 : FVec Ideal S1x1024x9160 .f32) (k : Fin 1024) (j : Fin 5120) (j' : Fin 9160)
    (h : (j.val < 1024 ∧ j'.val = 4224 + j.val) ∨ (1024 ≤ j.val ∧ j.val < 1536 ∧ j'.val = 4480 + j.val)
      ∨ (1536 ≤ j.val ∧ j.val < 1792 ∧ j'.val = 3712 + j.val) ∨ (1792 ≤ j.val ∧ j.val < 1864 ∧ j'.val = 4224 + j.val)
      ∨ (2048 ≤ j.val ∧ j'.val = 4040 + j.val)) :
    attnWeight a2 (ix2 k j) = a2 (ix3 (0 : Fin 1) k j') := by
  unfold attnWeight weight
  pointwise
  have e : ∀ q : Fin 9160, q.val = j'.val → a2 (ix3 (0 : Fin 1) k q) = a2 (ix3 (0 : Fin 1) k j') :=
    fun q hq => congrArg (fun q => a2 (ix3 (0 : Fin 1) k q)) (Fin.ext hq)
  by_cases h1 : j.val < 1024
  · rw [dif_pos h1]; exact e _ (by dsimp only; omega)
  rw [dif_neg h1]
  by_cases h2 : j.val - 1024 < 512
  · rw [dif_pos h2]; exact e _ (by dsimp only; omega)
  rw [dif_neg h2]
  by_cases h3 : j.val - 1024 - 512 < 256
  · rw [dif_pos h3]; exact e _ (by dsimp only; omega)
  rw [dif_neg h3]
  by_cases h4 : j.val - 1024 - 512 - 256 < 72
  · rw [dif_pos h4]; exact e _ (by dsimp only; omega)
  rw [dif_neg h4]
  have h5 : ¬ j.val - 1024 - 512 - 256 - 72 < 56 := by omega
  rw [dif_neg h5]
  have h6 : ¬ j.val - 1024 - 512 - 256 - 72 - 56 < 128 := by omega
  rw [dif_neg h6]; exact e _ (by dsimp only; omega)

/-- The recurrence weight's grouped columns. -/
theorem recWeight_lt (a2 : FVec Ideal S1x1024x9160 .f32) (k : Fin 1024) (j : Fin 4224) (j' : Fin 9160) (h : j.val < 4096)
    (hj : j'.val = j.val / 1024 * 1024 + j.val % 16 * 64 + j.val / 16 % 64) :
    recWeight a2 (ix2 k j) = a2 (ix3 (0 : Fin 1) k j') := by
  unfold recWeight weight
  pointwise
  rw [dif_pos h]
  exact congrArg (fun q => a2 (ix3 (0 : Fin 1) k q)) (Fin.ext hj.symm)

/-- The recurrence weight's other columns. -/
theorem recWeight_ge (a2 : FVec Ideal S1x1024x9160 .f32) (k : Fin 1024) (j : Fin 4224) (j' : Fin 9160) (h : ¬ j.val < 4096)
    (hj : j'.val = j.val) :
    recWeight a2 (ix2 k j) = a2 (ix3 (0 : Fin 1) k j') := by
  unfold recWeight weight
  pointwise
  rw [dif_neg h]
  exact congrArg (fun q => a2 (ix3 (0 : Fin 1) k q)) (Fin.ext (by dsimp only; omega))

/-- Grouping the columns undoes bringing them back. -/
theorem group_back (j : ℕ) : j = (j / 1024 * 1024 + j % 64 * 16 + j / 64 % 16) / 1024 * 1024
    + (j / 1024 * 1024 + j % 64 * 16 + j / 64 % 16) % 16 * 64 + (j / 1024 * 1024 + j % 64 * 16 + j / 64 % 16) / 16 % 64 := by
  have e1 : (j / 1024 * 1024 + j % 64 * 16 + j / 64 % 16) / 1024 = j / 1024 := by omega
  have e2 : (j / 1024 * 1024 + j % 64 * 16 + j / 64 % 16) % 16 = j / 64 % 16 := by omega
  have e3 : (j / 1024 * 1024 + j % 64 * 16 + j / 64 % 16) / 16 % 64 = j % 64 := by omega
  rw [e1, e2, e3]
  omega

/-- The recurrence's columns, brought back to the weight's order, entry by entry. -/
theorem recBack_at (a0 : FVec Ideal S128x4x1024 .f32) (a1 : FVec Ideal S1x1024 .f32) (a2 : FVec Ideal S1x1024x9160 .f32) (b : Fin 128) (t : Fin 4) (j : Fin 4224) :
    recBack (recOut a0 a1 a2) (ix3 b t j) = Cert.ProjRefSampleIdeal.zAt a0 a1 a2 b t ⟨j.val, by omega⟩ := by
  unfold recBack
  pointwise
  by_cases h : j.val < 4096
  · rw [dif_pos h]
    exact rec_at a0 a1 a2 b t _ rfl _ _ fun k => recWeight_lt a2 k _ _ (by dsimp only; omega) (group_back j.val)
  · rw [dif_neg h]
    exact rec_at a0 a1 a2 b t _ rfl _ _ fun k => recWeight_ge a2 k _ _ (by dsimp only; omega) (by dsimp only; omega)

/-- The normalised keys, entry by entry. -/
theorem keyed_at (a0 : FVec Ideal S128x4x1024 .f32) (a1 : FVec Ideal S1x1024 .f32) (a2 : FVec Ideal S1x1024x9160 .f32) (a4 : FVec Ideal S1x64 .f32) (b : Fin 128) (t : Fin 4) (h : Fin 2) (j : Fin 64) (r : Fin 512) (hr : r.val = b.val * 4 + t.val)
    (q : Fin 128) (hq : q.val = h.val * 64 + j.val) :
    keyed (attnOut a0 a1 a2) (keyGain a4) (ix2 r q) = Cert.ProjRefSampleIdeal.kAt a0 a1 a2 a4 b t h j := by
  have hz : ∀ (p : Fin 5120) (p' : Fin 9160), 1536 ≤ p.val → p.val < 1792 → p'.val = 3712 + p.val →
      attnOut a0 a1 a2 (ix2 r p) = Cert.ProjRefSampleIdeal.zAt a0 a1 a2 b t p' := fun p p' h1 h2 h3 =>
    attn_at a0 a1 a2 b t r hr p p' fun k => attnWeight_at a2 k p p' (.inr (.inr (.inl ⟨h1, h2, h3⟩)))
  have hg : ∀ x : Fin 64, keyGain a4 (ix2 (0 : Fin 1) x) = a4 (ix2 (0 : Fin 1) x) := fun x => by
    unfold keyGain
    pointwise
  refine Ideal.mul_congr (Ideal.mul_congr (hz _ _ ?_ ?_ ?_) (congrArg Ideal.rsqrt (Ideal.add_congr (congrArg (Ideal.div · _)
    (Fin.sum_fin_congr fun x => Ideal.mul_congr (hz _ _ ?_ ?_ ?_) (hz _ _ ?_ ?_ ?_))) rfl))) ((hg _).trans
      (congrArg (fun x => a4 (ix2 (0 : Fin 1) x)) (Fin.ext ?_)))
  all_goals
    simp only [ix2]
    change _
    first
    | (have hqq : (q : ℕ) = h.val * 64 + j.val := hq; show _ ; omega)

/-- Result 0 is the reference's. -/
theorem final_keys (a0 : FVec Ideal S128x4x1024 .f32) (a1 : FVec Ideal S1x1024 .f32) (a2 : FVec Ideal S1x1024x9160 .f32) (a4 : FVec Ideal S1x64 .f32) :
    headKeys (keyed (attnOut a0 a1 a2) (keyGain a4)) = Cert.ProjRefSampleIdeal.r0 a0 a1 a2 a4 := by
  funext y
  idx_vars y
  obtain rfl : y0 = 0 := Subsingleton.elim _ _
  refine Eq.trans ?_ (Cert.ProjRefSampleIdeal.r0_at a0 a1 a2 a4 y1 y2 y3 y4).symm
  unfold headKeys
  pointwise
  exact keyed_at a0 a1 a2 a4 y1 y2 y3 y4 _ rfl _ rfl

/-- Result 1 is the reference's. -/
theorem final_values (a0 : FVec Ideal S128x4x1024 .f32) (a1 : FVec Ideal S1x1024 .f32) (a2 : FVec Ideal S1x1024x9160 .f32) :
    headValues (attnOut a0 a1 a2) = Cert.ProjRefSampleIdeal.r1 a0 a1 a2 := by
  funext y
  idx_vars y
  obtain rfl : y0 = 0 := Subsingleton.elim _ _
  refine Eq.trans ?_ (Cert.ProjRefSampleIdeal.r1_at a0 a1 a2 y1 y2 y3 y4).symm
  unfold headValues
  pointwise
  exact attn_at a0 a1 a2 y1 y2 _ rfl _ _ fun k => attnWeight_at a2 k _ _ (.inr (.inr (.inl ⟨by dsimp only; omega, by dsimp only; omega, by dsimp only; omega⟩)))

/-- Result 2 is the reference's. -/
theorem final_idx (a0 : FVec Ideal S128x4x1024 .f32) (a1 : FVec Ideal S1x1024 .f32) (a2 : FVec Ideal S1x1024x9160 .f32) :
    headIdx (attnOut a0 a1 a2) = Cert.ProjRefSampleIdeal.r2 a0 a1 a2 := by
  funext y
  idx_vars y
  obtain rfl : y0 = 0 := Subsingleton.elim _ _
  refine Eq.trans ?_ (Cert.ProjRefSampleIdeal.r2_at a0 a1 a2 y1 y2 y3).symm
  unfold headIdx
  pointwise
  exact attn_at a0 a1 a2 y1 y2 _ rfl _ _ fun k => attnWeight_at a2 k _ _ (.inr (.inr (.inr (.inl ⟨by dsimp only; omega, by dsimp only; omega, by dsimp only; omega⟩))))

/-- Result 3 is the reference's. -/
theorem final_last (a0 : FVec Ideal S128x4x1024 .f32) (a1 : FVec Ideal S1x1024 .f32) (a2 : FVec Ideal S1x1024x9160 .f32) :
    lastRow (recBack (recOut a0 a1 a2)) = Cert.ProjRefSampleIdeal.r3 a0 a1 a2 := by
  funext y
  idx_vars y
  obtain rfl : y0 = 0 := Subsingleton.elim _ _
  refine Eq.trans ?_ (Cert.ProjRefSampleIdeal.r3_at a0 a1 a2 y1 y2).symm
  unfold lastRow
  pointwise
  exact recBack_at a0 a1 a2 y1 _ y2

/-- Result 4 is the reference's. -/
theorem final_rec (a0 : FVec Ideal S128x4x1024 .f32) (a1 : FVec Ideal S1x1024 .f32) (a2 : FVec Ideal S1x1024x9160 .f32) :
    recBack (recOut a0 a1 a2) = Cert.ProjRefSampleIdeal.r4 a0 a1 a2 := by
  funext y
  idx_vars y
  exact (recBack_at a0 a1 a2 y0 y1 y2).trans (Cert.ProjRefSampleIdeal.r4_at a0 a1 a2 y0 y1 y2).symm

/-- Result 5 is the reference's. -/
theorem final_queries (a0 : FVec Ideal S128x4x1024 .f32) (a1 : FVec Ideal S1x1024 .f32) (a2 : FVec Ideal S1x1024x9160 .f32) :
    queries (attnOut a0 a1 a2) = Cert.ProjRefSampleIdeal.r5 a0 a1 a2 := by
  funext y
  idx_vars y
  refine Eq.trans ?_ (Cert.ProjRefSampleIdeal.r5_at a0 a1 a2 y0 y1 y2).symm
  unfold queries
  pointwise
  exact attn_at a0 a1 a2 y0 y1 _ rfl _ _ fun k => attnWeight_at a2 k _ _ (.inl ⟨by dsimp only; omega, by dsimp only⟩)

/-- Result 6 is the reference's. -/
theorem final_idxQueries (a0 : FVec Ideal S128x4x1024 .f32) (a1 : FVec Ideal S1x1024 .f32) (a2 : FVec Ideal S1x1024x9160 .f32) :
    idxQueries (attnOut a0 a1 a2) = Cert.ProjRefSampleIdeal.r6 a0 a1 a2 := by
  funext y
  idx_vars y
  refine Eq.trans ?_ (Cert.ProjRefSampleIdeal.r6_at a0 a1 a2 y0 y1 y2).symm
  unfold idxQueries
  pointwise
  exact attn_at a0 a1 a2 y0 y1 _ rfl _ _ fun k => attnWeight_at a2 k _ _ (.inr (.inl ⟨by dsimp only; omega, by dsimp only; omega, by dsimp only; omega⟩))

/-- Result 7 is the reference's. -/
theorem final_idxWeights (a0 : FVec Ideal S128x4x1024 .f32) (a1 : FVec Ideal S1x1024 .f32) (a2 : FVec Ideal S1x1024x9160 .f32) :
    idxWeights (attnOut a0 a1 a2) = Cert.ProjRefSampleIdeal.r7 a0 a1 a2 := by
  funext y
  idx_vars y
  refine Eq.trans ?_ (Cert.ProjRefSampleIdeal.r7_at a0 a1 a2 y0 y1 y2).symm
  unfold idxWeights
  pointwise
  exact attn_at a0 a1 a2 y0 y1 _ rfl _ _ fun k => attnWeight_at a2 k _ _ (.inr (.inr (.inr (.inl ⟨by dsimp only; omega, by dsimp only; omega, by dsimp only; omega⟩))))

/-- Result 8 is the reference's. -/
theorem final_gates (a0 : FVec Ideal S128x4x1024 .f32) (a1 : FVec Ideal S1x1024 .f32) (a2 : FVec Ideal S1x1024x9160 .f32) :
    gates (attnOut a0 a1 a2) = Cert.ProjRefSampleIdeal.r8 a0 a1 a2 := by
  funext y
  idx_vars y
  refine Eq.trans ?_ (Cert.ProjRefSampleIdeal.r8_at a0 a1 a2 y0 y1 y2).symm
  unfold gates
  pointwise
  exact attn_at a0 a1 a2 y0 y1 _ rfl _ _ fun k => attnWeight_at a2 k _ _ (.inr (.inr (.inr (.inr ⟨Nat.le_add_right _ _, by dsimp only; omega⟩))))

end Cert.ProjSampleIdeal.Value

end
-- ==== Proof.AlgProjSample.lean ====
/-
   The in-projection of the sampled tokens: the kernel and the reference leave the same arrays.
-/
module

public import proofs.«01_k».proof.Defs
public import proofs.«01_k».proof.Proof.ProjSampleRun
public import proofs.«01_k».proof.Proof.ProjSampleResults
public import proofs.«01_k».proof.Proof.ProjSampleRec
public import proofs.«01_k».proof.Proof.ProjSampleValue

@[expose] public section

set_option maxRecDepth 16384

noncomputable section

namespace Cert.ProjSampleIdeal.Value

open Cert.ProjSampleIdeal Cert.ProjSampleIdeal.Gen Idealize.ShloMosaic Idealize.ShloMosaic.TcCoe Idealize.SL.Sem

/-- The kernel's results are the reference's, in exact arithmetic. -/
theorem algebraic : Cert.algebraic_ProjSampleIdeal_ProjRefSampleIdeal := by
  pair_intro
  · exact run_end m g
  · refine (θ_run _ _ _).mono (fun r h c => ?_) (Cert.ProjRefSampleIdeal.Value.run m' g')
    obtain ⟨h0, h1, h2, h3, h4, h5, h6, h7, h8, hargs⟩ := h c
    obtain ⟨a0, a1, a2, a3, a4⟩ := hagree c
    rw [W7_keys, W7_values, W7_idx, W7_last, W7_rec, W7_queries, W7_idxQueries, W7_idxWeights, W7_gates]
    refine ⟨h0.trans ?_, h1.trans ?_, h2.trans ?_, h3.trans ?_, h4.trans ?_, h5.trans ?_, h6.trans ?_, h7.trans ?_, h8.trans ?_, hargs⟩
    · rw [a0, a1, a2, a4]
      exact (final_keys (A0 m c) (A1 m c) (A2 m c) (A4 m c)).symm
    · rw [a0, a1, a2]
      exact (final_values (A0 m c) (A1 m c) (A2 m c)).symm
    · rw [a0, a1, a2]
      exact (final_idx (A0 m c) (A1 m c) (A2 m c)).symm
    · rw [a0, a1, a2]
      exact (final_last (A0 m c) (A1 m c) (A2 m c)).symm
    · rw [a0, a1, a2]
      exact (final_rec (A0 m c) (A1 m c) (A2 m c)).symm
    · rw [a0, a1, a2]
      exact (final_queries (A0 m c) (A1 m c) (A2 m c)).symm
    · rw [a0, a1, a2]
      exact (final_idxQueries (A0 m c) (A1 m c) (A2 m c)).symm
    · rw [a0, a1, a2]
      exact (final_idxWeights (A0 m c) (A1 m c) (A2 m c)).symm
    · rw [a0, a1, a2]
      exact (final_gates (A0 m c) (A1 m c) (A2 m c)).symm

end Cert.ProjSampleIdeal.Value

end
-- ==== Proof.lean ====
/-
   The certificate: the index scores of the sampled tokens, the in-projection of the prompt and of the sampled tokens, the merges of the two branches. Of each: the kernel, its idealization and the reference
   run and leave their arguments unchanged and every counter at zero; the idealization changes no rounding; and in exact
   arithmetic the kernel and the reference leave the same results.
-/
module

public import proofs.«01_k».proof.Defs
public import proofs.«01_k».proof.Proof.Table
public import proofs.«01_k».proof.Proof.AlgScores
public import proofs.«01_k».proof.Proof.AlgMerge
public import proofs.«01_k».proof.Proof.AlgProjPrompt
public import proofs.«01_k».proof.Proof.AlgProjSample
public import proofs.«01_k».proof.Proof.Gen.Pre_scores_table_in_range
public import proofs.«01_k».proof.Proof.Gen.Scores.Frame
public import proofs.«01_k».proof.Proof.Gen.ScoresIdeal.Frame
public import proofs.«01_k».proof.Proof.Gen.ScoresRefIdeal.Run
public import proofs.«01_k».proof.Proof.Gen.ProjPrompt.Frame
public import proofs.«01_k».proof.Proof.Gen.ProjPromptIdeal.Frame
public import proofs.«01_k».proof.Proof.Gen.ProjRefPromptIdeal.Run
public import proofs.«01_k».proof.Proof.Gen.ProjSample.Frame
public import proofs.«01_k».proof.Proof.Gen.ProjSampleIdeal.Frame
public import proofs.«01_k».proof.Proof.Gen.ProjRefSampleIdeal.Run
public import proofs.«01_k».proof.Proof.Gen.MergePrompt.Frame
public import proofs.«01_k».proof.Proof.Gen.MergePromptIdeal.Frame
public import proofs.«01_k».proof.Proof.Gen.MergeRefPromptIdeal.Run
public import proofs.«01_k».proof.Proof.Gen.MergeSample.Frame
public import proofs.«01_k».proof.Proof.Gen.MergeSampleIdeal.Frame
public import proofs.«01_k».proof.Proof.Gen.MergeRefSampleIdeal.Run
public import proofs.«01_k».proof.Proof.Gen.MergePromptIdeal.Value
public import proofs.«01_k».proof.Proof.Gen.MergeSampleIdeal.Value
public import Idealize.ShloMosaic.Adequacy
public import Idealize.ShloMosaic.Init
public import Idealize.ShloMosaic.Lib.Claim

@[expose] public section

noncomputable section

namespace Cert.Proof

open Idealize.ShloMosaic Idealize.SL.Sem

/-- `Scores` runs and leaves its arguments unchanged wherever the page table names pages of the cache. -/
theorem frame_Scores : Cert.quiescent_Scores := fun m ρ h => Cert.Scores.Gen.frame m ρ (Cert.Scores.ok_of_pre m h)

/-- `ScoresIdeal` runs and leaves its arguments unchanged wherever the page table names pages of the cache. -/
theorem frame_ScoresIdeal : Cert.quiescent_ScoresIdeal := fun m ρ h => Cert.ScoresIdeal.Gen.frame m ρ (Cert.ScoresIdeal.ok_of_pre m h)

/-- `ScoresRefIdeal` runs and leaves its arguments unchanged. -/
theorem frame_ScoresRefIdeal : Cert.quiescent_ScoresRefIdeal := fun m ρ _ =>
  (θ_run Cert.ScoresRefIdeal.defs _ _).mono (fun r h => ⟨fun c => (h c).2, sem_eq_zero_of_no_sems (by decide) r.2⟩)
    (Cert.ScoresRefIdeal.Value.run m ρ)

/-- `ProjPrompt` runs and leaves its arguments unchanged. -/
theorem frame_ProjPrompt : Cert.quiescent_ProjPrompt := fun m ρ _ => Cert.ProjPrompt.Gen.frame m ρ

/-- `ProjPromptIdeal` runs and leaves its arguments unchanged. -/
theorem frame_ProjPromptIdeal : Cert.quiescent_ProjPromptIdeal := fun m ρ _ => Cert.ProjPromptIdeal.Gen.frame m ρ

/-- `ProjRefPromptIdeal` runs and leaves its arguments unchanged. -/
theorem frame_ProjRefPromptIdeal : Cert.quiescent_ProjRefPromptIdeal := fun m ρ _ =>
  (θ_run Cert.ProjRefPromptIdeal.defs _ _).mono (fun r h => ⟨fun c => (h c).2.2.2.2.2.2.2.2.2, sem_eq_zero_of_no_sems (by decide) r.2⟩)
    (Cert.ProjRefPromptIdeal.Value.run m ρ)

/-- `ProjSample` runs and leaves its arguments unchanged. -/
theorem frame_ProjSample : Cert.quiescent_ProjSample := fun m ρ _ => Cert.ProjSample.Gen.frame m ρ

/-- `ProjSampleIdeal` runs and leaves its arguments unchanged. -/
theorem frame_ProjSampleIdeal : Cert.quiescent_ProjSampleIdeal := fun m ρ _ => Cert.ProjSampleIdeal.Gen.frame m ρ

/-- `ProjRefSampleIdeal` runs and leaves its arguments unchanged. -/
theorem frame_ProjRefSampleIdeal : Cert.quiescent_ProjRefSampleIdeal := fun m ρ _ =>
  (θ_run Cert.ProjRefSampleIdeal.defs _ _).mono (fun r h => ⟨fun c => (h c).2.2.2.2.2.2.2.2.2, sem_eq_zero_of_no_sems (by decide) r.2⟩)
    (Cert.ProjRefSampleIdeal.Value.run m ρ)

/-- `MergePrompt` runs and leaves its arguments unchanged. -/
theorem frame_MergePrompt : Cert.quiescent_MergePrompt := fun m ρ _ => Cert.MergePrompt.Gen.frame m ρ

/-- `MergePromptIdeal` runs and leaves its arguments unchanged. -/
theorem frame_MergePromptIdeal : Cert.quiescent_MergePromptIdeal := fun m ρ _ => Cert.MergePromptIdeal.Gen.frame m ρ

/-- `MergeRefPromptIdeal` runs and leaves its arguments unchanged. -/
theorem frame_MergeRefPromptIdeal : Cert.quiescent_MergeRefPromptIdeal := fun m ρ _ =>
  (θ_run Cert.MergeRefPromptIdeal.defs _ _).mono (fun r h => ⟨fun c => (h c).2, sem_eq_zero_of_no_sems (by decide) r.2⟩)
    (Cert.MergeRefPromptIdeal.Value.run m ρ)

/-- `MergeSample` runs and leaves its arguments unchanged. -/
theorem frame_MergeSample : Cert.quiescent_MergeSample := fun m ρ _ => Cert.MergeSample.Gen.frame m ρ

/-- `MergeSampleIdeal` runs and leaves its arguments unchanged. -/
theorem frame_MergeSampleIdeal : Cert.quiescent_MergeSampleIdeal := fun m ρ _ => Cert.MergeSampleIdeal.Gen.frame m ρ

/-- `MergeRefSampleIdeal` runs and leaves its arguments unchanged. -/
theorem frame_MergeRefSampleIdeal : Cert.quiescent_MergeRefSampleIdeal := fun m ρ _ =>
  (θ_run Cert.MergeRefSampleIdeal.defs _ _).mono (fun r h => ⟨fun c => (h c).2, sem_eq_zero_of_no_sems (by decide) r.2⟩)
    (Cert.MergeRefSampleIdeal.Value.run m ρ)

/-- Everything the certificate claims. -/
theorem claim : Cert.Claim :=
  ⟨Cert.Scores.Gen.facts, Cert.ScoresIdeal.Gen.facts, Cert.ScoresRefIdeal.Gen.facts, Cert.ProjPrompt.Gen.facts, Cert.ProjPromptIdeal.Gen.facts, Cert.ProjRefPromptIdeal.Gen.facts, Cert.ProjSample.Gen.facts, Cert.ProjSampleIdeal.Gen.facts, Cert.ProjRefSampleIdeal.Gen.facts, Cert.MergePrompt.Gen.facts, Cert.MergePromptIdeal.Gen.facts, Cert.MergeRefPromptIdeal.Gen.facts, Cert.MergeSample.Gen.facts, Cert.MergeSampleIdeal.Gen.facts, Cert.MergeRefSampleIdeal.Gen.facts, Cert.Pre_scores_table_in_range.Gen.facts,
    frame_Scores, frame_ScoresIdeal, frame_ScoresRefIdeal, frame_ProjPrompt, frame_ProjPromptIdeal, frame_ProjRefPromptIdeal, frame_ProjSample, frame_ProjSampleIdeal, frame_ProjRefSampleIdeal, frame_MergePrompt, frame_MergePromptIdeal, frame_MergeRefPromptIdeal, frame_MergeSample, frame_MergeSampleIdeal, frame_MergeRefSampleIdeal,
    trivial, Cert.ScoresIdeal.Value.algebraic,
    trivial, Cert.ProjPromptIdeal.Value.algebraic,
    trivial, Cert.ProjSampleIdeal.Value.algebraic,
    trivial, Cert.MergePromptIdeal.Value.algebraic,
    trivial, Cert.MergeSampleIdeal.Value.algebraic⟩

end Cert.Proof

end
